-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v50)) (v1 : (c : Dev Cert.Kernel2Ideal.nD) → Buf (Elt Ideal) ((c.tc : Thread Cert.Kernel2Ideal.nD Cert.Kernel2Ideal.τ).loc Cert.Kernel2Ideal.main_v53)) (v2 : (c : Dev Cert.Kernel2Ideal.nD) → Buf (Elt Ideal) ((c.tc : Thread Cert.Kernel2Ideal.nD Cert.Kernel2Ideal.τ).loc Cert.Kernel2Ideal.main_v47_0)) (v3 : (c : Dev Cert.Kernel2Ideal.nD) → Buf (Elt Ideal) ((c.tc : Thread Cert.Kernel2Ideal.nD Cert.Kernel2Ideal.τ).loc Cert.Kernel2Ideal.main_v47_1)) (v4 : (c : Dev Cert.Kernel2Ideal.nD) → Buf (Elt Ideal) ((c.tc : Thread Cert.Kernel2Ideal.nD Cert.Kernel2Ideal.τ).loc Cert.Kernel2Ideal.main_v47_2)) (v5 : (c : Dev Cert.Kernel2Ideal.nD) → Buf (Elt Ideal) ((c.tc : Thread Cert.Kernel2Ideal.nD Cert.Kernel2Ideal.τ).loc Cert.Kernel2Ideal.main_v47_5)) (v6 : (c : Dev Cert.Kernel2Ideal.nD) → Buf (Elt Ideal) ((c.tc : Thread Cert.Kernel2Ideal.nD Cert.Kernel2Ideal.τ).loc Cert.Kernel2Ideal.main_v47_6)) (v7 : (c : Dev Cert.Kernel2Ideal.nD) → Buf (Elt Ideal) ((c.tc : Thread Cert.Kernel2Ideal.nD Cert.Kernel2Ideal.τ).loc Cert.Kernel2Ideal.main_v47_7)) (v8 : (c : Dev Cert.Kernel2Ideal.nD) → Buf (Elt Ideal) ((c.tc : Thread Cert.Kernel2Ideal.nD Cert.Kernel2Ideal.τ).loc Cert.Kernel2Ideal.main_v47_8)) (v9 : (c : Dev Cert.Kernel2Ideal.nD) → Buf (Elt Ideal) ((c.tc : Thread Cert.Kernel2Ideal.nD Cert.Kernel2Ideal.τ).loc Cert.Kernel2Ideal.main_v47_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v50) = v0 c
          ∧ r.2.mem ((c.tc : Thread Cert.Kernel2Ideal.nD Cert.Kernel2Ideal.τ).loc Cert.Kernel2Ideal.main_v53) = v1 c
          ∧ r.2.mem ((c.tc : Thread Cert.Kernel2Ideal.nD Cert.Kernel2Ideal.τ).loc Cert.Kernel2Ideal.main_v47_0) = v2 c
          ∧ r.2.mem ((c.tc : Thread Cert.Kernel2Ideal.nD Cert.Kernel2Ideal.τ).loc Cert.Kernel2Ideal.main_v47_1) = v3 c
          ∧ r.2.mem ((c.tc : Thread Cert.Kernel2Ideal.nD Cert.Kernel2Ideal.τ).loc Cert.Kernel2Ideal.main_v47_2) = v4 c
          ∧ r.2.mem ((c.tc : Thread Cert.Kernel2Ideal.nD Cert.Kernel2Ideal.τ).loc Cert.Kernel2Ideal.main_v47_5) = v5 c
          ∧ r.2.mem ((c.tc : Thread Cert.Kernel2Ideal.nD Cert.Kernel2Ideal.τ).loc Cert.Kernel2Ideal.main_v47_6) = v6 c
          ∧ r.2.mem ((c.tc : Thread Cert.Kernel2Ideal.nD Cert.Kernel2Ideal.τ).loc Cert.Kernel2Ideal.main_v47_7) = v7 c
          ∧ r.2.mem ((c.tc : Thread Cert.Kernel2Ideal.nD Cert.Kernel2Ideal.τ).loc Cert.Kernel2Ideal.main_v47_8) = v8 c
          ∧ r.2.mem ((c.tc : Thread Cert.Kernel2Ideal.nD Cert.Kernel2Ideal.τ).loc Cert.Kernel2Ideal.main_v47_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_v101) = v1 c
          ∧ r.2.mem ((c.tc : Thread Cert.Reference2Ideal.nD Cert.Reference2Ideal.τ).loc Cert.Reference2Ideal.main_v105) = v2 c
          ∧ r.2.mem ((c.tc : Thread Cert.Reference2Ideal.nD Cert.Reference2Ideal.τ).loc Cert.Reference2Ideal.main_v107) = v3 c
          ∧ r.2.mem ((c.tc : Thread Cert.Reference2Ideal.nD Cert.Reference2Ideal.τ).loc Cert.Reference2Ideal.main_v109) = v4 c
          ∧ r.2.mem ((c.tc : Thread Cert.Reference2Ideal.nD Cert.Reference2Ideal.τ).loc Cert.Reference2Ideal.main_v110) = v5 c
          ∧ r.2.mem ((c.tc : Thread Cert.Reference2Ideal.nD Cert.Reference2Ideal.τ).loc Cert.Reference2Ideal.main_v111) = v6 c
          ∧ r.2.mem ((c.tc : Thread Cert.Reference2Ideal.nD Cert.Reference2Ideal.τ).loc Cert.Reference2Ideal.main_v99) = v7 c
          ∧ r.2.mem ((c.tc : Thread Cert.Reference2Ideal.nD Cert.Reference2Ideal.τ).loc Cert.Reference2Ideal.main_v112) = v8 c
          ∧ r.2.mem ((c.tc : Thread Cert.Reference2Ideal.nD Cert.Reference2Ideal.τ).loc Cert.Reference2Ideal.main_v113) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x16x64 : Shape := ⟨4, ![8, 2048, 16, 64]⟩
abbrev S1024 : Shape := ⟨1, ![1024]⟩
abbrev S_ : Shape := ⟨0, ![]⟩

class Facts : Prop where
  bcast_S_S8x2048x16x64 : S_.BroadcastsInDim S8x2048x16x64 (![] : Fin 0 → Fin S8x2048x16x64.rank)
  reducesTo_S8x2048x16x64_S_d0_1_2_3 : S8x2048x16x64.ReducesTo [0, 1, 2, 3] S_
  h_S_ : 0 < S_.numel

variable [Facts]

def fn {F : FTy → Type} [FloatOps F] (main_arg0 : FVec F S8x2048x16x64 .f32) (main_arg1 : FVec F S8x2048x16x64 .f32) (main_arg2 : FVec F S8x2048x16x64 .f32) (main_arg3 : FVec F S1024 .f32) : IVec S_ 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_c : IVec S_ 1 := constantI S_ 1 1#1
  let main_v3 : IVec S_ 1 := (fun x v => Host.reduce IntOp.andi x v reducesTo_S8x2048x16x64_S_d0_1_2_3 h_S_) main_v2 main_c
  let main_v4 : FVec F S8x2048x16x64 .f32 := Host.absf main_arg1
  let main_cst_0 : FVec F S_ .f32 := constant S_ .f32 0x7F800000#32
  let main_v5 : FVec F S8x2048x16x64 .f32 := broadcastInDim S8x2048x16x64 ![] bcast_S_S8x2048x16x64 main_cst_0
  let main_v6 : IVec S8x2048x16x64 1 := cmpf .olt main_v4 main_v5
  let main_c_1 : IVec S_ 1 := constantI S_ 1 1#1
  let main_v7 : IVec S_ 1 := (fun x v => Host.reduce IntOp.andi x v reducesTo_S8x2048x16x64_S_d0_1_2_3 h_S_) main_v6 main_c_1
  let main_v8 : IVec S_ 1 := andi main_v3 main_v7
  main_v8
-- ==== Kernel.lean ====
abbrev S8x2048x16x64 : Shape := ⟨4, ![8, 2048, 16, 64]⟩
abbrev S1024 : Shape := ⟨1, ![1024]⟩
abbrev S16384x1024 : Shape := ⟨2, ![16384, 1024]⟩
abbrev S_ : Shape := ⟨0, ![]⟩
abbrev S8x8x256x1024 : Shape := ⟨4, ![8, 8, 256, 1024]⟩
abbrev S8x8x1024 : Shape := ⟨3, ![8, 8, 1024]⟩
abbrev S1x1024 : Shape := ⟨2, ![1, 1024]⟩
abbrev S128x1024 : Shape := ⟨2, ![128, 1024]⟩
abbrev S2048x1024 : Shape := ⟨2, ![2048, 1024]⟩
abbrev S1x8x1024 : Shape := ⟨3, ![1, 8, 1024]⟩
abbrev S8x256x256 : Shape := ⟨3, ![8, 256, 256]⟩
abbrev S8x256x128 : Shape := ⟨3, ![8, 256, 128]⟩
abbrev S8x1024 : Shape := ⟨2, ![8, 1024]⟩
abbrev S128x128 : Shape := ⟨2, ![128, 128]⟩
abbrev S256x256 : Shape := ⟨2, ![256, 256]⟩
abbrev S256x128 : Shape := ⟨2, ![256, 128]⟩
abbrev S128x256 : Shape := ⟨2, ![128, 256]⟩
abbrev S1x256x256 : Shape := ⟨3, ![1, 256, 256]⟩
abbrev S256 : Shape := ⟨1, ![256]⟩
abbrev S256x1 : Shape := ⟨2, ![256, 1]⟩
abbrev S1x256x128 : Shape := ⟨3, ![1, 256, 128]⟩
abbrev S128 : Shape := ⟨1, ![128]⟩
abbrev S128x1 : Shape := ⟨2, ![128, 1]⟩

abbrev nBuf : Space → Nat
  | .hbm => 21
  | .vmem => 16
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S8x8x256x1024, .f32⟩
  | .hbm, ⟨14, _⟩ => ⟨S_, .f32⟩
  | .hbm, ⟨15, _⟩ => ⟨S8x8x1024, .f32⟩
  | .hbm, ⟨16, _⟩ => ⟨S_, .f32⟩
  | .hbm, ⟨17, _⟩ => ⟨S8x8x1024, .f32⟩
  | .hbm, ⟨18, _⟩ => ⟨S8x8x1024, .f32⟩
  | .hbm, ⟨19, _⟩ => ⟨S1x1024, .f32⟩
  | .hbm, ⟨20, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S128x1024, .bf16⟩
  | .local _ .vmem, ⟨10, _⟩ => ⟨S128x1024, .bf16⟩
  | .local _ .vmem, ⟨11, _⟩ => ⟨S8x256x256, .bf16⟩
  | .local _ .vmem, ⟨12, _⟩ => ⟨S8x256x128, .f32⟩
  | .local _ .vmem, ⟨13, _⟩ => ⟨S8x256x128, .f32⟩
  | .local _ .vmem, ⟨14, _⟩ => ⟨S8x256x128, .f32⟩
  | .local _ .vmem, ⟨15, _⟩ => ⟨S128x1024, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  v261
def k0_off1 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v282 : Index := Scalar.indexCast v262
  let c0_96 : Index := 0#32
  ![v282.toNat, 0]
def k0_off2 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v332 : Index := Scalar.indexCast v262
  let c128 : Index := 128#32
  ![v332.toNat, 128]
def k0_off3 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v382 : Index := Scalar.indexCast v262
  let c256 : Index := 256#32
  ![v382.toNat, 256]
def k0_off4 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v432 : Index := Scalar.indexCast v262
  let c384 : Index := 384#32
  ![v432.toNat, 384]
def k0_off5 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v482 : Index := Scalar.indexCast v262
  let c512 : Index := 512#32
  ![v482.toNat, 512]
def k0_off6 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v532 : Index := Scalar.indexCast v262
  let c640 : Index := 640#32
  ![v532.toNat, 640]
def k0_off7 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v582 : Index := Scalar.indexCast v262
  let c768 : Index := 768#32
  ![v582.toNat, 768]
def k0_off8 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c256_i32 : BitVec 32 := 256#32
  let v261 : BitVec 32 := Scalar.muli v16 c256_i32
  let v262 : BitVec 32 := v261
  let v632 : Index := Scalar.indexCast v262
  let c896 : Index := 896#32
  ![v632.toNat, 896]
@[reducible] def k0_t1_loop (i : grid0.Coords) : Scf.Loop 32 :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_256 : BitVec 32 := 1#32
  ⟨c0_i32_254, v667, c1_i32_256⟩
def k0_mult2 (i : grid0.Coords) (k0_t1 : Fin (k0_t1_loop i).trips) : BitVec 32 :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  v789
def k0_off9 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v797 : Index := Scalar.indexCast v790
  let c0_342 : Index := 0#32
  ![v797.toNat, 0]
def k0_off10 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v840 : Index := Scalar.indexCast v790
  let c128_368 : Index := 128#32
  ![v840.toNat, 128]
def k0_off11 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v883 : Index := Scalar.indexCast v790
  let c256_394 : Index := 256#32
  ![v883.toNat, 256]
def k0_off12 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v926 : Index := Scalar.indexCast v790
  let c384_420 : Index := 384#32
  ![v926.toNat, 384]
def k0_off13 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v969 : Index := Scalar.indexCast v790
  let c512_446 : Index := 512#32
  ![v969.toNat, 512]
def k0_off14 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v1012 : Index := Scalar.indexCast v790
  let c640_472 : Index := 640#32
  ![v1012.toNat, 640]
def k0_off15 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v1055 : Index := Scalar.indexCast v790
  let c768_498 : Index := 768#32
  ![v1055.toNat, 768]
def k0_off16 (i : grid0.Coords) (k0_t1 : Fin (k0_t1_loop i).trips) : Fin 2 → Nat :=
  let c0_i32_254 : BitVec 32 := 0#32
  let c1_i32_256 : BitVec 32 := 1#32
  let arg13 : BitVec 32 := Scf.iv c0_i32_254 c1_i32_256 k0_t1
  let c256_i32_339 : BitVec 32 := 256#32
  let v789 : BitVec 32 := Scalar.muli arg13 c256_i32_339
  let v790 : BitVec 32 := v789
  let v1098 : Index := Scalar.indexCast v790
  let c896_524 : Index := 896#32
  ![v1098.toNat, 896]
@[reducible] def k0_t2_loop (i : grid0.Coords) : Scf.Loop 32 :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let v664 : BitVec 32 := Scalar.addi c0_i32_254 v663
  let c1_i32_257 : BitVec 32 := 1#32
  ⟨v667, v664, c1_i32_257⟩
def k0_mult3 (i : grid0.Coords) (k0_t2 : Fin (k0_t2_loop i).trips) : BitVec 32 :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  v789
def k0_off17 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v797 : Index := Scalar.indexCast v790
  let c0_342 : Index := 0#32
  ![v797.toNat, 0]
def k0_off18 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v840 : Index := Scalar.indexCast v790
  let c128_368 : Index := 128#32
  ![v840.toNat, 128]
def k0_off19 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v883 : Index := Scalar.indexCast v790
  let c256_394 : Index := 256#32
  ![v883.toNat, 256]
def k0_off20 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v926 : Index := Scalar.indexCast v790
  let c384_420 : Index := 384#32
  ![v926.toNat, 384]
def k0_off21 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v969 : Index := Scalar.indexCast v790
  let c512_446 : Index := 512#32
  ![v969.toNat, 512]
def k0_off22 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v1012 : Index := Scalar.indexCast v790
  let c640_472 : Index := 640#32
  ![v1012.toNat, 640]
def k0_off23 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v1055 : Index := Scalar.indexCast v790
  let c768_498 : Index := 768#32
  ![v1055.toNat, 768]
def k0_off24 (i : grid0.Coords) (k0_t2 : Fin (k0_t2_loop i).trips) : Fin 2 → Nat :=
  let c0_i32_254 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v663 : BitVec 32 := Scalar.subi v16 c0_i32_254
  let c1_i32_255 : BitVec 32 := 1#32
  let v665 : BitVec 32 := Scalar.divsi v663 c1_i32_255
  let v666 : BitVec 32 := Scalar.muli v665 c1_i32_255
  let v667 : BitVec 32 := Scalar.addi c0_i32_254 v666
  let c1_i32_257 : BitVec 32 := 1#32
  let arg13 : BitVec 32 := Scf.iv v667 c1_i32_257 k0_t2
  let c256_i32_339 : BitVec 32 := 256#32
  let v789 : BitVec 32 := Scalar.muli arg13 c256_i32_339
  let v790 : BitVec 32 := v789
  let v1098 : Index := Scalar.indexCast v790
  let c896_524 : Index := 896#32
  ![v1098.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x16x64 : Shape := ⟨4, ![8, 2048, 16, 64]⟩
abbrev S1024 : Shape := ⟨1, ![1024]⟩
abbrev S8x8x256x16x64 : Shape := ⟨5, ![8, 8, 256, 16, 64]⟩
abbrev S_ : Shape := ⟨0, ![]⟩
abbrev S8x8x16x64 : Shape := ⟨4, ![8, 8, 16, 64]⟩
abbrev S2048 : Shape := ⟨1, ![2048]⟩
abbrev S8x16x2048x8 : Shape := ⟨4, ![8, 16, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x16x2048x3 : Shape := ⟨4, ![8, 16, 2048, 3]⟩
abbrev S1x1x2048x1 : Shape := ⟨4, ![1, 1, 2048, 1]⟩
abbrev S8x16x2048x3x1 : Shape := ⟨5, ![8, 16, 2048, 3, 1]⟩
abbrev S1x1x1x1x8 : Shape := ⟨5, ![1, 1, 1, 1, 8]⟩
abbrev S8x16x2048x3x8 : Shape := ⟨5, ![8, 16, 2048, 3, 8]⟩
abbrev S1x2048 : Shape := ⟨2, ![1, 2048]⟩
abbrev S2048x2048 : Shape := ⟨2, ![2048, 2048]⟩
abbrev S8x16x2048x8x256 : Shape := ⟨5, ![8, 16, 2048, 8, 256]⟩
abbrev S8x16x2048x2048 : Shape := ⟨4, ![8, 16, 2048, 2048]⟩
abbrev S1x1x2048x2048 : Shape := ⟨4, ![1, 1, 2048, 2048]⟩
abbrev S8x16x2048 : Shape := ⟨3, ![8, 16, 2048]⟩
abbrev S8x16x2048x1 : Shape := ⟨4, ![8, 16, 2048, 1]⟩
abbrev S8x16x64x2048 : Shape := ⟨4, ![8, 16, 64, 2048]⟩
abbrev S8x2048x1024 : Shape := ⟨3, ![8, 2048, 1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 136
  | .vmem => 0
  | .smem => 0
  | _ => 0

abbrev hbmTy0_0 (i : Nat) : BufTy := match i % 128 with
  | 0 => ⟨S8x2048x16x64, .f32⟩
  | 1 => ⟨S8x2048x16x64, .f32⟩
  | 2 => ⟨S8x2048x16x64, .f32⟩
  | 3 => ⟨S1024, .f32⟩
  | 4 => ⟨S8x8x256x16x64, .f32⟩
  | 5 => ⟨S_, .f32⟩
  | 6 => ⟨S8x8x16x64, .f32⟩
  | 7 => ⟨S_, .f32⟩
  | 8 => ⟨S8x8x16x64, .f32⟩
  | 9 => ⟨S8x8x16x64, .f32⟩
  | 10 => ⟨S2048, .i32⟩
  | 11 => ⟨S_, .i32⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S2048, .i32⟩
  | 20 => ⟨S2048, .i32⟩
  | 21 => ⟨S_, .i32⟩
  | 22 => ⟨S2048, .i32⟩
  | 23 => ⟨S2048, .i1⟩
  | 24 => ⟨S2048, .i1⟩
  | 25 => ⟨S_, .i32⟩
  | 26 => ⟨S2048, .i32⟩
  | 27 => ⟨S2048, .i32⟩
  | 28 => ⟨S2048, .i32⟩
  | 29 => ⟨S8x16x2048x8, .f32⟩
  | 30 => ⟨S8, .i32⟩
  | 31 => ⟨S1x8, .i32⟩
  | 32 => ⟨S2048x1, .i32⟩
  | 33 => ⟨S2048x8, .i32⟩
  | 34 => ⟨S2048x8, .i32⟩
  | 35 => ⟨S2048x8, .i1⟩
  | 36 => ⟨S_, .f32⟩
  | 37 => ⟨S_, .f32⟩
  | 38 => ⟨S8x16x2048x8, .i1⟩
  | 39 => ⟨S8x16x2048x8, .f32⟩
  | 40 => ⟨S8x16x2048x8, .f32⟩
  | 41 => ⟨S8x16x2048x3, .f32⟩
  | 42 => ⟨S8x16x2048x3, .i32⟩
  | 43 => ⟨S2048x1, .i32⟩
  | 44 => ⟨S1x1x2048x1, .i32⟩
  | 45 => ⟨S8x16x2048x3, .i32⟩
  | 46 => ⟨S8x16x2048x3, .i1⟩
  | 47 => ⟨S8, .i32⟩
  | 48 => ⟨S8x16x2048x3x1, .i32⟩
  | 49 => ⟨S1x1x1x1x8, .i32⟩
  | 50 => ⟨S8x16x2048x3x8, .i32⟩
  | 51 => ⟨S8x16x2048x3x8, .i32⟩
  | 52 => ⟨S8x16x2048x3x8, .i1⟩
  | 53 => ⟨S8x16x2048x3x1, .i1⟩
  | 54 => ⟨S8x16x2048x3x8, .i1⟩
  | 55 => ⟨S8x16x2048x3x8, .i1⟩
  | 56 => ⟨S_, .i1⟩
  | 57 => ⟨S8x16x2048x8, .i1⟩
  | 58 => ⟨S2048, .i32⟩
  | 59 => ⟨S1x2048, .i32⟩
  | 60 => ⟨S_, .i32⟩
  | 61 => ⟨S_, .i32⟩
  | 62 => ⟨S1x2048, .i32⟩
  | 63 => ⟨S1x2048, .i32⟩
  | 64 => ⟨S1x2048, .i32⟩
  | 65 => ⟨S_, .i32⟩
  | 66 => ⟨S1x2048, .i32⟩
  | 67 => ⟨S1x2048, .i1⟩
  | 68 => ⟨S1x2048, .i32⟩
  | 69 => ⟨S1x2048, .i32⟩
  | 70 => ⟨S_, .i32⟩
  | 71 => ⟨S1x2048, .i32⟩
  | 72 => ⟨S1x2048, .i1⟩
  | 73 => ⟨S1x2048, .i1⟩
  | 74 => ⟨S_, .i32⟩
  | 75 => ⟨S1x2048, .i32⟩
  | 76 => ⟨S1x2048, .i32⟩
  | 77 => ⟨S1x2048, .i32⟩
  | 78 => ⟨S2048x1, .i32⟩
  | 79 => ⟨S2048x2048, .i32⟩
  | 80 => ⟨S2048x2048, .i32⟩
  | 81 => ⟨S2048x2048, .i1⟩
  | 82 => ⟨S1x2048, .i32⟩
  | 83 => ⟨S2048x1, .i32⟩
  | 84 => ⟨S2048x2048, .i32⟩
  | 85 => ⟨S2048x2048, .i32⟩
  | 86 => ⟨S2048x2048, .i1⟩
  | 87 => ⟨S2048x2048, .i1⟩
  | 88 => ⟨S8x16x2048x8x256, .i1⟩
  | 89 => ⟨S8x16x2048x2048, .i1⟩
  | 90 => ⟨S1x1x2048x2048, .i1⟩
  | 91 => ⟨S8x16x2048x2048, .i1⟩
  | 92 => ⟨S8x16x2048x2048, .i1⟩
  | 93 => ⟨S8x16x2048x2048, .f32⟩
  | 94 => ⟨S_, .f32⟩
  | 95 => ⟨S8x16x2048x2048, .f32⟩
  | 96 => ⟨S8x16x2048x2048, .f32⟩
  | 97 => ⟨S_, .f32⟩
  | 98 => ⟨S_, .f32⟩
  | 99 => ⟨S8x16x2048x2048, .f32⟩
  | 100 => ⟨S8x16x2048x2048, .f32⟩
  | 101 => ⟨S_, .f32⟩
  | 102 => ⟨S8x16x2048, .f32⟩
  | 103 => ⟨S_, .f32⟩
  | 104 => ⟨S8x16x2048, .f32⟩
  | 105 => ⟨S8x16x2048, .f32⟩
  | 106 => ⟨S8x16x2048x1, .f32⟩
  | 107 => ⟨S8x16x2048x2048, .f32⟩
  | 108 => ⟨S8x16x2048x2048, .f32⟩
  | 109 => ⟨S8x16x2048x2048, .f32⟩
  | 110 => ⟨S_, .f32⟩
  | 111 => ⟨S8x16x2048, .f32⟩
  | 112 => ⟨S8x16x2048x1, .f32⟩
  | 113 => ⟨S8x16x2048x2048, .f32⟩
  | 114 => ⟨S8x16x2048x2048, .f32⟩
  | 115 => ⟨S8x16x64x2048, .f32⟩
  | 116 => ⟨S8x2048x16x64, .f32⟩
  | 117 => ⟨S8x2048x1024, .f32⟩
  | 118 => ⟨S8x2048x1024, .f32⟩
  | 119 => ⟨S_, .f32⟩
  | 120 => ⟨S8x2048, .f32⟩
  | 121 => ⟨S8x2048x1, .f32⟩
  | 122 => ⟨S_, .f32⟩
  | 123 => ⟨S8x2048x1, .f32⟩
  | 124 => ⟨S8x2048x1, .f32⟩
  | 125 => ⟨S_, .f32⟩
  | 126 => ⟨S8x2048x1, .f32⟩
  | 127 => ⟨S8x2048x1, .f32⟩
  | _ => ⟨S8x2048x16x64, .f32⟩

abbrev hbmTy0_1 (i : Nat) : BufTy := match i % 128 with
  | 0 => ⟨S8x2048x1, .f32⟩
  | 1 => ⟨S8x2048x1024, .f32⟩
  | 2 => ⟨S8x2048x1024, .f32⟩
  | 3 => ⟨S1x1x1024, .f32⟩
  | 4 => ⟨S8x2048x1024, .f32⟩
  | 5 => ⟨S8x2048x1024, .f32⟩
  | 6 => ⟨S16384x1024, .f32⟩
  | 7 => ⟨S16384x1024, .bf16⟩
  | _ => ⟨S8x2048x16x64, .f32⟩

abbrev hbmTy (i : Nat) : BufTy := match i / 128 with
  | 0 => hbmTy0_0 i
  | 1 => hbmTy0_1 i
  | _ => ⟨S8x2048x16x64, .f32⟩

abbrev bufTy : (tb : Table) → Fin (tcTables nBuf tb) → BufTy
  | .hbm, ⟨i, _⟩ => hbmTy i
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v13 : Ref sig .tc := ⟨.hbm, 40, rfl⟩
abbrev main_values : Ref sig .tc := ⟨.hbm, 41, rfl⟩
abbrev main_indices : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_2 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_3 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_4 : Ref sig .tc := ⟨.hbm, 94, rfl⟩
abbrev main_v47 : Ref sig .tc := ⟨.hbm, 95, rfl⟩
abbrev main_v48 : Ref sig .tc := ⟨.hbm, 96, rfl⟩
abbrev main_cst_5 : Ref sig .tc := ⟨.hbm, 97, rfl⟩
abbrev main_call3_v0 : Ref sig .tc := ⟨.hbm, 98, rfl⟩
abbrev main_call3_v1 : Ref sig .tc := ⟨.hbm, 99, rfl⟩
abbrev main_v49 : Ref sig .tc := ⟨.hbm, 100, rfl⟩
abbrev main_cst_6 : Ref sig .tc := ⟨.hbm, 101, rfl⟩
abbrev main_v50 : Ref sig .tc := ⟨.hbm, 102, rfl⟩
abbrev main_cst_7 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_8 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_9 : Ref sig .tc := ⟨.hbm, 119, rfl⟩
abbrev main_v65 : Ref sig .tc := ⟨.hbm, 120, rfl⟩
abbrev main_v66 : Ref sig .tc := ⟨.hbm, 121, rfl⟩
abbrev main_cst_10 : Ref sig .tc := ⟨.hbm, 122, rfl⟩
abbrev main_v67 : Ref sig .tc := ⟨.hbm, 123, rfl⟩
abbrev main_v68 : Ref sig .tc := ⟨.hbm, 124, rfl⟩
abbrev main_cst_11 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x5648 : Shape := ⟨3, ![1, 1024, 5648]⟩
abbrev S1024x5648 : Shape := ⟨2, ![1024, 5648]⟩
abbrev S1024x3072 : Shape := ⟨2, ![1024, 3072]⟩
abbrev S1024x1024 : Shape := ⟨2, ![1024, 1024]⟩
abbrev S1024x1536 : Shape := ⟨2, ![1024, 1536]⟩
abbrev S1024x16 : Shape := ⟨2, ![1024, 16]⟩
abbrev S16x1024 : Shape := ⟨2, ![16, 1024]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S1024 : Shape := ⟨1, ![1024]⟩
abbrev S8x1024x2048 : Shape := ⟨3, ![8, 1024, 2048]⟩
abbrev S16384x1536 : Shape := ⟨2, ![16384, 1536]⟩
abbrev S16384x16 : Shape := ⟨2, ![16384, 16]⟩
abbrev S16x16384 : Shape := ⟨2, ![16, 16384]⟩
abbrev S64x1x1024 : Shape := ⟨3, ![64, 1, 1024]⟩
abbrev S256x1024 : Shape := ⟨2, ![256, 1024]⟩
abbrev S256x128 : Shape := ⟨2, ![256, 128]⟩
abbrev S1x1024x256 : Shape := ⟨3, ![1, 1024, 256]⟩
abbrev S256x1536 : Shape := ⟨2, ![256, 1536]⟩
abbrev S256x16 : Shape := ⟨2, ![256, 16]⟩
abbrev S16x256 : Shape := ⟨2, ![16, 256]⟩
abbrev S1x1x1024 : Shape := ⟨3, ![1, 1, 1024]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩
abbrev S512x256 : Shape := ⟨2, ![512, 256]⟩
abbrev S1x512x256 : Shape := ⟨3, ![1, 512, 256]⟩
abbrev S512 : Shape := ⟨1, ![512]⟩
abbrev S1x512 : Shape := ⟨2, ![1, 512]⟩
abbrev S1x1x512 : Shape := ⟨3, ![1, 1, 512]⟩
abbrev S8x16x64x2048 : Shape := ⟨4, ![8, 16, 64, 2048]⟩
abbrev S8x2048x16x64 : Shape := ⟨4, ![8, 2048, 16, 64]⟩
abbrev S1x8x2048x16x64 : Shape := ⟨5, ![1, 8, 2048, 16, 64]⟩

abbrev nBuf : Space → Nat
  | .hbm => 71
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5648, .f32⟩
  | .hbm, ⟨3, _⟩ => ⟨S1024x5648, .f32⟩
  | .hbm, ⟨4, _⟩ => ⟨S1024x3072, .f32⟩
  | .hbm, ⟨5, _⟩ => ⟨S1024x3072, .bf16⟩
  | .hbm, ⟨6, _⟩ => ⟨S1024x1024, .f32⟩
  | .hbm, ⟨7, _⟩ => ⟨S1024x1024, .bf16⟩
  | .hbm, ⟨8, _⟩ => ⟨S1024x1536, .f32⟩
  | .hbm, ⟨9, _⟩ => ⟨S1024x1536, .bf16⟩
  | .hbm, ⟨10, _⟩ => ⟨S1024x16, .f32⟩
  | .hbm, ⟨11, _⟩ => ⟨S1024x16, .bf16⟩
  | .hbm, ⟨12, _⟩ => ⟨S1024x16, .f32⟩
  | .hbm, ⟨13, _⟩ => ⟨S16x1024, .f32⟩
  | .hbm, ⟨14, _⟩ => ⟨S16x1024, .bf16⟩
  | .hbm, ⟨15, _⟩ => ⟨S2048, .i32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S2048, .f32⟩
  | .hbm, ⟨25, _⟩ => ⟨S2048x1, .f32⟩
  | .hbm, ⟨26, _⟩ => ⟨S1x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S_, .f32⟩
  | .hbm, ⟨33, _⟩ => ⟨S2048x48, .f32⟩
  | .hbm, ⟨34, _⟩ => ⟨S_, .f32⟩
  | .hbm, ⟨35, _⟩ => ⟨S2048x8, .f32⟩
  | .hbm, ⟨36, _⟩ => ⟨S_, .f32⟩
  | .hbm, ⟨37, _⟩ => ⟨S2048x48, .f32⟩
  | .hbm, ⟨38, _⟩ => ⟨S2048x48, .f32⟩
  | .hbm, ⟨39, _⟩ => ⟨S2048x64, .f32⟩
  | .hbm, ⟨40, _⟩ => ⟨S2048x8, .f32⟩
  | .hbm, ⟨41, _⟩ => ⟨S2048x64, .f32⟩
  | .hbm, ⟨42, _⟩ => ⟨S2048x64, .f32⟩
  | .hbm, ⟨43, _⟩ => ⟨S1x2048x1x64, .f32⟩
  | .hbm, ⟨44, _⟩ => ⟨S1x2048x2x64, .f32⟩
  | .hbm, ⟨45, _⟩ => ⟨S2048x128, .f32⟩
  | .hbm, ⟨46, _⟩ => ⟨S1x2048x1x64, .f32⟩
  | .hbm, ⟨47, _⟩ => ⟨S1x2048x2x64, .f32⟩
  | .hbm, ⟨48, _⟩ => ⟨S2048x128, .f32⟩
  | .hbm, ⟨49, _⟩ => ⟨S1x2048x1x64, .f32⟩
  | .hbm, ⟨50, _⟩ => ⟨S1x2048x2x64, .f32⟩
  | .hbm, ⟨51, _⟩ => ⟨S2048x128, .f32⟩
  | .hbm, ⟨52, _⟩ => ⟨S16384x1024, .f32⟩
  | .hbm, ⟨53, _⟩ => ⟨S1024, .f32⟩
  | .hbm, ⟨54, _⟩ => ⟨S1x1024, .f32⟩
  | .hbm, ⟨55, _⟩ => ⟨S16384x1024, .bf16⟩
  | .hbm, ⟨56, _⟩ => ⟨S16384x1024, .bf16⟩
  | .hbm, ⟨57, _⟩ => ⟨S16384x1024, .bf16⟩
  | .hbm, ⟨58, _⟩ => ⟨S8x1024x2048, .f32⟩
  | .hbm, ⟨59, _⟩ => ⟨S8x1024x2048, .f32⟩
  | .hbm, ⟨60, _⟩ => ⟨S16384x1024, .f32⟩
  | .hbm, ⟨61, _⟩ => ⟨S16384x1536, .f32⟩
  | .hbm, ⟨62, _⟩ => ⟨S16384x16, .f32⟩
  | .hbm, ⟨63, _⟩ => ⟨S16x16384, .f32⟩
  | .hbm, ⟨64, _⟩ => ⟨S64x1x1024, .f32⟩
  | .hbm, ⟨65, _⟩ => ⟨S8x16x64x2048, .f32⟩
  | .hbm, ⟨66, _⟩ => ⟨S8x2048x16x64, .f32⟩
  | .hbm, ⟨67, _⟩ => ⟨S1x8x2048x16x64, .f32⟩
  | .hbm, ⟨68, _⟩ => ⟨S8x16x64x2048, .f32⟩
  | .hbm, ⟨69, _⟩ => ⟨S8x2048x16x64, .f32⟩
  | .hbm, ⟨70, _⟩ => ⟨S1x8x2048x16x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S1024x1536, .bf16⟩
  | .local _ .vmem, ⟨6, _⟩ => ⟨S1024x16, .bf16⟩
  | .local _ .vmem, ⟨7, _⟩ => ⟨S16x1024, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024x256, .f32⟩
  | .local _ .vmem, ⟨21, _⟩ => ⟨S1x1024x256, .f32⟩
  | .local _ .vmem, ⟨22, _⟩ => ⟨S1x1024x256, .f32⟩
  | .local _ .vmem, ⟨23, _⟩ => ⟨S1x1024x256, .f32⟩
  | .local _ .vmem, ⟨24, _⟩ => ⟨S256x1024, .f32⟩
  | .local _ .vmem, ⟨25, _⟩ => ⟨S256x1024, .f32⟩
  | .local _ .vmem, ⟨26, _⟩ => ⟨S256x1536, .f32⟩
  | .local _ .vmem, ⟨27, _⟩ => ⟨S256x1536, .f32⟩
  | .local _ .vmem, ⟨28, _⟩ => ⟨S256x16, .f32⟩
  | .local _ .vmem, ⟨29, _⟩ => ⟨S256x16, .f32⟩
  | .local _ .vmem, ⟨30, _⟩ => ⟨S16x256, .f32⟩
  | .local _ .vmem, ⟨31, _⟩ => ⟨S16x256, .f32⟩
  | .local _ .vmem, ⟨32, _⟩ => ⟨S1x1x1024, .f32⟩
  | .local _ .vmem, ⟨33, _⟩ => ⟨S1x1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47_0 : Ref sig .tc := ⟨.hbm, 55, rfl⟩
abbrev main_v47_1 : Ref sig .tc := ⟨.hbm, 56, rfl⟩
abbrev main_v47_2 : Ref sig .tc := ⟨.hbm, 57, rfl⟩
abbrev main_v47_3 : Ref sig .tc := ⟨.hbm, 58, rfl⟩
abbrev main_v47_4 : Ref sig .tc := ⟨.hbm, 59, rfl⟩
abbrev main_v47_5 : Ref sig .tc := ⟨.hbm, 60, rfl⟩
abbrev main_v47_6 : Ref sig .tc := ⟨.hbm, 61, rfl⟩
abbrev main_v47_7 : Ref sig .tc := ⟨.hbm, 62, rfl⟩
abbrev main_v47_8 : Ref sig .tc := ⟨.hbm, 63, rfl⟩
abbrev main_v47_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S8x2048x1024 : Shape := ⟨3, ![8, 2048, 1024]⟩
abbrev S1x1024 : Shape := ⟨2, ![1, 1024]⟩
abbrev S1x1024x5648 : Shape := ⟨3, ![1, 1024, 5648]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x5648 : Shape := ⟨2, ![1024, 5648]⟩
abbrev S8x2048x5648 : Shape := ⟨3, ![8, 2048, 5648]⟩
abbrev S8x2048x1536 : Shape := ⟨3, ![8, 2048, 1536]⟩
abbrev S8x2048x16 : Shape := ⟨3, ![8, 2048, 16]⟩
abbrev S8x2048x16x64 : Shape := ⟨4, ![8, 2048, 16, 64]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x16x8 : Shape := ⟨4, ![8, 2048, 16, 8]⟩
abbrev S1x2048x1x8 : Shape := ⟨4, ![1, 2048, 1, 8]⟩
abbrev S8x2048x16x48 : Shape := ⟨4, ![8, 2048, 16, 48]⟩
abbrev S64x256x1024 : Shape := ⟨3, ![64, 256, 1024]⟩
abbrev S64x1024 : Shape := ⟨2, ![64, 1024]⟩
abbrev S16384x16 : Shape := ⟨2, ![16384, 16]⟩
abbrev S1x8x2048x16x64 : Shape := ⟨5, ![1, 8, 2048, 16, 64]⟩
abbrev S16384x1024 : Shape := ⟨2, ![16384, 1024]⟩
abbrev S16384x1536 : Shape := ⟨2, ![16384, 1536]⟩
abbrev S16x16384 : Shape := ⟨2, ![16, 16384]⟩
abbrev S64x1x1024 : Shape := ⟨3, ![64, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5648, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x5648, .f32⟩
  | .hbm, ⟨21, _⟩ => ⟨S8x2048x5648, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1536, .f32⟩
  | .hbm, ⟨27, _⟩ => ⟨S8x2048x16, .f32⟩
  | .hbm, ⟨28, _⟩ => ⟨S8x2048x16x64, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S2048, .i32⟩
  | .hbm, ⟨38, _⟩ => ⟨S2048, .f32⟩
  | .hbm, ⟨39, _⟩ => ⟨S2048x1, .f32⟩
  | .hbm, ⟨40, _⟩ => ⟨S1x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S2048x8, .f32⟩
  | .hbm, ⟨45, _⟩ => ⟨S2048x1x8, .f32⟩
  | .hbm, ⟨46, _⟩ => ⟨S2048x8, .f32⟩
  | .hbm, ⟨47, _⟩ => ⟨S2048x1x8, .f32⟩
  | .hbm, ⟨48, _⟩ => ⟨S8x2048x16x8, .f32⟩
  | .hbm, ⟨49, _⟩ => ⟨S8x2048x16x8, .f32⟩
  | .hbm, ⟨50, _⟩ => ⟨S1x2048x1x8, .f32⟩
  | .hbm, ⟨51, _⟩ => ⟨S8x2048x16x8, .f32⟩
  | .hbm, ⟨52, _⟩ => ⟨S8x2048x16x8, .f32⟩
  | .hbm, ⟨53, _⟩ => ⟨S1x2048x1x8, .f32⟩
  | .hbm, ⟨54, _⟩ => ⟨S8x2048x16x8, .f32⟩
  | .hbm, ⟨55, _⟩ => ⟨S8x2048x16x8, .f32⟩
  | .hbm, ⟨56, _⟩ => ⟨S8x2048x16x8, .f32⟩
  | .hbm, ⟨57, _⟩ => ⟨S1x2048x1x8, .f32⟩
  | .hbm, ⟨58, _⟩ => ⟨S8x2048x16x8, .f32⟩
  | .hbm, ⟨59, _⟩ => ⟨S8x2048x16x8, .f32⟩
  | .hbm, ⟨60, _⟩ => ⟨S1x2048x1x8, .f32⟩
  | .hbm, ⟨61, _⟩ => ⟨S8x2048x16x8, .f32⟩
  | .hbm, ⟨62, _⟩ => ⟨S8x2048x16x8, .f32⟩
  | .hbm, ⟨63, _⟩ => ⟨S8x2048x16x8, .f32⟩
  | .hbm, ⟨64, _⟩ => ⟨S8x2048x16x48, .f32⟩
  | .hbm, ⟨65, _⟩ => ⟨S8x2048x16x64, .f32⟩
  | .hbm, ⟨66, _⟩ => ⟨S8x2048x16x64, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S2048, .i32⟩
  | .hbm, ⟨76, _⟩ => ⟨S2048, .f32⟩
  | .hbm, ⟨77, _⟩ => ⟨S2048x1, .f32⟩
  | .hbm, ⟨78, _⟩ => ⟨S1x8, .f32⟩
  | .hbm, ⟨79, _⟩ => ⟨S2048x8, .f32⟩
  | .hbm, ⟨80, _⟩ => ⟨S2048x8, .f32⟩
  | .hbm, ⟨81, _⟩ => ⟨S2048x8, .f32⟩
  | .hbm, ⟨82, _⟩ => ⟨S2048x8, .f32⟩
  | .hbm, ⟨83, _⟩ => ⟨S2048x1x8, .f32⟩
  | .hbm, ⟨84, _⟩ => ⟨S2048x8, .f32⟩
  | .hbm, ⟨85, _⟩ => ⟨S2048x1x8, .f32⟩
  | .hbm, ⟨86, _⟩ => ⟨S8x2048x16x8, .f32⟩
  | .hbm, ⟨87, _⟩ => ⟨S8x2048x16x8, .f32⟩
  | .hbm, ⟨88, _⟩ => ⟨S1x2048x1x8, .f32⟩
  | .hbm, ⟨89, _⟩ => ⟨S8x2048x16x8, .f32⟩
  | .hbm, ⟨90, _⟩ => ⟨S8x2048x16x8, .f32⟩
  | .hbm, ⟨91, _⟩ => ⟨S1x2048x1x8, .f32⟩
  | .hbm, ⟨92, _⟩ => ⟨S8x2048x16x8, .f32⟩
  | .hbm, ⟨93, _⟩ => ⟨S8x2048x16x8, .f32⟩
  | .hbm, ⟨94, _⟩ => ⟨S8x2048x16x8, .f32⟩
  | .hbm, ⟨95, _⟩ => ⟨S1x2048x1x8, .f32⟩
  | .hbm, ⟨96, _⟩ => ⟨S8x2048x16x8, .f32⟩
  | .hbm, ⟨97, _⟩ => ⟨S8x2048x16x8, .f32⟩
  | .hbm, ⟨98, _⟩ => ⟨S1x2048x1x8, .f32⟩
  | .hbm, ⟨99, _⟩ => ⟨S8x2048x16x8, .f32⟩
  | .hbm, ⟨100, _⟩ => ⟨S8x2048x16x8, .f32⟩
  | .hbm, ⟨101, _⟩ => ⟨S8x2048x16x8, .f32⟩
  | .hbm, ⟨102, _⟩ => ⟨S8x2048x16x48, .f32⟩
  | .hbm, ⟨103, _⟩ => ⟨S8x2048x16x64, .f32⟩
  | .hbm, ⟨104, _⟩ => ⟨S8x2048x16x64, .f32⟩
  | .hbm, ⟨105, _⟩ => ⟨S64x256x1024, .f32⟩
  | .hbm, ⟨106, _⟩ => ⟨S_, .f32⟩
  | .hbm, ⟨107, _⟩ => ⟨S64x1024, .f32⟩
  | .hbm, ⟨108, _⟩ => ⟨S_, .f32⟩
  | .hbm, ⟨109, _⟩ => ⟨S64x1024, .f32⟩
  | .hbm, ⟨110, _⟩ => ⟨S64x1024, .f32⟩
  | .hbm, ⟨111, _⟩ => ⟨S16384x16, .f32⟩
  | .hbm, ⟨112, _⟩ => ⟨S1x8x2048x16x64, .f32⟩
  | .hbm, ⟨113, _⟩ => ⟨S1x8x2048x16x64, .f32⟩
  | .hbm, ⟨114, _⟩ => ⟨S_, .f32⟩
  | .hbm, ⟨115, _⟩ => ⟨S8x2048x16x64, .f32⟩
  | .hbm, ⟨116, _⟩ => ⟨S8x2048x16x64, .f32⟩
  | .hbm, ⟨117, _⟩ => ⟨S16384x1024, .f32⟩
  | .hbm, ⟨118, _⟩ => ⟨S16384x1024, .bf16⟩
  | .hbm, ⟨119, _⟩ => ⟨S16384x1024, .f32⟩
  | .hbm, ⟨120, _⟩ => ⟨S16384x1024, .bf16⟩
  | .hbm, ⟨121, _⟩ => ⟨S16384x1024, .f32⟩
  | .hbm, ⟨122, _⟩ => ⟨S16384x1024, .bf16⟩
  | .hbm, ⟨123, _⟩ => ⟨S16384x1024, .f32⟩
  | .hbm, ⟨124, _⟩ => ⟨S16384x1536, .f32⟩
  | .hbm, ⟨125, _⟩ => ⟨S16x16384, .f32⟩
  | .hbm, ⟨126, _⟩ => ⟨S64x1x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_6 : Ref sig .tc := ⟨.hbm, 106, rfl⟩
abbrev main_v96 : Ref sig .tc := ⟨.hbm, 107, rfl⟩
abbrev main_cst_7 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_cst_8 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩

abbrev nD : Nat := 1
abbrev τ : Topo := Topo.v7x

variable {F : FTy → Type} [FloatOps F]
-- ==== Kernel3.lean ====
abbrev S8x2048x1024 : Shape := ⟨3, ![8, 2048, 1024]⟩
abbrev S16384x1024 : Shape := ⟨2, ![16384, 1024]⟩
abbrev S1x2048x1024 : Shape := ⟨3, ![1, 2048, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S2048x1024 : Shape := ⟨2, ![2048, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S8x128x16384 : Shape := ⟨3, ![8, 128, 16384]⟩
abbrev S256x1024 : Shape := ⟨2, ![256, 1024]⟩
abbrev S8x128x256 : Shape := ⟨3, ![8, 128, 256]⟩
abbrev S16x128x256 : Shape := ⟨3, ![16, 128, 256]⟩
abbrev S1024x1024 : Shape := ⟨2, ![1024, 1024]⟩
abbrev S256 : Shape := ⟨1, ![256]⟩
abbrev S256x1 : Shape := ⟨2, ![256, 1]⟩
abbrev S8x256 : Shape := ⟨2, ![8, 256]⟩
abbrev S1024x128 : Shape := ⟨2, ![1024, 128]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 23
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x1024, .bf16⟩
  | .hbm, ⟨3, _⟩ => ⟨S1x2048x1024, .f32⟩
  | .hbm, ⟨4, _⟩ => ⟨S1x1024, .f32⟩
  | .hbm, ⟨5, _⟩ => ⟨S1x1024x2048, .f32⟩
  | .hbm, ⟨6, _⟩ => ⟨S1x8x2x128x128, .f32⟩
  | .hbm, ⟨7, _⟩ => ⟨S2048x1024, .f32⟩
  | .hbm, ⟨8, _⟩ => ⟨S2048x1024, .bf16⟩
  | .hbm, ⟨9, _⟩ => ⟨S1024, .f32⟩
  | .hbm, ⟨10, _⟩ => ⟨S1x1024, .f32⟩
  | .hbm, ⟨11, _⟩ => ⟨S1024x2048, .f32⟩
  | .hbm, ⟨12, _⟩ => ⟨S1024x2048, .bf16⟩
  | .hbm, ⟨13, _⟩ => ⟨S8x2x128x128, .f32⟩
  | .hbm, ⟨14, _⟩ => ⟨S16x128x128, .f32⟩
  | .hbm, ⟨15, _⟩ => ⟨S16x128x128, .bf16⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S8x128x16384, .bf16⟩
  | .hbm, ⟨20, _⟩ => ⟨S8x128x16384, .bf16⟩
  | .hbm, ⟨21, _⟩ => ⟨S8x128x16384, .f32⟩
  | .hbm, ⟨22, _⟩ => ⟨S8x128x16384, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S1x1024, .f32⟩
  | .local _ .vmem, ⟨8, _⟩ => ⟨S1024x2048, .bf16⟩
  | .local _ .vmem, ⟨9, _⟩ => ⟨S16x128x128, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S8x128x256, .bf16⟩
  | .local _ .vmem, ⟨15, _⟩ => ⟨S8x128x256, .bf16⟩
  | .local _ .vmem, ⟨16, _⟩ => ⟨S8x128x256, .bf16⟩
  | .local _ .vmem, ⟨17, _⟩ => ⟨S8x128x256, .bf16⟩
  | .local _ .vmem, ⟨18, _⟩ => ⟨S8x128x256, .f32⟩
  | .local _ .vmem, ⟨19, _⟩ => ⟨S8x128x256, .f32⟩
  | .local _ .vmem, ⟨20, _⟩ => ⟨S8x128x256, .f32⟩
  | .local _ .vmem, ⟨21, _⟩ => ⟨S8x128x256, .f32⟩
  | .local _ .vmem, ⟨22, _⟩ => ⟨S16x128x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x2048x1024 : Shape := ⟨3, ![8, 2048, 1024]⟩
abbrev S16384x1024 : Shape := ⟨2, ![16384, 1024]⟩
abbrev S1x2048x1024 : Shape := ⟨3, ![1, 2048, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S16384x2048 : Shape := ⟨2, ![16384, 2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x1024, .bf16⟩
  | .hbm, ⟨3, _⟩ => ⟨S1x2048x1024, .f32⟩
  | .hbm, ⟨4, _⟩ => ⟨S1x1024, .f32⟩
  | .hbm, ⟨5, _⟩ => ⟨S1x1024x2048, .f32⟩
  | .hbm, ⟨6, _⟩ => ⟨S1x8x2x128x128, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x1024, .f32⟩
  | .hbm, ⟨11, _⟩ => ⟨S2048x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel4.lean ====
abbrev S1x128x3x1536 : Shape := ⟨4, ![1, 128, 3, 1536]⟩
abbrev S128x1536 : Shape := ⟨2, ![128, 1536]⟩
abbrev S128x16 : Shape := ⟨2, ![128, 16]⟩
abbrev S1x4x1536 : Shape := ⟨3, ![1, 4, 1536]⟩
abbrev S1x1536 : Shape := ⟨2, ![1, 1536]⟩
abbrev S1x16 : Shape := ⟨2, ![1, 16]⟩
abbrev S4x1536 : Shape := ⟨2, ![4, 1536]⟩
abbrev S1536 : Shape := ⟨1, ![1536]⟩
abbrev S16 : Shape := ⟨1, ![16]⟩
abbrev S128x3x1536 : Shape := ⟨3, ![128, 3, 1536]⟩
abbrev S128x4608 : Shape := ⟨2, ![128, 4608]⟩
abbrev S1024 : Shape := ⟨1, ![1024]⟩
abbrev S1x1024 : Shape := ⟨2, ![1, 1024]⟩
abbrev S_ : Shape := ⟨0, ![]⟩
abbrev S16x1 : Shape := ⟨2, ![16, 1]⟩
abbrev S16x1024 : Shape := ⟨2, ![16, 1024]⟩
abbrev S128x1024 : Shape := ⟨2, ![128, 1024]⟩
abbrev S128x256 : Shape := ⟨2, ![128, 256]⟩
abbrev S1024x128 : Shape := ⟨2, ![1024, 128]⟩
abbrev S128x3072 : Shape := ⟨2, ![128, 3072]⟩

abbrev nBuf : Space → Nat
  | .hbm => 48
  | .vmem => 14
  | .smem => 0
  | _ => 0

abbrev bufTy : (tb : Table) → Fin (tcTables nBuf tb) → BufTy
  | .hbm, ⟨0, _⟩ => ⟨S1x128x3x1536, .f32⟩
  | .hbm, ⟨1, _⟩ => ⟨S128x1536, .f32⟩
  | .hbm, ⟨2, _⟩ => ⟨S128x16, .f32⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S4x1536, .f32⟩
  | .hbm, ⟨8, _⟩ => ⟨S1536, .f32⟩
  | .hbm, ⟨9, _⟩ => ⟨S1x1536, .f32⟩
  | .hbm, ⟨10, _⟩ => ⟨S16, .f32⟩
  | .hbm, ⟨11, _⟩ => ⟨S1x16, .f32⟩
  | .hbm, ⟨12, _⟩ => ⟨S16, .f32⟩
  | .hbm, ⟨13, _⟩ => ⟨S1x16, .f32⟩
  | .hbm, ⟨14, _⟩ => ⟨S128x3x1536, .f32⟩
  | .hbm, ⟨15, _⟩ => ⟨S128x4608, .f32⟩
  | .hbm, ⟨16, _⟩ => ⟨S1024, .i32⟩
  | .hbm, ⟨17, _⟩ => ⟨S1x1024, .i32⟩
  | .hbm, ⟨18, _⟩ => ⟨S_, .i32⟩
  | .hbm, ⟨19, _⟩ => ⟨S_, .i32⟩
  | .hbm, ⟨20, _⟩ => ⟨S1x1024, .i32⟩
  | .hbm, ⟨21, _⟩ => ⟨S1x1024, .i32⟩
  | .hbm, ⟨22, _⟩ => ⟨S1x1024, .i32⟩
  | .hbm, ⟨23, _⟩ => ⟨S_, .i32⟩
  | .hbm, ⟨24, _⟩ => ⟨S1x1024, .i32⟩
  | .hbm, ⟨25, _⟩ => ⟨S1x1024, .i1⟩
  | .hbm, ⟨26, _⟩ => ⟨S1x1024, .i32⟩
  | .hbm, ⟨27, _⟩ => ⟨S1x1024, .i32⟩
  | .hbm, ⟨28, _⟩ => ⟨S_, .i32⟩
  | .hbm, ⟨29, _⟩ => ⟨S1x1024, .i32⟩
  | .hbm, ⟨30, _⟩ => ⟨S1x1024, .i1⟩
  | .hbm, ⟨31, _⟩ => ⟨S1x1024, .i1⟩
  | .hbm, ⟨32, _⟩ => ⟨S_, .i32⟩
  | .hbm, ⟨33, _⟩ => ⟨S1x1024, .i32⟩
  | .hbm, ⟨34, _⟩ => ⟨S1x1024, .i32⟩
  | .hbm, ⟨35, _⟩ => ⟨S1x1024, .i32⟩
  | .hbm, ⟨36, _⟩ => ⟨S16, .i32⟩
  | .hbm, ⟨37, _⟩ => ⟨S16x1, .i32⟩
  | .hbm, ⟨38, _⟩ => ⟨S16x1024, .i32⟩
  | .hbm, ⟨39, _⟩ => ⟨S16x1024, .i32⟩
  | .hbm, ⟨40, _⟩ => ⟨S16x1024, .i1⟩
  | .hbm, ⟨41, _⟩ => ⟨S16x1024, .bf16⟩
  | .hbm, ⟨42, _⟩ => ⟨S128x4608, .f32⟩
  | .hbm, ⟨43, _⟩ => ⟨S128x1024, .f32⟩
  | .hbm, ⟨44, _⟩ => ⟨S128x256, .f32⟩
  | .hbm, ⟨45, _⟩ => ⟨S128x256, .f32⟩
  | .hbm, ⟨46, _⟩ => ⟨S1024x128, .f32⟩
  | .hbm, ⟨47, _⟩ => ⟨S1024x128, .f32⟩
  | .local _ .vmem, ⟨0, _⟩ => ⟨S128x4608, .f32⟩
  | .local _ .vmem, ⟨1, _⟩ => ⟨S128x1536, .f32⟩
  | .local _ .vmem, ⟨2, _⟩ => ⟨S128x16, .f32⟩
  | .local _ .vmem, ⟨3, _⟩ => ⟨S4x1536, .f32⟩
  | .local _ .vmem, ⟨4, _⟩ => ⟨S1x1536, .f32⟩
  | .local _ .vmem, ⟨5, _⟩ => ⟨S1x16, .f32⟩
  | .local _ .vmem, ⟨6, _⟩ => ⟨S1x16, .f32⟩
  | .local _ .vmem, ⟨7, _⟩ => ⟨S16x1024, .bf16⟩
  | .local _ .vmem, ⟨8, _⟩ => ⟨S128x4608, .f32⟩
  | .local _ .vmem, ⟨9, _⟩ => ⟨S128x1024, .f32⟩
  | .local _ .vmem, ⟨10, _⟩ => ⟨S128x256, .f32⟩
  | .local _ .vmem, ⟨11, _⟩ => ⟨S128x256, .f32⟩
  | .local _ .vmem, ⟨12, _⟩ => ⟨S1024x128, .f32⟩
  | .local _ .vmem, ⟨13, _⟩ => ⟨S1024x128, .f32⟩
  | _, _ => ⟨S1x128x3x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v18_3 : Ref sig .tc := ⟨.hbm, 45, rfl⟩
abbrev main_v18_4 : Ref sig .tc := ⟨.hbm, 46, rfl⟩
abbrev main_v18_5 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S1x128x3x1536 : Shape := ⟨4, ![1, 128, 3, 1536]⟩
abbrev S128x1536 : Shape := ⟨2, ![128, 1536]⟩
abbrev S128x16 : Shape := ⟨2, ![128, 16]⟩
abbrev S1x4x1536 : Shape := ⟨3, ![1, 4, 1536]⟩
abbrev S1x1536 : Shape := ⟨2, ![1, 1536]⟩
abbrev S1x16 : Shape := ⟨2, ![1, 16]⟩
abbrev S128x3x1536 : Shape := ⟨3, ![128, 3, 1536]⟩
abbrev S128x1x1536 : Shape := ⟨3, ![128, 1, 1536]⟩
abbrev S128x4x1536 : Shape := ⟨3, ![128, 4, 1536]⟩
abbrev S4x1536 : Shape := ⟨2, ![4, 1536]⟩
abbrev S_ : Shape := ⟨0, ![]⟩
abbrev S1536 : Shape := ⟨1, ![1536]⟩
abbrev S128x1024 : Shape := ⟨2, ![128, 1024]⟩
abbrev S128x256 : Shape := ⟨2, ![128, 256]⟩
abbrev S128x4608 : Shape := ⟨2, ![128, 4608]⟩

abbrev nBuf : Space → Nat
  | .hbm => 31
  | .vmem => 0
  | .smem => 0
  | _ => 0

abbrev bufTy : (tb : Table) → Fin (tcTables nBuf tb) → BufTy
  | .hbm, ⟨0, _⟩ => ⟨S1x128x3x1536, .f32⟩
  | .hbm, ⟨1, _⟩ => ⟨S128x1536, .f32⟩
  | .hbm, ⟨2, _⟩ => ⟨S128x16, .f32⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S128x3x1536, .f32⟩
  | .hbm, ⟨8, _⟩ => ⟨S128x1x1536, .f32⟩
  | .hbm, ⟨9, _⟩ => ⟨S128x4x1536, .f32⟩
  | .hbm, ⟨10, _⟩ => ⟨S4x1536, .f32⟩
  | .hbm, ⟨11, _⟩ => ⟨S1x4x1536, .f32⟩
  | .hbm, ⟨12, _⟩ => ⟨S128x4x1536, .f32⟩
  | .hbm, ⟨13, _⟩ => ⟨S128x4x1536, .f32⟩
  | .hbm, ⟨14, _⟩ => ⟨S_, .f32⟩
  | .hbm, ⟨15, _⟩ => ⟨S128x1536, .f32⟩
  | .hbm, ⟨16, _⟩ => ⟨S1536, .f32⟩
  | .hbm, ⟨17, _⟩ => ⟨S1x1536, .f32⟩
  | .hbm, ⟨18, _⟩ => ⟨S128x1536, .f32⟩
  | .hbm, ⟨19, _⟩ => ⟨S128x1536, .f32⟩
  | .hbm, ⟨20, _⟩ => ⟨S128x1536, .f32⟩
  | .hbm, ⟨21, _⟩ => ⟨S128x1536, .f32⟩
  | .hbm, ⟨22, _⟩ => ⟨S_, .f32⟩
  | .hbm, ⟨23, _⟩ => ⟨S128x1536, .f32⟩
  | .hbm, ⟨24, _⟩ => ⟨S128x1536, .f32⟩
  | .hbm, ⟨25, _⟩ => ⟨S128x1536, .f32⟩
  | .hbm, ⟨26, _⟩ => ⟨S128x1024, .f32⟩
  | .hbm, ⟨27, _⟩ => ⟨S128x256, .f32⟩
  | .hbm, ⟨28, _⟩ => ⟨S128x256, .f32⟩
  | .hbm, ⟨29, _⟩ => ⟨S128x3x1536, .f32⟩
  | .hbm, ⟨30, _⟩ => ⟨S128x4608, .f32⟩
  | _, _ => ⟨S1x128x3x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Steps.lean ====
module
public import proofs.«01_k».proof.Proof.Gen.KernelIdeal.Loops
public import Idealize.ShloMosaic.Lib.WritesUnit
@[expose] public section
set_option maxRecDepth 16384
noncomputable section
/-! The loop over past key blocks, one head pair at a time.

Every head pair keeps its running row maximum, row sum and weighted sum in one slab of a scratch
buffer of eight slabs. One turn of the loop treats the eight slabs alike, so it is described here by
one set of functions of the slab's number. -/
namespace Cert.KernelIdeal.Moba
open Idealize.ShloMosaic Idealize.ShloMosaic.TcCoe Idealize.ShloMosaic.Tactic Idealize.SL.Sem
open Cert.KernelIdeal Cert.KernelIdeal.Gen

/-- The slab numbered `n` of a scratch buffer of eight 256 × 128 slabs. -/
def slab (n : Fin 8) : Rect S8x256x128 :=
  Rect.unit ![n.val, 0, 0] S1x256x128.size (by
    intro a; have := n.isLt
    fin_cases a <;> simp [Shape.size] <;> omega)

/-- Eight slabs written one after the other, the last one first. -/
def slabs {e : EltTy} (w : Fin 8 → Vec Ideal S1x256x128 e) : List (View.Piece (Elt Ideal) S8x256x128 e) :=
  [⟨slab 7, w 7⟩, ⟨slab 6, w 6⟩, ⟨slab 5, w 5⟩, ⟨slab 4, w 4⟩, ⟨slab 3, w 3⟩, ⟨slab 2, w 2⟩,
    ⟨slab 1, w 1⟩, ⟨slab 0, w 0⟩]

/-- The slab numbered `n` of the buffer of query rows. -/
def qslab (n : Fin 8) : Rect S8x256x256 :=
  Rect.unit ![n.val, 0, 0] S1x256x256.size (by
    intro a; have := n.isLt
    fin_cases a <;> simp [Shape.size] <;> omega)

def qslabs {e : EltTy} (w : Fin 8 → Vec Ideal S1x256x256 e) : List (View.Piece (Elt Ideal) S8x256x256 e) :=
  [⟨qslab 7, w 7⟩, ⟨qslab 6, w 6⟩, ⟨qslab 5, w 5⟩, ⟨qslab 4, w 4⟩, ⟨qslab 3, w 3⟩, ⟨qslab 2, w 2⟩,
    ⟨qslab 1, w 1⟩, ⟨qslab 0, w 0⟩]

/-- Where the loop's turn `k` finds the keys of head pair `n`. -/
def past (i : grid0.Coords) (k : Fin (k0_t1_loop i).trips) (n : Fin 8) : Fin 2 → ℕ :=
  ![(Scalar.indexCast (Scalar.muli (Scf.iv 0#32 1#32 k) 256#32)).toNat, 128 * n.val]

theorem past_inb (i : grid0.Coords) (k : Fin (k0_t1_loop i).trips) (n : Fin 8) :
    ∀ a, past i k n a + S256x128.size a ≤ S2048x1024.size a := by
  intro a
  have h := k0_off9_inb i k a
  have hn := n.isLt
  fin_cases a
  · exact h
  · simp [past, Shape.size]; omega

/-- A matrix read as one block of keys, the columns of head pair `n`. -/
def pastRect (i : grid0.Coords) (k : Fin (k0_t1_loop i).trips) (n : Fin 8) : Rect S2048x1024 :=
  Rect.unit (past i k n) S256x128.size (past_inb i k n)

/-- One block's marker: column `j` is one and the others are zero. -/
def marker (lane : IVec S256x128 32) (j : BitVec 32) : FVec Ideal S256x128 .bf16 :=
  truncf .bf16 (select (cmpi .eq lane (broadcast S256x128 j))
    (broadcast S256x128 (Scalar.ofBits .f32 0x3F800000#32))
    (broadcast S256x128 (Scalar.ofBits .f32 0x00000000#32))) bitsLt_bf16_f32

/-- Query rows against one block of keys, the block's marker beside the keys. -/
def scores (mk : FVec Ideal S256x128 .bf16) (kt : Vec Ideal S256x128 .bf16) (lhs : Vec Ideal S1x256x256 .bf16) :
    FVec Ideal S256x256 .f32 :=
  matmul dot_S256x256_S256x256_S256x256_1_1_0_0_n_n none
    (shapeCast S256x256 lhs shapeCasts_S1x256x256_S256x256 : FVec Ideal S256x256 .bf16)
    (concatenate S256x256 1 [⟨S256x128, (shapeCast S256x128 kt shapeCasts_S256x128_S256x128 : FVec Ideal S256x128 .bf16)⟩, ⟨S256x128, mk⟩]
      concatenates_S256x128_S256x128_S256x256_d1)
    (constant S256x256 .f32 0x00000000#32)

/-- The largest score of every row, in every lane. -/
def rowMax (s : FVec Ideal S256x256 .f32) : FVec Ideal S256x128 .f32 :=
  broadcastTo S256x128 (shapeCast S256x1
    (multiReduction .maximumf [1] S256 s 0xFF800000#32 reduces_S256x256_S256 (.inl rfl) rfl)
    shapeCasts_S256_S256x1) broadcasts_S256x1_S256x128

def unslab (m : Vec Ideal S1x256x128 .f32) : FVec Ideal S256x128 .f32 :=
  shapeCast S256x128 m shapeCasts_S1x256x128_S256x128

def reslab (m : FVec Ideal S256x128 .f32) : FVec Ideal S1x256x128 .f32 :=
  shapeCast S1x256x128 m shapeCasts_S256x128_S1x256x128

/-- The weights' product with the values and with a block of ones. -/
def weigh (ones : FVec Ideal S256x128 .bf16) (vt : Vec Ideal S256x128 .bf16) (s : FVec Ideal S256x256 .f32)
    (pk : FVec Ideal S256x128 .f32) : FVec Ideal S256x256 .f32 :=
  matmul dot_S256x256_S256x256_S256x256_1_0_0_1_n_n none
    (truncf .bf16 (exp (subf s (concatenate S256x256 1 [⟨S256x128, pk⟩, ⟨S256x128, pk⟩]
      concatenates_S256x128_S256x128_S256x256_d1))) bitsLt_bf16_f32)
    (concatenate S256x256 1 [⟨S256x128, (shapeCast S256x128 vt shapeCasts_S256x128_S256x128 : FVec Ideal S256x128 .bf16)⟩, ⟨S256x128, ones⟩]
      concatenates_S256x128_S256x128_S256x256_d1)
    (constant S256x256 .f32 0x00000000#32)

def leftHalf (p : FVec Ideal S256x256 .f32) : FVec Ideal S256x128 .f32 :=
  extractStridedSlice S256x128 ![0, 0] p slices_S256x256_o0_0_S256x128

def rightHalf (p : FVec Ideal S256x256 .f32) : FVec Ideal S256x128 .f32 :=
  extractStridedSlice S256x128 ![0, 128] p slices_S256x256_o0_128_S256x128

/-- The row maximum after one more block. -/
def peak (mk : FVec Ideal S256x128 .bf16) (kt : Vec Ideal S256x128 .bf16) (lhs : Vec Ideal S1x256x256 .bf16)
    (m : Vec Ideal S1x256x128 .f32) : FVec Ideal S256x128 .f32 :=
  maximumf (unslab m) (rowMax (scores mk kt lhs))

/-- What the sums so far are multiplied by when the row maximum moves. -/
def decay (mk : FVec Ideal S256x128 .bf16) (kt : Vec Ideal S256x128 .bf16) (lhs : Vec Ideal S1x256x256 .bf16)
    (m : Vec Ideal S1x256x128 .f32) : FVec Ideal S256x128 .f32 :=
  exp (subf (unslab m) (peak mk kt lhs m))

def nextM (mk : FVec Ideal S256x128 .bf16) (kt : Vec Ideal S256x128 .bf16) (lhs : Vec Ideal S1x256x256 .bf16)
    (m : Vec Ideal S1x256x128 .f32) : Vec Ideal S1x256x128 .f32 :=
  reslab (peak mk kt lhs m)

def nextL (ones mk : FVec Ideal S256x128 .bf16) (kt vt : Vec Ideal S256x128 .bf16) (lhs : Vec Ideal S1x256x256 .bf16)
    (m l : Vec Ideal S1x256x128 .f32) : Vec Ideal S1x256x128 .f32 :=
  reslab (addf (mulf (decay mk kt lhs m) (unslab l))
    (rightHalf (weigh ones vt (scores mk kt lhs) (peak mk kt lhs m))))

def nextA (ones mk : FVec Ideal S256x128 .bf16) (kt vt : Vec Ideal S256x128 .bf16) (lhs : Vec Ideal S1x256x256 .bf16)
    (m a : Vec Ideal S1x256x128 .f32) : Vec Ideal S1x256x128 .f32 :=
  reslab (addf (mulf (decay mk kt lhs m) (unslab a))
    (leftHalf (weigh ones vt (scores mk kt lhs) (peak mk kt lhs m))))

section
variable (𝒱 : Variants) (c : Dev nD) (bd : Option 𝒱.V) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S1x8x1024 .f32) (harg5 : arg5.IsWhole)
  (arg6 : Memref sig .tc .vmem S1x1024 .f32) (harg6 : arg6.IsWhole)
  (arg7 : Memref sig .tc .vmem S128x1024 .bf16) (harg7 : arg7.IsWhole)
  (arg8 : Memref sig .tc .vmem S8x256x256 .bf16) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x128 .f32) (harg11 : arg11.IsWhole)
  (arg12 : Memref sig .tc .vmem S128x1024 .f32) (harg12 : arg12.IsWhole)
variable (v16 : BitVec 32) (v259 : IVec S256x256 1) (v260 : IVec S256x128 32) (v263 : FVec Ideal S256x128 .bf16)
  (v637 : FVec Ideal S256x128 .bf16) (v639 : FVec Ideal S256x256 .f32)
  (X3 : BufTy.Contents (Elt Ideal) arg3.view.ty) (X4 : BufTy.Contents (Elt Ideal) arg4.view.ty)
  (X8 : BufTy.Contents (Elt Ideal) arg8.view.ty) (k : Fin (k0_t1_loop i).trips)
  (f9 : BufTy.Contents (Elt Ideal) arg9.view.ty) (f10 : BufTy.Contents (Elt Ideal) arg10.view.ty)
  (f11 : BufTy.Contents (Elt Ideal) arg11.view.ty)

theorem turn_m :
    (trip_k0_t1 (F := Ideal) 𝒱 c bd i arg2 harg2 arg3 harg3 arg4 harg4 arg5 harg5 arg6 harg6 arg7 harg7 arg8 harg8 arg9 harg9 arg10 harg10 arg11 harg11 arg12 harg12 v16 v259 v260 v263 v637 v639 X3 X4 X8 k).1 f9 f10 f11
      = slabs fun n => nextM (marker v260 (Scf.iv 0#32 1#32 k))
          (arg3.view.readAt (Elt Ideal) (pastRect i k n).toLoadRect X3)
          (arg8.view.readAt (Elt Ideal) (qslab n).toLoadRect X8)
          (arg9.view.readAt (Elt Ideal) (slab n).toLoadRect f9) := by
  unfold trip_k0_t1
  dsimp only
  sl_unfold_words
  rfl

theorem turn_l :
    (trip_k0_t1 (F := Ideal) 𝒱 c bd i arg2 harg2 arg3 harg3 arg4 harg4 arg5 harg5 arg6 harg6 arg7 harg7 arg8 harg8 arg9 harg9 arg10 harg10 arg11 harg11 arg12 harg12 v16 v259 v260 v263 v637 v639 X3 X4 X8 k).2.1 f9 f10 f11
      = slabs fun n => nextL v263 (marker v260 (Scf.iv 0#32 1#32 k))
          (arg3.view.readAt (Elt Ideal) (pastRect i k n).toLoadRect X3)
          (arg4.view.readAt (Elt Ideal) (pastRect i k n).toLoadRect X4)
          (arg8.view.readAt (Elt Ideal) (qslab n).toLoadRect X8)
          (arg9.view.readAt (Elt Ideal) (slab n).toLoadRect f9)
          (arg10.view.readAt (Elt Ideal) (slab n).toLoadRect f10) := by
  unfold trip_k0_t1
  dsimp only
  sl_unfold_words
  rfl

theorem turn_a :
    (trip_k0_t1 (F := Ideal) 𝒱 c bd i arg2 harg2 arg3 harg3 arg4 harg4 arg5 harg5 arg6 harg6 arg7 harg7 arg8 harg8 arg9 harg9 arg10 harg10 arg11 harg11 arg12 harg12 v16 v259 v260 v263 v637 v639 X3 X4 X8 k).2.2.1 f9 f10 f11
      = slabs fun n => nextA v263 (marker v260 (Scf.iv 0#32 1#32 k))
          (arg3.view.readAt (Elt Ideal) (pastRect i k n).toLoadRect X3)
          (arg4.view.readAt (Elt Ideal) (pastRect i k n).toLoadRect X4)
          (arg8.view.readAt (Elt Ideal) (qslab n).toLoadRect X8)
          (arg9.view.readAt (Elt Ideal) (slab n).toLoadRect f9)
          (arg11.view.readAt (Elt Ideal) (slab n).toLoadRect f11) := by
  unfold trip_k0_t1
  dsimp only
  sl_unfold_words
  rfl
end

section
variable {sp : Space} {e : EltTy}

theorem peel_eq (v : View sig .tc sp S8x256x128 e) (f : BufTy.Contents (Elt Ideal) v.ty)
    (n : Fin 8) (w : Vec Ideal S1x256x128 e) (L : List (View.Piece (Elt Ideal) S8x256x128 e)) :
    v.readAt (Elt Ideal) (slab n).toLoadRect (v.writes (Elt Ideal) f (⟨slab n, w⟩ :: L)) = w := by
  refine funext fun p => View.read_writes_cons_unit_of_mem v f _ w L _ p rfl fun a => ?_
  show _ + 1 * _ = _
  rw [Nat.one_mul]
  rfl

theorem peel_ne (v : View sig .tc sp S8x256x128 e) (f : BufTy.Contents (Elt Ideal) v.ty)
    (n n' : Fin 8) (h : n' ≠ n) (w : Vec Ideal S1x256x128 e) (L : List (View.Piece (Elt Ideal) S8x256x128 e)) :
    v.readAt (Elt Ideal) (slab n).toLoadRect (v.writes (Elt Ideal) f (⟨slab n', w⟩ :: L))
      = v.readAt (Elt Ideal) (slab n).toLoadRect (v.writes (Elt Ideal) f L) := by
  refine funext fun p => View.read_writes_cons_unit_of_not_mem v f _ w L _ rfl 0 ?_
  have hp : (p 0).val < 1 := (p 0).isLt
  have hy : (((slab n).toLoadRect.idx p) 0).val = n.val + 1 * (p 0).val := rfl
  have hn : n'.val ≠ n.val := fun h' => h (Fin.ext h')
  rw [hy]
  show _ < n'.val ∨ n'.val + 1 ≤ _
  omega

/-- Reading slab `n` after the eight slabs were written gives what was written there. -/
theorem read_slabs (v : View sig .tc sp S8x256x128 e) (f : BufTy.Contents (Elt Ideal) v.ty)
    (w : Fin 8 → Vec Ideal S1x256x128 e) (L : List (View.Piece (Elt Ideal) S8x256x128 e)) (n : Fin 8) :
    v.readAt (Elt Ideal) (slab n).toLoadRect (v.writes (Elt Ideal) f (slabs w ++ L)) = w n := by
  unfold slabs
  simp only [List.cons_append, List.nil_append]
  fin_cases n <;>
    (repeat rw [peel_ne _ _ _ _ (by decide)]) <;> exact peel_eq ..

theorem qpeel_eq (v : View sig .tc sp S8x256x256 e) (f : BufTy.Contents (Elt Ideal) v.ty)
    (n : Fin 8) (w : Vec Ideal S1x256x256 e) (L : List (View.Piece (Elt Ideal) S8x256x256 e)) :
    v.readAt (Elt Ideal) (qslab n).toLoadRect (v.writes (Elt Ideal) f (⟨qslab n, w⟩ :: L)) = w := by
  refine funext fun p => View.read_writes_cons_unit_of_mem v f _ w L _ p rfl fun a => ?_
  show _ + 1 * _ = _
  rw [Nat.one_mul]
  rfl

theorem qpeel_ne (v : View sig .tc sp S8x256x256 e) (f : BufTy.Contents (Elt Ideal) v.ty)
    (n n' : Fin 8) (h : n' ≠ n) (w : Vec Ideal S1x256x256 e) (L : List (View.Piece (Elt Ideal) S8x256x256 e)) :
    v.readAt (Elt Ideal) (qslab n).toLoadRect (v.writes (Elt Ideal) f (⟨qslab n', w⟩ :: L))
      = v.readAt (Elt Ideal) (qslab n).toLoadRect (v.writes (Elt Ideal) f L) := by
  refine funext fun p => View.read_writes_cons_unit_of_not_mem v f _ w L _ rfl 0 ?_
  have hp : (p 0).val < 1 := (p 0).isLt
  have hy : (((qslab n).toLoadRect.idx p) 0).val = n.val + 1 * (p 0).val := rfl
  have hn : n'.val ≠ n.val := fun h' => h (Fin.ext h')
  rw [hy]
  show _ < n'.val ∨ n'.val + 1 ≤ _
  omega

theorem read_qslabs (v : View sig .tc sp S8x256x256 e) (f : BufTy.Contents (Elt Ideal) v.ty)
    (w : Fin 8 → Vec Ideal S1x256x256 e) (n : Fin 8) :
    v.readAt (Elt Ideal) (qslab n).toLoadRect (v.writes (Elt Ideal) f (qslabs w)) = w n := by
  unfold qslabs
  fin_cases n <;>
    (repeat rw [qpeel_ne _ _ _ _ (by decide)]) <;> exact qpeel_eq ..
end

section
variable (𝒱 : Variants) (c : Dev nD) (bd : Option 𝒱.V) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S1x8x1024 .f32) (harg5 : arg5.IsWhole)
  (arg6 : Memref sig .tc .vmem S1x1024 .f32) (harg6 : arg6.IsWhole)
  (arg7 : Memref sig .tc .vmem S128x1024 .bf16) (harg7 : arg7.IsWhole)
  (arg8 : Memref sig .tc .vmem S8x256x256 .bf16) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x128 .f32) (harg11 : arg11.IsWhole)
  (arg12 : Memref sig .tc .vmem S128x1024 .f32) (harg12 : arg12.IsWhole)
variable (v16 : BitVec 32) (v259 : IVec S256x256 1) (v260 : IVec S256x128 32) (v263 : FVec Ideal S256x128 .bf16)
  (v637 : FVec Ideal S256x128 .bf16) (v639 : FVec Ideal S256x256 .f32)
  (X3 : BufTy.Contents (Elt Ideal) arg3.view.ty) (X4 : BufTy.Contents (Elt Ideal) arg4.view.ty)
  (X8 : BufTy.Contents (Elt Ideal) arg8.view.ty)
  (G9 : BufTy.Contents (Elt Ideal) arg9.view.ty) (G10 : BufTy.Contents (Elt Ideal) arg10.view.ty)
  (G11 : BufTy.Contents (Elt Ideal) arg11.view.ty)

/-- What the three scratch buffers hold before turn `k`, slab by slab: any three sequences that start
    with what the loop finds and that follow the turn's functions. -/
theorem loop_state (M L A : ℕ → Fin 8 → Vec Ideal S1x256x128 .f32)
    (hM0 : ∀ n, arg9.view.readAt (Elt Ideal) (slab n).toLoadRect G9 = M 0 n)
    (hL0 : ∀ n, arg10.view.readAt (Elt Ideal) (slab n).toLoadRect G10 = L 0 n)
    (hA0 : ∀ n, arg11.view.readAt (Elt Ideal) (slab n).toLoadRect G11 = A 0 n)
    (hM : ∀ (k : Fin (k0_t1_loop i).trips) n, M (k + 1) n = nextM (marker v260 (Scf.iv 0#32 1#32 k))
          (arg3.view.readAt (Elt Ideal) (pastRect i k n).toLoadRect X3)
          (arg8.view.readAt (Elt Ideal) (qslab n).toLoadRect X8) (M k n))
    (hL : ∀ (k : Fin (k0_t1_loop i).trips) n, L (k + 1) n = nextL v263 (marker v260 (Scf.iv 0#32 1#32 k))
          (arg3.view.readAt (Elt Ideal) (pastRect i k n).toLoadRect X3)
          (arg4.view.readAt (Elt Ideal) (pastRect i k n).toLoadRect X4)
          (arg8.view.readAt (Elt Ideal) (qslab n).toLoadRect X8) (M k n) (L k n))
    (hA : ∀ (k : Fin (k0_t1_loop i).trips) n, A (k + 1) n = nextA v263 (marker v260 (Scf.iv 0#32 1#32 k))
          (arg3.view.readAt (Elt Ideal) (pastRect i k n).toLoadRect X3)
          (arg4.view.readAt (Elt Ideal) (pastRect i k n).toLoadRect X4)
          (arg8.view.readAt (Elt Ideal) (qslab n).toLoadRect X8) (M k n) (A k n))
    (k : ℕ) (hk : k ≤ (k0_t1_loop i).trips) :
    (∀ n, arg9.view.readAt (Elt Ideal) (slab n).toLoadRect (arg9.view.writes (Elt Ideal) G9
      (pb_k0_t1 (F := Ideal) 𝒱 c bd i arg2 harg2 arg3 harg3 arg4 harg4 arg5 harg5 arg6 harg6 arg7 harg7 arg8 harg8 arg9 harg9 arg10 harg10 arg11 harg11 arg12 harg12 v16 v259 v260 v263 v637 v639 X3 X4 X8 G9 G10 G11 k).1) = M k n) ∧
    (∀ n, arg10.view.readAt (Elt Ideal) (slab n).toLoadRect (arg10.view.writes (Elt Ideal) G10
      (pb_k0_t1 (F := Ideal) 𝒱 c bd i arg2 harg2 arg3 harg3 arg4 harg4 arg5 harg5 arg6 harg6 arg7 harg7 arg8 harg8 arg9 harg9 arg10 harg10 arg11 harg11 arg12 harg12 v16 v259 v260 v263 v637 v639 X3 X4 X8 G9 G10 G11 k).2.1) = L k n) ∧
    (∀ n, arg11.view.readAt (Elt Ideal) (slab n).toLoadRect (arg11.view.writes (Elt Ideal) G11
      (pb_k0_t1 (F := Ideal) 𝒱 c bd i arg2 harg2 arg3 harg3 arg4 harg4 arg5 harg5 arg6 harg6 arg7 harg7 arg8 harg8 arg9 harg9 arg10 harg10 arg11 harg11 arg12 harg12 v16 v259 v260 v263 v637 v639 X3 X4 X8 G9 G10 G11 k).2.2) = A k n) := by
  induction k with
  | zero => exact ⟨hM0, hL0, hA0⟩
  | succ k ih =>
    obtain ⟨h9, h10, h11⟩ := ih (by omega)
    have hs := pb_k0_t1_succ (F := Ideal) 𝒱 c bd i arg2 harg2 arg3 harg3 arg4 harg4 arg5 harg5 arg6 harg6 arg7 harg7 arg8 harg8 arg9 harg9 arg10 harg10 arg11 harg11 arg12 harg12 v16 v259 v260 v263 v637 v639 X3 X4 X8 G9 G10 G11 ⟨k, by omega⟩
    dsimp only at hs
    rw [hs]
    refine ⟨fun n => ?_, fun n => ?_, fun n => ?_⟩
    · dsimp only [tripL_k0_t1]
      rw [turn_m, read_slabs, h9, hM ⟨k, by omega⟩ n]
    · dsimp only [tripL_k0_t1]
      rw [turn_l, read_slabs, h9, h10, hL ⟨k, by omega⟩ n]
    · dsimp only [tripL_k0_t1]
      rw [turn_a, read_slabs, h9, h11, hA ⟨k, by omega⟩ n]

end

end Cert.KernelIdeal.Moba
-- ==== Proof.Start.lean ====
module
public import proofs.«01_k».proof.Proof.Steps
public import proofs.«01_k».proof.Proof.Gen.KernelIdeal.Frame
@[expose] public section
set_option maxRecDepth 16384
noncomputable section
/-! What the body puts in its scratch buffers before the loop, one head pair at a time, and what it
makes of them after the loop. -/
namespace Cert.KernelIdeal.Moba
open Idealize.ShloMosaic Idealize.ShloMosaic.TcCoe Idealize.ShloMosaic.Tactic Idealize.SL.Sem
open Cert.KernelIdeal Cert.KernelIdeal.Gen

theorem slices_pair (n : Fin 8) : S128x1024.Slices ![0, 128 * n.val] S128x128 := by
  fin_cases n <;> decide

/-- The queries of head pair `n`. -/
def pairQ (q : FVec Ideal S128x1024 .bf16) (n : Fin 8) : FVec Ideal S128x128 .f32 :=
  extf .f32 (extractStridedSlice S128x128 ![0, 128 * n.val] q (slices_pair n)) bitsLt_bf16_f32

/-- The choice row of head pair `n`'s first head, its blocks in the first eight lanes. -/
def evenBias (b : FVec Ideal S128x128 .f32) (n : Fin 8) : FVec Ideal S128x128 .f32 :=
  if n = 0 then b else dynamicRotate 1 (BitVec.ofNat 32 (128 - 16 * n.val)) none b rotates_S128x128_d1

/-- The choice row of its second head. -/
def oddBias (b : FVec Ideal S128x128 .f32) (n : Fin 8) : FVec Ideal S128x128 .f32 :=
  dynamicRotate 1 (BitVec.ofNat 32 (120 - 16 * n.val)) none b rotates_S128x128_d1

def lanes : IVec S128x128 32 := iota .tc S128x128 32 [1] iota_S128x128_d1_w32

/-- The query rows of head pair `n`: the first head's rows, the second head's rows, and beside each
    row its choice of blocks. -/
def queryRows (q : FVec Ideal S128x1024 .bf16) (b : FVec Ideal S128x128 .f32) (n : Fin 8) :
    FVec Ideal S256x256 .bf16 :=
  truncf .bf16 (concatenate S256x256 0
    [⟨S128x256, concatenate S128x256 1
        [⟨S128x128, select (cmpi .slt lanes (broadcast S128x128 64#32)) (pairQ q n)
            (broadcast S128x128 (Scalar.ofBits .f32 0x00000000#32))⟩,
         ⟨S128x128, evenBias b n⟩] concatenates_S128x128_S128x128_S128x256_d1⟩,
     ⟨S128x256, concatenate S128x256 1
        [⟨S128x128, select (cmpi .sge lanes (broadcast S128x128 64#32)) (pairQ q n)
            (broadcast S128x128 (Scalar.ofBits .f32 0x00000000#32))⟩,
         ⟨S128x128, oddBias b n⟩] concatenates_S128x128_S128x128_S128x256_d1⟩]
    concatenates_S128x256_S128x256_S256x256_d0) bitsLt_bf16_f32

def lhs0 (q : FVec Ideal S128x1024 .bf16) (b : FVec Ideal S128x128 .f32) (n : Fin 8) : FVec Ideal S1x256x256 .bf16 :=
  shapeCast S1x256x256 (queryRows q b n) shapeCasts_S256x256_S1x256x256

/-- Query rows against their own block, later keys left out. -/
def ownScores (see : IVec S256x256 1) (q : FVec Ideal S128x1024 .bf16) (b : FVec Ideal S128x128 .f32)
    (kt : Vec Ideal S256x128 .bf16) (n : Fin 8) : FVec Ideal S256x256 .f32 :=
  select see
    (matmul dot_S256x128_S256x128_S256x256_1_1_0_0_n_n none
      (extractStridedSlice S256x128 ![0, 0] (queryRows q b n) slices_S256x256_o0_0_S256x128)
      (shapeCast S256x128 kt shapeCasts_S256x128_S256x128 : FVec Ideal S256x128 .bf16)
      (constant S256x256 .f32 0x00000000#32))
    (broadcast S256x256 (Named.named κ "mask" 0xF149F2CA#32))

def ownMax (s : FVec Ideal S256x256 .f32) : FVec Ideal S256x1 .f32 :=
  shapeCast S256x1
    (multiReduction .maximumf [1] S256 s 0xFF800000#32 reduces_S256x256_S256 (.inl rfl) rfl)
    shapeCasts_S256_S256x1

def ownWeigh (ones : FVec Ideal S256x128 .bf16) (vt : Vec Ideal S256x128 .bf16) (s : FVec Ideal S256x256 .f32) :
    FVec Ideal S256x256 .f32 :=
  matmul dot_S256x256_S256x256_S256x256_1_0_0_1_n_n none
    (truncf .bf16 (exp (subf s (broadcastTo S256x256 (ownMax s) broadcasts_S256x1_S256x256))) bitsLt_bf16_f32)
    (concatenate S256x256 1 [⟨S256x128, (shapeCast S256x128 vt shapeCasts_S256x128_S256x128 : FVec Ideal S256x128 .bf16)⟩, ⟨S256x128, ones⟩]
      concatenates_S256x128_S256x128_S256x256_d1)
    (constant S256x256 .f32 0x00000000#32)

def m0 (s : FVec Ideal S256x256 .f32) : Vec Ideal S1x256x128 .f32 :=
  reslab (broadcastTo S256x128 (shapeCast S256x1 (ownMax s) shapeCasts_S256x1_S256x1) broadcasts_S256x1_S256x128)

def l0 (ones : FVec Ideal S256x128 .bf16) (vt : Vec Ideal S256x128 .bf16) (s : FVec Ideal S256x256 .f32) :
    Vec Ideal S1x256x128 .f32 :=
  reslab (rightHalf (ownWeigh ones vt s))

def a0 (ones : FVec Ideal S256x128 .bf16) (vt : Vec Ideal S256x128 .bf16) (s : FVec Ideal S256x256 .f32) :
    Vec Ideal S1x256x128 .f32 :=
  reslab (leftHalf (ownWeigh ones vt s))

/-- Where the tile's own block of keys starts, the columns of head pair `n`. -/
def own (i : grid0.Coords) (n : Fin 8) : Fin 2 → ℕ := ![k0_off1 i 0, 128 * n.val]

theorem own_inb (i : grid0.Coords) (n : Fin 8) : ∀ a, own i n a + S256x128.size a ≤ S2048x1024.size a := by
  intro a
  have h := k0_off1_inb i a
  have hn := n.isLt
  fin_cases a
  · exact h
  · simp [own, Shape.size]; omega

def ownRect (i : grid0.Coords) (n : Fin 8) : Rect S2048x1024 :=
  Rect.unit (own i n) S256x128.size (own_inb i n)

section
variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S1x8x1024 .f32) (harg5 : arg5.IsWhole)
  (arg6 : Memref sig .tc .vmem S1x1024 .f32) (harg6 : arg6.IsWhole)
  (arg7 : Memref sig .tc .vmem S128x1024 .bf16) (harg7 : arg7.IsWhole)
  (arg8 : Memref sig .tc .vmem S8x256x256 .bf16) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x128 .f32) (harg11 : arg11.IsWhole)
  (arg12 : Memref sig .tc .vmem S128x1024 .f32) (harg12 : arg12.IsWhole)
variable (x0 : Vec Ideal S128x1024 .bf16) (x1 x2 : Vec Ideal S2048x1024 .bf16) (x3 : Vec Ideal S1x8x1024 .f32)
 (x4 : Vec Ideal S1x1024 .f32)

/-- The tile's queries, as the body reads them. -/
abbrev tq : FVec Ideal S128x1024 .bf16 := kernelRun0_A.sl.r (F := Ideal) c arg2 harg2 x0
/-- The tile's choice of blocks. -/
abbrev tb : FVec Ideal S128x128 .f32 := kernelRun0_A.sl.r_12 (F := Ideal) c i arg2 harg2 arg5 harg5 x0 x3
/-- The scores inside the tile's own block. -/
abbrev ts (n : Fin 8) : FVec Ideal S256x256 .f32 :=
  ownScores (kernelRun0_A.sl.r_13 i) (tq c arg2 harg2 x0) (tb c i arg2 harg2 arg5 harg5 x0 x3)
    (arg3.view.readAt (Elt Ideal) (ownRect i n).toLoadRect (harg3.unread x1)) n
abbrev tv (n : Fin 8) : Vec Ideal S256x128 .bf16 :=
  arg4.view.readAt (Elt Ideal) (ownRect i n).toLoadRect (harg4.unread x2)

theorem start_q : kernelRun0_A.sl.HS0_8 (F := Ideal) c i arg2 harg2 arg5 harg5 x0 x3
    = qslabs (lhs0 (tq c arg2 harg2 x0) (tb c i arg2 harg2 arg5 harg5 x0 x3)) := rfl

theorem start_m : kernelRun0_A.sl.HS1_8 (F := Ideal) c i arg2 harg2 arg3 harg3 arg5 harg5 x0 x1 x3
    = slabs fun n => m0 (ts c i arg2 harg2 arg3 harg3 arg5 harg5 x0 x1 x3 n) := rfl

theorem start_l : kernelRun0_A.sl.HS2_8 (F := Ideal) c i arg2 harg2 arg3 harg3 arg4 harg4 arg5 harg5 x0 x1 x2 x3
    = slabs fun n => l0 k0_pay163 (tv i arg4 harg4 x2 n) (ts c i arg2 harg2 arg3 harg3 arg5 harg5 x0 x1 x3 n) := rfl

theorem start_a : kernelRun0_A.sl.HS3_8 (F := Ideal) c i arg2 harg2 arg3 harg3 arg4 harg4 arg5 harg5 x0 x1 x2 x3
    = slabs fun n => a0 k0_pay163 (tv i arg4 harg4 x2 n) (ts c i arg2 harg2 arg3 harg3 arg5 harg5 x0 x1 x3 n) := rfl
end
end Cert.KernelIdeal.Moba
-- ==== Proof.Finish.lean ====
module
public import proofs.«01_k».proof.Proof.Start
public import Idealize.ShloMosaic.Lib.Pointwise
@[expose] public section
set_option maxRecDepth 16384
noncomputable section
/-! The body's one written block, from the sequences its three scratch buffers go through. -/
namespace Cert.KernelIdeal.Moba
open Idealize.ShloMosaic Idealize.ShloMosaic.TcCoe Idealize.ShloMosaic.Tactic Idealize.SL.Sem
open Cert.KernelIdeal Cert.KernelIdeal.Gen

/-- The number of a tile's own block of keys. -/
def blockOf (i : grid0.Coords) : ℕ := (i 1).val / 2

theorem blockOf_lt (i : grid0.Coords) : blockOf i < 8 := by
  have h : (i 1).val < 16 := (i 1).isLt
  unfold blockOf; omega

theorem own_row : ∀ i : grid0.Coords, k0_off1 i 0 = 256 * ((i 1).val / 2) := by decide +kernel
theorem turns : ∀ i : grid0.Coords, (k0_t1_loop i).trips = (i 1).val / 2 := by decide +kernel
theorem no_turns : ∀ i : grid0.Coords, (k0_t2_loop i).trips = 0 := by decide +kernel
theorem past_row : ∀ (i : grid0.Coords) (k : Fin (k0_t1_loop i).trips),
    (Scalar.indexCast (Scalar.muli (Scf.iv 0#32 1#32 k) 256#32)).toNat = 256 * k.val := by decide +kernel
theorem block_word : ∀ i : grid0.Coords, kernelRun0_A.sl.v16 i = BitVec.ofNat 32 ((i 1).val / 2) := by decide +kernel
theorem row_word : ∀ i : grid0.Coords, kernelRun0_A.sl.v27 i = BitVec.ofNat 32 (128 * ((i 1).val % 2)) := by decide +kernel

/-- One block of keys (or values), the columns of one head pair. -/
def kblk (x : Vec Ideal S2048x1024 .bf16) (k : ℕ) (n : Fin 8) : Vec Ideal S256x128 .bf16 :=
  fun p => x (ix2 ⟨(256 * k + (p 0).val) % 2048, Nat.mod_lt _ (by decide)⟩
    ⟨128 * n.val + (p 1).val, by have := n.isLt; have h : (p 1).val < 128 := (p 1).isLt; omega⟩)

theorem read_own (i : grid0.Coords) (m : Memref sig .tc .vmem S2048x1024 .bf16) (hm : m.IsWhole)
    (x : Vec Ideal S2048x1024 .bf16) (n : Fin 8) :
    m.view.readAt (Elt Ideal) (ownRect i n).toLoadRect (hm.unread x) = kblk x (blockOf i) n := by
  have hx : m.view.read (Elt Ideal) (hm.unread x) = x := hm.read_unread x
  funext p
  show m.view.read (Elt Ideal) (hm.unread x) _ = _
  rw [hx]
  have h0 : (p 0).val < 256 := (p 0).isLt
  have hi : (i 1).val < 16 := (i 1).isLt
  refine congrArg x (funext fun a => Fin.ext ?_)
  fin_cases a
  · show k0_off1 i 0 + 1 * (p 0).val = (256 * blockOf i + (p 0).val) % 2048
    rw [own_row]; unfold blockOf; omega
  · show 128 * n.val + 1 * (p 1).val = 128 * n.val + (p 1).val
    omega

theorem read_past (i : grid0.Coords) (m : Memref sig .tc .vmem S2048x1024 .bf16) (hm : m.IsWhole)
    (x : Vec Ideal S2048x1024 .bf16) (k : Fin (k0_t1_loop i).trips) (n : Fin 8) :
    m.view.readAt (Elt Ideal) (pastRect i k n).toLoadRect (hm.unread x) = kblk x k n := by
  have hx : m.view.read (Elt Ideal) (hm.unread x) = x := hm.read_unread x
  funext p
  show m.view.read (Elt Ideal) (hm.unread x) _ = _
  rw [hx]
  have h0 : (p 0).val < 256 := (p 0).isLt
  have hi : (i 1).val < 16 := (i 1).isLt
  have hk := k.isLt
  have ht := turns i
  refine congrArg x (funext fun a => Fin.ext ?_)
  fin_cases a
  · show (Scalar.indexCast (Scalar.muli (Scf.iv 0#32 1#32 k) 256#32)).toNat + 1 * (p 0).val = (256 * k.val + (p 0).val) % 2048
    rw [past_row]; omega
  · show 128 * n.val + 1 * (p 1).val = 128 * n.val + (p 1).val
    omega

/-- The marker of block `k`. -/
def mark (k : ℕ) : FVec Ideal S256x128 .bf16 :=
  marker (iota .tc S256x128 32 [1] iota_S256x128_d1_w32) (Scf.iv 0#32 1#32 k)

section seq
variable (see : IVec S256x256 1) (q : FVec Ideal S128x1024 .bf16) (b : FVec Ideal S128x128 .f32)
  (x1 x2 : Vec Ideal S2048x1024 .bf16) (o : ℕ)

/-- The scores inside block `o`, the tile's own. -/
def own0 (n : Fin 8) : FVec Ideal S256x256 .f32 := ownScores see q b (kblk x1 o n) n

/-- The running row maximum before turn `k`. -/
def seqM : ℕ → Fin 8 → Vec Ideal S1x256x128 .f32
  | 0, n => m0 (own0 see q b x1 o n)
  | k + 1, n => nextM (mark k) (kblk x1 k n) (lhs0 q b n) (seqM k n)

/-- The running row sum. -/
def seqL : ℕ → Fin 8 → Vec Ideal S1x256x128 .f32
  | 0, n => l0 k0_pay163 (kblk x2 o n) (own0 see q b x1 o n)
  | k + 1, n => nextL k0_pay163 (mark k) (kblk x1 k n) (kblk x2 k n) (lhs0 q b n) (seqM see q b x1 o k n) (seqL k n)

/-- The running weighted sum of values. -/
def seqA : ℕ → Fin 8 → Vec Ideal S1x256x128 .f32
  | 0, n => a0 k0_pay163 (kblk x2 o n) (own0 see q b x1 o n)
  | k + 1, n => nextA k0_pay163 (mark k) (kblk x1 k n) (kblk x2 k n) (lhs0 q b n) (seqM see q b x1 o k n) (seqA k n)
end seq

/-- What the body makes of one head pair's two sums. -/
def outTile (a l : Vec Ideal S1x256x128 .f32) : FVec Ideal S128x128 .f32 :=
  shapeCast S128x128
    (select (cmpi .slt lanes (broadcast S128x128 64#32))
      (extractStridedSlice S128x128 ![0, 0] (divf (unslab a) (unslab l)) slices_S256x128_o0_0_S128x128)
      (extractStridedSlice S128x128 ![128, 0] (divf (unslab a) (unslab l)) slices_S256x128_o128_0_S128x128))
    shapeCasts_S128x128_S128x128

/-- The columns of head pair `n`. -/
def col (n : Fin 8) : Rect S128x1024 :=
  Rect.unit ![0, 128 * n.val] S128x128.size (by
    intro a; have := n.isLt
    fin_cases a <;> simp [Shape.size] <;> omega)

def cols (w : Fin 8 → FVec Ideal S128x128 .f32) : List (View.Piece (Elt Ideal) S128x1024 .f32) :=
  [⟨col 7, w 7⟩, ⟨col 6, w 6⟩, ⟨col 5, w 5⟩, ⟨col 4, w 4⟩, ⟨col 3, w 3⟩, ⟨col 2, w 2⟩, ⟨col 1, w 1⟩, ⟨col 0, w 0⟩]

theorem cpeel_eq {sp : Space} (v : View sig .tc sp S128x1024 .f32) (f : BufTy.Contents (Elt Ideal) v.ty)
    (n : Fin 8) (w : FVec Ideal S128x128 .f32) (L : List (View.Piece (Elt Ideal) S128x1024 .f32)) (r l : Fin 128)
    (y : S128x1024.Idx) (h0 : (y 0).val = r.val) (h1 : (y 1).val = 128 * n.val + l.val) :
    v.read (Elt Ideal) (v.writes (Elt Ideal) f (⟨col n, w⟩ :: L)) y = w (ix2 r l) := by
  refine View.read_writes_cons_unit_of_mem v f _ w L y (ix2 r l) rfl fun a => ?_
  fin_cases a
  · show (y 0).val = 0 + r.val; omega
  · exact h1

theorem cpeel_ne {sp : Space} (v : View sig .tc sp S128x1024 .f32) (f : BufTy.Contents (Elt Ideal) v.ty)
    (n n' : Fin 8) (h : n' ≠ n) (w : FVec Ideal S128x128 .f32) (L : List (View.Piece (Elt Ideal) S128x1024 .f32)) (l : Fin 128)
    (y : S128x1024.Idx) (h1 : (y 1).val = 128 * n.val + l.val) :
    v.read (Elt Ideal) (v.writes (Elt Ideal) f (⟨col n', w⟩ :: L)) y = v.read (Elt Ideal) (v.writes (Elt Ideal) f L) y := by
  refine View.read_writes_cons_unit_of_not_mem v f _ w L y rfl 1 ?_
  have hn : n'.val ≠ n.val := fun h' => h (Fin.ext h')
  have hl := l.isLt
  show (y 1).val < 128 * n'.val ∨ 128 * n'.val + 128 ≤ (y 1).val
  omega

theorem read_cols {sp : Space} (v : View sig .tc sp S128x1024 .f32) (f : BufTy.Contents (Elt Ideal) v.ty)
    (w : Fin 8 → FVec Ideal S128x128 .f32) (n : Fin 8) (r l : Fin 128)
    (y : S128x1024.Idx) (h0 : (y 0).val = r.val) (h1 : (y 1).val = 128 * n.val + l.val) :
    v.read (Elt Ideal) (v.writes (Elt Ideal) f (cols w)) y = w n (ix2 r l) := by
  unfold cols
  fin_cases n <;>
    (repeat rw [cpeel_ne _ _ _ _ (by decide) _ _ l _ h1]) <;> exact cpeel_eq _ _ _ _ _ _ _ _ h0 h1

section
variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S1x8x1024 .f32) (harg5 : arg5.IsWhole)
  (arg6 : Memref sig .tc .vmem S1x1024 .f32) (harg6 : arg6.IsWhole)
  (arg7 : Memref sig .tc .vmem S128x1024 .bf16) (harg7 : arg7.IsWhole)
  (arg8 : Memref sig .tc .vmem S8x256x256 .bf16) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x128 .f32) (harg11 : arg11.IsWhole)
  (arg12 : Memref sig .tc .vmem S128x1024 .f32) (harg12 : arg12.IsWhole)
variable (x0 : Vec Ideal S128x1024 .bf16) (x1 x2 : Vec Ideal S2048x1024 .bf16) (x3 : Vec Ideal S1x8x1024 .f32)
 (x4 : Vec Ideal S1x1024 .f32)

abbrev X8 := arg8.view.writes (Elt Ideal) arg8.view.junk (kernelRun0_A.sl.HS0_8 (F := Ideal) c i arg2 harg2 arg5 harg5 x0 x3)
abbrev G9 := arg9.view.writes (Elt Ideal) arg9.view.junk (kernelRun0_A.sl.HS1_8 (F := Ideal) c i arg2 harg2 arg3 harg3 arg5 harg5 x0 x1 x3)
abbrev G10 := arg10.view.writes (Elt Ideal) arg10.view.junk (kernelRun0_A.sl.HS2_8 (F := Ideal) c i arg2 harg2 arg3 harg3 arg4 harg4 arg5 harg5 x0 x1 x2 x3)
abbrev G11 := arg11.view.writes (Elt Ideal) arg11.view.junk (kernelRun0_A.sl.HS3_8 (F := Ideal) c i arg2 harg2 arg3 harg3 arg4 harg4 arg5 harg5 x0 x1 x2 x3)

/-- What the loop writes over the scratch buffers. -/
abbrev loopPieces :=
  pb_k0_t1 (F := Ideal) Variants.none c none i arg2 harg2 arg3 harg3 arg4 harg4 arg5 harg5 arg6 harg6 arg7 harg7 arg8 harg8 arg9 harg9 arg10 harg10 arg11 harg11 arg12 harg12 (kernelRun0_A.sl.v16 i) (kernelRun0_A.sl.r_13 i) kernelRun0_A.sl.v260 k0_pay163
    (kernelRun0_A.sl.r_34 c i arg4 harg4 x2) (kernelRun0_A.sl.r_35 c i arg2 harg2 arg3 harg3 arg5 harg5 x0 x1 x3) (harg3.unread x1) (harg4.unread x2)
    (X8 c i arg2 harg2 arg5 harg5 arg8 x0 x3) (G9 c i arg2 harg2 arg3 harg3 arg5 harg5 arg9 x0 x1 x3)
    (G10 c i arg2 harg2 arg3 harg3 arg4 harg4 arg5 harg5 arg10 x0 x1 x2 x3)
    (G11 c i arg2 harg2 arg3 harg3 arg4 harg4 arg5 harg5 arg11 x0 x1 x2 x3) (k0_t1_loop i).trips

/-- What the loop that takes no turn writes: nothing. -/
abbrev restPieces (H9 : BufTy.Contents (Elt Ideal) arg9.view.ty) (H10 : BufTy.Contents (Elt Ideal) arg10.view.ty) (H11 : BufTy.Contents (Elt Ideal) arg11.view.ty) :=
  pb_k0_t2 (F := Ideal) Variants.none c none i arg2 harg2 arg3 harg3 arg4 harg4 arg5 harg5 arg6 harg6 arg7 harg7 arg8 harg8 arg9 harg9 arg10 harg10 arg11 harg11 arg12 harg12 (kernelRun0_A.sl.v16 i) (kernelRun0_A.sl.r_13 i) kernelRun0_A.sl.v260 k0_pay163
    (kernelRun0_A.sl.r_34 c i arg4 harg4 x2) (kernelRun0_A.sl.r_35 c i arg2 harg2 arg3 harg3 arg5 harg5 x0 x1 x3) (kernelRun0_A.sl.v667 i) (harg3.unread x1) (harg4.unread x2)
    (X8 c i arg2 harg2 arg5 harg5 arg8 x0 x3) H9 H10 H11 (k0_t2_loop i).trips

theorem rest_none (H9 : BufTy.Contents (Elt Ideal) arg9.view.ty) (H10 : BufTy.Contents (Elt Ideal) arg10.view.ty) (H11 : BufTy.Contents (Elt Ideal) arg11.view.ty) :
    restPieces c i arg2 harg2 arg3 harg3 arg4 harg4 arg5 harg5 arg6 harg6 arg7 harg7 arg8 harg8 arg9 harg9 arg10 harg10 arg11 harg11 arg12 harg12 x0 x1 x2 x3 H9 H10 H11 = ([], [], []) := by
  unfold restPieces
  rw [no_turns]
  rfl

abbrev H9 := arg9.view.writes (Elt Ideal) arg9.view.junk ((loopPieces c i arg2 harg2 arg3 harg3 arg4 harg4 arg5 harg5 arg6 harg6 arg7 harg7 arg8 harg8 arg9 harg9 arg10 harg10 arg11 harg11 arg12 harg12 x0 x1 x2 x3).1 ++ (kernelRun0_A.sl.HS1_8 (F := Ideal) c i arg2 harg2 arg3 harg3 arg5 harg5 x0 x1 x3))
abbrev H10 := arg10.view.writes (Elt Ideal) arg10.view.junk ((loopPieces c i arg2 harg2 arg3 harg3 arg4 harg4 arg5 harg5 arg6 harg6 arg7 harg7 arg8 harg8 arg9 harg9 arg10 harg10 arg11 harg11 arg12 harg12 x0 x1 x2 x3).2.1 ++ (kernelRun0_A.sl.HS2_8 (F := Ideal) c i arg2 harg2 arg3 harg3 arg4 harg4 arg5 harg5 x0 x1 x2 x3))
abbrev H11 := arg11.view.writes (Elt Ideal) arg11.view.junk ((loopPieces c i arg2 harg2 arg3 harg3 arg4 harg4 arg5 harg5 arg6 harg6 arg7 harg7 arg8 harg8 arg9 harg9 arg10 harg10 arg11 harg11 arg12 harg12 x0 x1 x2 x3).2.2 ++ (kernelRun0_A.sl.HS3_8 (F := Ideal) c i arg2 harg2 arg3 harg3 arg4 harg4 arg5 harg5 x0 x1 x2 x3))

abbrev finalL (n : Fin 8) : Vec Ideal S1x256x128 .f32 :=
  arg10.view.readCov ((restPieces c i arg2 harg2 arg3 harg3 arg4 harg4 arg5 harg5 arg6 harg6 arg7 harg7 arg8 harg8 arg9 harg9 arg10 harg10 arg11 harg11 arg12 harg12 x0 x1 x2 x3 (H9 c i arg2 harg2 arg3 harg3 arg4 harg4 arg5 harg5 arg6 harg6 arg7 harg7 arg8 harg8 arg9 harg9 arg10 harg10 arg11 harg11 arg12 harg12 x0 x1 x2 x3) (H10 c i arg2 harg2 arg3 harg3 arg4 harg4 arg5 harg5 arg6 harg6 arg7 harg7 arg8 harg8 arg9 harg9 arg10 harg10 arg11 harg11 arg12 harg12 x0 x1 x2 x3) (H11 c i arg2 harg2 arg3 harg3 arg4 harg4 arg5 harg5 arg6 harg6 arg7 harg7 arg8 harg8 arg9 harg9 arg10 harg10 arg11 harg11 arg12 harg12 x0 x1 x2 x3)).2.1 ++ ((loopPieces c i arg2 harg2 arg3 harg3 arg4 harg4 arg5 harg5 arg6 harg6 arg7 harg7 arg8 harg8 arg9 harg9 arg10 harg10 arg11 harg11 arg12 harg12 x0 x1 x2 x3).2.1 ++ (kernelRun0_A.sl.HS2_8 (F := Ideal) c i arg2 harg2 arg3 harg3 arg4 harg4 arg5 harg5 x0 x1 x2 x3))) (slab n).toLoadRect
abbrev finalA (n : Fin 8) : Vec Ideal S1x256x128 .f32 :=
  arg11.view.readCov ((restPieces c i arg2 harg2 arg3 harg3 arg4 harg4 arg5 harg5 arg6 harg6 arg7 harg7 arg8 harg8 arg9 harg9 arg10 harg10 arg11 harg11 arg12 harg12 x0 x1 x2 x3 (H9 c i arg2 harg2 arg3 harg3 arg4 harg4 arg5 harg5 arg6 harg6 arg7 harg7 arg8 harg8 arg9 harg9 arg10 harg10 arg11 harg11 arg12 harg12 x0 x1 x2 x3) (H10 c i arg2 harg2 arg3 harg3 arg4 harg4 arg5 harg5 arg6 harg6 arg7 harg7 arg8 harg8 arg9 harg9 arg10 harg10 arg11 harg11 arg12 harg12 x0 x1 x2 x3) (H11 c i arg2 harg2 arg3 harg3 arg4 harg4 arg5 harg5 arg6 harg6 arg7 harg7 arg8 harg8 arg9 harg9 arg10 harg10 arg11 harg11 arg12 harg12 x0 x1 x2 x3)).2.2 ++ ((loopPieces c i arg2 harg2 arg3 harg3 arg4 harg4 arg5 harg5 arg6 harg6 arg7 harg7 arg8 harg8 arg9 harg9 arg10 harg10 arg11 harg11 arg12 harg12 x0 x1 x2 x3).2.2 ++ (kernelRun0_A.sl.HS3_8 (F := Ideal) c i arg2 harg2 arg3 harg3 arg4 harg4 arg5 harg5 x0 x1 x2 x3))) (slab n).toLoadRect

theorem finish : kernelRun0_A.sl.HS4_8 (F := Ideal) c i arg2 harg2 arg3 harg3 arg4 harg4 arg5 harg5 arg6 harg6 arg7 harg7 arg8 harg8 arg9 harg9 arg10 harg10 arg11 harg11 arg12 harg12 x0 x1 x2 x3
    = cols fun n => outTile (finalA c i arg2 harg2 arg3 harg3 arg4 harg4 arg5 harg5 arg6 harg6 arg7 harg7 arg8 harg8 arg9 harg9 arg10 harg10 arg11 harg11 arg12 harg12 x0 x1 x2 x3 n)
        (finalL c i arg2 harg2 arg3 harg3 arg4 harg4 arg5 harg5 arg6 harg6 arg7 harg7 arg8 harg8 arg9 harg9 arg10 harg10 arg11 harg11 arg12 harg12 x0 x1 x2 x3 n) := rfl

theorem final_sums (n : Fin 8) :
    finalL c i arg2 harg2 arg3 harg3 arg4 harg4 arg5 harg5 arg6 harg6 arg7 harg7 arg8 harg8 arg9 harg9 arg10 harg10 arg11 harg11 arg12 harg12 x0 x1 x2 x3 n = seqL (kernelRun0_A.sl.r_13 i) (tq c arg2 harg2 x0) (tb c i arg2 harg2 arg5 harg5 x0 x3) x1 x2 (blockOf i) (blockOf i) n ∧
    finalA c i arg2 harg2 arg3 harg3 arg4 harg4 arg5 harg5 arg6 harg6 arg7 harg7 arg8 harg8 arg9 harg9 arg10 harg10 arg11 harg11 arg12 harg12 x0 x1 x2 x3 n = seqA (kernelRun0_A.sl.r_13 i) (tq c arg2 harg2 x0) (tb c i arg2 harg2 arg5 harg5 x0 x3) x1 x2 (blockOf i) (blockOf i) n := by
  have hq : ∀ n, arg8.view.readAt (Elt Ideal) (qslab n).toLoadRect (X8 c i arg2 harg2 arg5 harg5 arg8 x0 x3)
      = lhs0 (tq c arg2 harg2 x0) (tb c i arg2 harg2 arg5 harg5 x0 x3) n := fun n => by
    unfold X8
    rw [start_q, read_qslabs]
  have ht : (k0_t1_loop i).trips = blockOf i := turns i
  have h := loop_state Variants.none c none i arg2 harg2 arg3 harg3 arg4 harg4 arg5 harg5 arg6 harg6 arg7 harg7 arg8 harg8 arg9 harg9 arg10 harg10 arg11 harg11 arg12 harg12
    (kernelRun0_A.sl.v16 i) (kernelRun0_A.sl.r_13 i) kernelRun0_A.sl.v260 k0_pay163
    (kernelRun0_A.sl.r_34 c i arg4 harg4 x2) (kernelRun0_A.sl.r_35 c i arg2 harg2 arg3 harg3 arg5 harg5 x0 x1 x3) (harg3.unread x1) (harg4.unread x2)
    (X8 c i arg2 harg2 arg5 harg5 arg8 x0 x3) (G9 c i arg2 harg2 arg3 harg3 arg5 harg5 arg9 x0 x1 x3)
    (G10 c i arg2 harg2 arg3 harg3 arg4 harg4 arg5 harg5 arg10 x0 x1 x2 x3)
    (G11 c i arg2 harg2 arg3 harg3 arg4 harg4 arg5 harg5 arg11 x0 x1 x2 x3)
    (seqM (kernelRun0_A.sl.r_13 i) (tq c arg2 harg2 x0) (tb c i arg2 harg2 arg5 harg5 x0 x3) x1 (blockOf i)) (seqL (kernelRun0_A.sl.r_13 i) (tq c arg2 harg2 x0) (tb c i arg2 harg2 arg5 harg5 x0 x3) x1 x2 (blockOf i)) (seqA (kernelRun0_A.sl.r_13 i) (tq c arg2 harg2 x0) (tb c i arg2 harg2 arg5 harg5 x0 x3) x1 x2 (blockOf i))
    (fun n => by unfold G9; rw [start_m, ← List.append_nil (slabs _), read_slabs, ts, read_own]; rfl)
    (fun n => by unfold G10; rw [start_l, ← List.append_nil (slabs _), read_slabs, ts, tv, read_own, read_own]; rfl)
    (fun n => by unfold G11; rw [start_a, ← List.append_nil (slabs _), read_slabs, ts, tv, read_own, read_own]; rfl)
    (fun k n => by rw [read_past, hq]; rfl)
    (fun k n => by rw [read_past, read_past, hq]; rfl)
    (fun k n => by rw [read_past, read_past, hq]; rfl)
    (k0_t1_loop i).trips le_rfl
  obtain ⟨-, hL, hA⟩ := h
  constructor
  · refine Eq.trans ?_ ((hL n).trans (by rw [ht]))
    unfold finalL
    rw [rest_none, List.nil_append]
    show arg10.view.readAt (Elt Ideal) _ (arg10.view.writes (Elt Ideal) arg10.view.junk (_ ++ _)) = _
    rw [View.writes_append]
  · refine Eq.trans ?_ ((hA n).trans (by rw [ht]))
    unfold finalA
    rw [rest_none, List.nil_append]
    show arg11.view.readAt (Elt Ideal) _ (arg11.view.writes (Elt Ideal) arg11.view.junk (_ ++ _)) = _
    rw [View.writes_append]

/-- The attention result of the whole tile, before the norm. -/
abbrev tileOut : FVec Ideal S128x1024 .f32 := kernelRun0_A.sl.v772 (F := Ideal) c i arg2 harg2 arg3 harg3 arg4 harg4 arg5 harg5 arg6 harg6 arg7 harg7 arg8 harg8 arg9 harg9 arg10 harg10 arg11 harg11 arg12 harg12 x0 x1 x2 x3

theorem tileOut_at (n : Fin 8) (r l : Fin 128) (j : Fin 1024) (hj : j.val = 128 * n.val + l.val) :
    tileOut c i arg2 harg2 arg3 harg3 arg4 harg4 arg5 harg5 arg6 harg6 arg7 harg7 arg8 harg8 arg9 harg9 arg10 harg10 arg11 harg11 arg12 harg12 x0 x1 x2 x3 (ix2 r j)
      = outTile (seqA (kernelRun0_A.sl.r_13 i) (tq c arg2 harg2 x0) (tb c i arg2 harg2 arg5 harg5 x0 x3) x1 x2 (blockOf i) (blockOf i) n) (seqL (kernelRun0_A.sl.r_13 i) (tq c arg2 harg2 x0) (tb c i arg2 harg2 arg5 harg5 x0 x3) x1 x2 (blockOf i) (blockOf i) n) (ix2 r l) := by
  obtain ⟨hL, hA⟩ := final_sums c i arg2 harg2 arg3 harg3 arg4 harg4 arg5 harg5 arg6 harg6 arg7 harg7 arg8 harg8 arg9 harg9 arg10 harg10 arg11 harg11 arg12 harg12 x0 x1 x2 x3 n
  rw [← hL, ← hA]
  show arg12.view.read (Elt Ideal) (arg12.view.writes (Elt Ideal) arg12.view.junk (kernelRun0_A.sl.HS4_8 (F := Ideal) c i arg2 harg2 arg3 harg3 arg4 harg4 arg5 harg5 arg6 harg6 arg7 harg7 arg8 harg8 arg9 harg9 arg10 harg10 arg11 harg11 arg12 harg12 x0 x1 x2 x3)) _ = _
  rw [finish]
  refine read_cols _ _ _ n r l _ ?_ ?_
  · show 0 + 1 * r.val = r.val; omega
  · show 0 + 1 * j.val = _; omega

theorem body_out : (kernelRun0_A (F := Ideal) c i arg2 harg2 arg3 harg3 arg4 harg4 arg5 harg5 arg6 harg6 arg7 harg7 arg8 harg8 arg9 harg9 arg10 harg10 arg11 harg11 arg12 harg12 x0 x1 x2 x3 x4).1
    = [⟨Rect.unit ![0, 0] S128x1024.size inb_S128x1024_S128x1024_0_0,
        k0_pay1 (tileOut c i arg2 harg2 arg3 harg3 arg4 harg4 arg5 harg5 arg6 harg6 arg7 harg7 arg8 harg8 arg9 harg9 arg10 harg10 arg11 harg11 arg12 harg12 x0 x1 x2 x3) (k0_pay268 (tileOut c i arg2 harg2 arg3 harg3 arg4 harg4 arg5 harg5 arg6 harg6 arg7 harg7 arg8 harg8 arg9 harg9 arg10 harg10 arg11 harg11 arg12 harg12 x0 x1 x2 x3))
          (arg6.view.readAt (Elt Ideal) (Rect.unit ![0, 0] S1x1024.size inb_S1x1024_S1x1024_0_0).toLoadRect (harg6.unread x4))⟩] := by
  unfold kernelRun0_A
  rfl
end
end Cert.KernelIdeal.Moba
-- ==== Proof.Weights.lean ====
module
public import Idealize.ShloMosaic.Lib.Pointwise
@[expose] public section
set_option maxRecDepth 16384
noncomputable section
/-! One row of a softmax taken block by block.

A score is never `⊤`. Its weight is `exp` of it, zero for a score of `⊥`, and a row's result is the
weighted sum of the values over the sum of the weights, whatever maximum was subtracted on the way. -/
namespace Cert.Moba
open Idealize.ShloMosaic

/-- A score's weight. -/
def weight (x : EReal) : ℝ := if x = ⊥ then 0 else Real.exp x.toReal

theorem weight_nonneg (x : EReal) : 0 ≤ weight x := by
  unfold weight; split
  · exact le_rfl
  · exact (Real.exp_pos _).le

theorem weight_pos {x : EReal} (h : x ≠ ⊥) : 0 < weight x := by
  unfold weight; rw [if_neg h]; exact Real.exp_pos _

@[simp] theorem weight_bot : weight ⊥ = 0 := by simp [weight]

theorem exp_sub_real {x : EReal} (hx : x ≠ ⊤) (μ : ℝ) :
    Ideal.exp (x - (μ : EReal)) = ((Real.exp (-μ) * weight x : ℝ) : EReal) := by
  induction x using EReal.rec with
  | bot => simp
  | top => exact absurd rfl hx
  | coe r =>
    rw [← EReal.coe_sub, Ideal.exp_coe, weight, if_neg (EReal.coe_ne_bot r), EReal.toReal_coe, ← Real.exp_add]
    congr 2; ring

/-- A nonnegative real factor comes out of a sum. -/
theorem real_mul_sum {ι : Type} (s : Finset ι) {e : ℝ} (he : 0 ≤ e) (f : ι → EReal) :
    (e : EReal) * ∑ i ∈ s, f i = ∑ i ∈ s, (e : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr he) (EReal.coe_ne_top e) _ _

theorem real_mul_add {e : ℝ} (he : 0 ≤ e) (a b : EReal) : (e : EReal) * (a + b) = (e : EReal) * a + (e : EReal) * b :=
  EReal.left_distrib_of_nonneg_of_ne_top (EReal.coe_nonneg.mpr he) (EReal.coe_ne_top e) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_eq {ι : Type} (s : Finset ι) (b : EReal) (f : ι → EReal) :
    s.fold max b f = max b (s.sup f) := by
  classical
  induction s using Finset.induction_on with
  | empty => simp
  | insert a s ha ih => rw [Finset.fold_insert ha, ih, Finset.sup_insert]; exact max_left_comm _ _ _

theorem fold_max_lt_top {ι : Type} [Fintype ι] (f : ι → EReal) (hf : ∀ i, f i ≠ ⊤) :
    Finset.univ.fold max (⊥ : EReal) f < ⊤ := by
  rw [fold_max_eq]
  exact max_lt bot_lt_top ((Finset.sup_lt_iff bot_lt_top).mpr fun i _ => lt_top_iff_ne_top.mpr (hf i))

/-- A largest score that is `⊤` nowhere and not `⊥` everywhere is a real number. -/
theorem fold_max_real {ι : Type} [Fintype ι] (f : ι → EReal) (hf : ∀ i, f i ≠ ⊤) (i₀ : ι) (h₀ : f i₀ ≠ ⊥) :
    ∃ μ : ℝ, Finset.univ.fold max (⊥ : EReal) f = (μ : EReal) := by
  have hlt : Finset.univ.fold max (⊥ : EReal) f < ⊤ := fold_max_lt_top f hf
  have hle : f i₀ ≤ Finset.univ.fold max (⊥ : EReal) f := by
    rw [fold_max_eq]; exact (Finset.le_sup (f := f) (Finset.mem_univ i₀)).trans (le_max_right _ _)
  have hbot : Finset.univ.fold max (⊥ : EReal) f ≠ ⊥ := fun e => h₀ (le_bot_iff.mp (e ▸ hle))
  exact ⟨_, (EReal.coe_toReal hlt.ne hbot).symm⟩

theorem max_fold_real {ι : Type} [Fintype ι] (f : ι → EReal) (hf : ∀ i, f i ≠ ⊤) (m : ℝ) :
    ∃ μ : ℝ, max (m : EReal) (Finset.univ.fold max (⊥ : EReal) f) = (μ : EReal) := by
  have hlt : Finset.univ.fold max (⊥ : EReal) f < ⊤ := fold_max_lt_top f hf
  have h1 : max (m : EReal) (Finset.univ.fold max (⊥ : EReal) f) ≠ ⊤ := (max_lt (EReal.coe_lt_top m) hlt).ne
  have h2 : max (m : EReal) (Finset.univ.fold max (⊥ : EReal) f) ≠ ⊥ :=
    fun e => EReal.coe_ne_bot m (le_bot_iff.mp (e ▸ le_max_left _ _))
  exact ⟨_, (EReal.coe_toReal h1 h2).symm⟩

/-- A row after some blocks: its maximum so far is `μ`, its sums are those of the weights scaled by
`exp (-μ)`. -/
def Row (μ : ℝ) (M L A : EReal) (W : ℝ) (V : EReal) : Prop :=
  M = (μ : EReal) ∧ L = ((Real.exp (-μ) * W : ℝ) : EReal) ∧ A = (Real.exp (-μ) : ℝ) * V

/-- The row's first block. -/
theorem Row.start {ι : Type} [Fintype ι] (s v : ι → EReal) (hs : ∀ i, s i ≠ ⊤) (μ : ℝ) :
    Row μ μ (∑ i, Ideal.exp (s i - μ) * 1) (∑ i, Ideal.exp (s i - μ) * v i)
      (∑ i, weight (s i)) (∑ i, (weight (s i) : EReal) * v i) := by
  refine ⟨rfl, ?_, ?_⟩
  · rw [Finset.mul_sum, coe_sum]
    exact Finset.sum_congr rfl fun i _ => by rw [exp_sub_real (hs i), mul_one]
  · rw [real_mul_sum _ (Real.exp_pos _).le]
    exact Finset.sum_congr rfl fun i _ => by rw [exp_sub_real (hs i), EReal.coe_mul, mul_assoc]

/-- One more block. -/
theorem Row.step {ι : Type} [Fintype ι] {μ : ℝ} {M L A : EReal} {W : ℝ} {V : EReal} (h : Row μ M L A W V)
    (s v : ι → EReal) (hs : ∀ i, s i ≠ ⊤) (μ' : ℝ) :
    Row μ' μ' (Ideal.exp (M - μ') * L + ∑ i, Ideal.exp (s i - μ') * 1)
      (Ideal.exp (M - μ') * A + ∑ i, Ideal.exp (s i - μ') * v i)
      (W + ∑ i, weight (s i)) (V + ∑ i, (weight (s i) : EReal) * v i) := by
  obtain ⟨hM, hL, hA⟩ := h
  obtain ⟨-, s2, s3⟩ := Row.start s v hs μ'
  have e : Ideal.exp (M - μ') = ((Real.exp (μ - μ') : ℝ) : EReal) := by
    rw [hM, ← EReal.coe_sub, Ideal.exp_coe]
  have e2 : Real.exp (μ - μ') * Real.exp (-μ) = Real.exp (-μ') := by
    rw [← Real.exp_add]; congr 1; ring
  refine ⟨rfl, ?_, ?_⟩
  · rw [s2, e, hL, ← EReal.coe_mul, ← EReal.coe_add, mul_add, ← mul_assoc, e2]
  · rw [s3, e, hA, ← mul_assoc, ← EReal.coe_mul, e2, real_mul_add (Real.exp_pos _).le]

/-- The row's result. -/
theorem Row.quotient {μ : ℝ} {M L A : EReal} {W : ℝ} {V : EReal} (h : Row μ M L A W V) (hW : 0 < W) :
    Ideal.div A L = V * ((1 / W : ℝ) : EReal) := by
  obtain ⟨-, hL, hA⟩ := h
  have h0 : Real.exp (-μ) ≠ 0 := (Real.exp_pos _).ne'
  rw [hL, hA, Ideal.div_coe (mul_ne_zero h0 hW.ne'), mul_comm ((Real.exp (-μ) : ℝ) : EReal) V, mul_assoc, ← EReal.coe_mul]
  congr 2
  field_simp

/-- A softmax over a whole row: the weighted sum of the values over the sum of the weights. -/
theorem softmax_row {ι : Type} [Fintype ι] (s v : ι → EReal) (hs : ∀ i, s i ≠ ⊤) (i₀ : ι) (h₀ : s i₀ ≠ ⊥) (μ : ℝ) :
    ∑ i, v i * Ideal.div (Ideal.exp (s i - μ)) (∑ j, Ideal.exp (s j - μ))
      = (∑ i, (weight (s i) : EReal) * v i) * ((1 / ∑ i, weight (s i) : ℝ) : EReal) := by
  have hW : 0 < ∑ i, weight (s i) :=
    Finset.sum_pos' (fun i _ => weight_nonneg _) ⟨i₀, Finset.mem_univ _, weight_pos h₀⟩
  have hsum : ∑ j, Ideal.exp (s j - μ) = ((Real.exp (-μ) * ∑ i, weight (s i) : ℝ) : EReal) := by
    have h := (Row.start s v hs μ).2.1
    simpa only [mul_one] using h
  have h0 : Real.exp (-μ) ≠ 0 := (Real.exp_pos _).ne'
  rw [hsum, mul_comm (∑ i, (weight (s i) : EReal) * v i), real_mul_sum _ (by positivity)]
  refine Finset.sum_congr rfl fun i _ => ?_
  rw [exp_sub_real (hs i), Ideal.div_coe (mul_ne_zero h0 hW.ne'), ← EReal.coe_mul, ← mul_assoc, ← EReal.coe_mul, mul_comm]
  congr 2
  field_simp

end Cert.Moba
-- ==== Proof.Pure.lean ====
module
public import proofs.«01_k».proof.Proof.Finish
public import proofs.«01_k».proof.Proof.Weights
@[expose] public section
set_option maxRecDepth 16384
noncomputable section
/-! The loop's functions read at one row and one lane. -/
namespace Cert.KernelIdeal.Moba
open Idealize.ShloMosaic Idealize.ShloMosaic.TcCoe Idealize.ShloMosaic.Tactic Idealize.SL.Sem
open Cert.KernelIdeal Cert.KernelIdeal.Gen Cert.Moba

theorem ofBits_neg_inf : (Ideal.ofBits .f32 0xFF800000#32 : EReal) = ⊥ := by
  simp [Ideal.ofBits, Ideal.ieee]

theorem mask_bot : (Named.named κ "mask" 0xF149F2CA#32 : Ideal .f32) = (⊥ : EReal) :=
  (IdealRules.named_const.statement Cert.KernelIdeal.κ "mask" .f32 0xF149F2CA#32 ⊥ rfl).2.2

theorem lane_slt : ∀ l : Fin 128, IntOp.cmpi .slt (BitVec.ofNat 32 l.val) 64#32 = if l.val < 64 then 1#1 else 0#1 := by
  decide +kernel

theorem lane_sge : ∀ l : Fin 128, IntOp.cmpi .sge (BitVec.ofNat 32 l.val) 64#32 = if l.val < 64 then 0#1 else 1#1 := by
  decide +kernel

theorem select_ite {α : Type} (p : Prop) [Decidable p] (a b : α) :
    Scalar.select (if p then 1#1 else 0#1) a b = if p then a else b := by
  by_cases h : p <;> simp [Scalar.select, h]

theorem select_ite' {α : Type} (p : Prop) [Decidable p] (a b : α) :
    Scalar.select (if p then 0#1 else 1#1) a b = if p then b else a := by
  by_cases h : p <;> simp [Scalar.select, h]

/-- Row `r` of head `2 n + u` among the rows of head pair `n`. -/
def pairRow (u : Fin 2) (r : Fin 128) : Fin 256 := ⟨128 * u.val + r.val, by omega⟩

/-- The head with number `u` in pair `n`. -/
def headOf (n : Fin 8) (u : Fin 2) : Fin 16 := ⟨2 * n.val + u.val, by omega⟩

/-- One query row's product with one key row, over the columns of head `h`. -/
def headDot (q : Vec Ideal S128x1024 .bf16) (x : Vec Ideal S2048x1024 .bf16) (h : Fin 16) (r : Fin 128) (t : Fin 2048) : EReal :=
  ∑ d : Fin 64, q (ix2 r ⟨64 * h.val + d.val, by omega⟩) * x (ix2 t ⟨64 * h.val + d.val, by omega⟩)

section rows
variable (q : FVec Ideal S128x1024 .bf16) (b : FVec Ideal S128x128 .f32) (n : Fin 8)

theorem lhs_rows (r l : Fin 256) : lhs0 q b n (ix3 0 r l) = queryRows q b n (ix2 r l) := by
  pointwise [lhs0]

theorem rows_key (u : Fin 2) (r l : Fin 128) :
    queryRows q b n (ix2 (pairRow u r) ⟨l.val, by omega⟩)
      = if l.val / 64 = u.val then q (ix2 r ⟨128 * n.val + l.val, by omega⟩) else 0 := by
  match u with
  | 0 =>
    have e : pairRow 0 r = ⟨r.val, by omega⟩ := Fin.ext (by simp [pairRow])
    rw [e]
    pointwise [queryRows, pairQ, lanes]
    rw [lane_slt, select_ite]
    exact if_congr (by show _ ↔ l.val / 64 = 0; omega) rfl rfl
  | 1 =>
    have e : pairRow 1 r = ⟨128 + r.val, by omega⟩ := Fin.ext (by simp [pairRow])
    rw [e]
    pointwise [queryRows, pairQ, lanes]
    rw [lane_sge, select_ite']
    by_cases h : l.val < 64
    · rw [if_pos h, if_neg (by show ¬ l.val / 64 = 1; omega)]
    · rw [if_neg h, if_pos (by show l.val / 64 = 1; omega)]

theorem even_at (r : Fin 128) (j : Fin 8) :
    evenBias b n (ix2 r ⟨j.val, by omega⟩) = b (ix2 r ⟨8 * (2 * n.val) + j.val, by omega⟩) := by
  unfold evenBias
  split
  · rename_i h; subst h
    exact congrArg b (congrArg (ix2 r) (Fin.ext (by simp)))
  · rename_i h
    have hn : 0 < n.val := Nat.pos_of_ne_zero fun e => h (Fin.ext e)
    pointwise []
    refine congrArg b (congrArg (ix2 r) (Fin.ext ?_))
    have hs : (BitVec.ofNat 32 (128 - 16 * n.val)).toNat = 128 - 16 * n.val := by
      rw [BitVec.toNat_ofNat]; omega
    show (j.val + 128 - (BitVec.ofNat 32 (128 - 16 * n.val)).toNat % 128) % 128 = 8 * (2 * n.val) + j.val
    rw [hs]; omega

theorem odd_at (r : Fin 128) (j : Fin 8) :
    oddBias b n (ix2 r ⟨j.val, by omega⟩) = b (ix2 r ⟨8 * (2 * n.val + 1) + j.val, by omega⟩) := by
  unfold oddBias
  pointwise []
  refine congrArg b (congrArg (ix2 r) (Fin.ext ?_))
  have hs : (BitVec.ofNat 32 (120 - 16 * n.val)).toNat = 120 - 16 * n.val := by
    rw [BitVec.toNat_ofNat]; omega
  show (j.val + 128 - (BitVec.ofNat 32 (120 - 16 * n.val)).toNat % 128) % 128 = 8 * (2 * n.val + 1) + j.val
  rw [hs]; omega

theorem rows_choice (u : Fin 2) (r : Fin 128) (j : Fin 8) :
    queryRows q b n (ix2 (pairRow u r) ⟨128 + j.val, by omega⟩)
      = b (ix2 r ⟨8 * (headOf n u).val + j.val, by have := (headOf n u).isLt; omega⟩) := by
  match u with
  | 0 =>
    have e : pairRow 0 r = ⟨r.val, by omega⟩ := Fin.ext (by simp [pairRow])
    rw [e]
    have h := even_at b n r j
    pointwise [queryRows]
    exact h
  | 1 =>
    have e : pairRow 1 r = ⟨128 + r.val, by omega⟩ := Fin.ext (by simp [pairRow])
    rw [e]
    have h := odd_at b n r j
    pointwise [queryRows]
    exact h

theorem key_sum (x : Vec Ideal S2048x1024 .bf16) (k : ℕ) (u : Fin 2) (r : Fin 128) (c : Fin 256) :
    ∑ l : Fin 128, queryRows q b n (ix2 (pairRow u r) ⟨l.val, by omega⟩) * kblk x k n (ix2 c l)
      = headDot q x (headOf n u) r ⟨(256 * k + c.val) % 2048, Nat.mod_lt _ (by decide)⟩ := by
  simp only [rows_key]
  have hk : ∀ l : Fin 128, kblk x k n (ix2 c l)
      = x (ix2 ⟨(256 * k + c.val) % 2048, Nat.mod_lt _ (by decide)⟩ ⟨128 * n.val + l.val, by omega⟩) := fun l => rfl
  simp only [hk]
  rw [show (∑ l : Fin 128, (if l.val / 64 = u.val then q (ix2 r ⟨128 * n.val + l.val, by omega⟩) else (0 : EReal))
        * x (ix2 ⟨(256 * k + c.val) % 2048, Nat.mod_lt _ (by decide)⟩ ⟨128 * n.val + l.val, by omega⟩) : EReal)
      = ∑ l : Fin (64 + 64), (if l.val / 64 = u.val then q (ix2 r ⟨128 * n.val + l.val, by omega⟩) else (0 : EReal))
        * x (ix2 ⟨(256 * k + c.val) % 2048, Nat.mod_lt _ (by decide)⟩ ⟨128 * n.val + l.val, by omega⟩) from rfl]
  rw [Fin.sum_univ_add]
  unfold headDot
  match u with
  | 0 =>
    have h2 : ∀ d : Fin 64, ¬ (Fin.natAdd 64 d).val / 64 = (0 : Fin 2).val := fun d => by
      show ¬ (64 + d.val) / 64 = 0; omega
    have h1 : ∀ d : Fin 64, (Fin.castAdd 64 d).val / 64 = (0 : Fin 2).val := fun d => by
      show d.val / 64 = 0; omega
    simp only [if_neg (h2 _), if_pos (h1 _), zero_mul, Finset.sum_const_zero, add_zero]
    refine Finset.sum_congr rfl fun d _ => ?_
    have e : (⟨128 * n.val + (Fin.castAdd 64 d).val, by have : (Fin.castAdd 64 d).val = d.val := rfl; omega⟩ : Fin 1024)
        = ⟨64 * (headOf n 0).val + d.val, by have := (headOf n 0).isLt; omega⟩ := Fin.ext (by
      show 128 * n.val + d.val = 64 * (2 * n.val + 0) + d.val; omega)
    rw [e]
  | 1 =>
    have h2 : ∀ d : Fin 64, (Fin.natAdd 64 d).val / 64 = (1 : Fin 2).val := fun d => by
      show (64 + d.val) / 64 = 1; omega
    have h1 : ∀ d : Fin 64, ¬ (Fin.castAdd 64 d).val / 64 = (1 : Fin 2).val := fun d => by
      show ¬ d.val / 64 = 1; omega
    simp only [if_pos (h2 _), if_neg (h1 _), zero_mul, Finset.sum_const_zero, zero_add]
    refine Finset.sum_congr rfl fun d _ => ?_
    have e : (⟨128 * n.val + (Fin.natAdd 64 d).val, by have : (Fin.natAdd 64 d).val = 64 + d.val := rfl; omega⟩ : Fin 1024)
        = ⟨64 * (headOf n 1).val + d.val, by have := (headOf n 1).isLt; omega⟩ := Fin.ext (by
      show 128 * n.val + (64 + d.val) = 64 * (2 * n.val + 1) + d.val; omega)
    rw [e]
end rows

theorem marker_word : ∀ (k : Fin 8) (x : Fin 128),
    IntOp.cmpi CmpIPredicate.eq (BitVec.ofNat 32 x.val) (Scf.iv 0#32 1#32 k.val) = if x.val = k.val then 1#1 else 0#1 := by
  decide +kernel

/-- A past block's score: the product, plus zero where the block is chosen and `⊥` where it is not. -/
theorem past_score (q : FVec Ideal S128x1024 .bf16) (b : FVec Ideal S128x128 .f32) (x : Vec Ideal S2048x1024 .bf16)
    (k : Fin 8) (n : Fin 8) (u : Fin 2) (r : Fin 128) (c : Fin 256) :
    scores (mark k.val) (kblk x k.val n) (lhs0 q b n) (ix2 (pairRow u r) c)
      = headDot q x (headOf n u) r ⟨(256 * k.val + c.val) % 2048, Nat.mod_lt _ (by decide)⟩
        + b (ix2 r ⟨8 * (headOf n u).val + k.val, by have := (headOf n u).isLt; omega⟩) := by
  rw [← rows_choice q b n u r k, ← key_sum q b n x k.val u r c]
  pointwise [scores, mark, marker]
  simp only [lhs_rows]
  congr 1
  simp only [marker_word, select_ite]
  rw [Finset.sum_eq_single (⟨k.val, by omega⟩ : Fin 128)]
  · rw [if_pos rfl]
  · intro y _ hy
    rw [if_neg fun e => hy (Fin.ext e)]
  · intro h; exact absurd (Finset.mem_univ _) h

theorem own_score (see : IVec S256x256 1) (row0 o : ℕ) (r : Fin 128) (u : Fin 2)
    (hsee : ∀ c : Fin 256, see (ix2 (pairRow u r) c) = if c.val ≤ r.val + row0 then 1#1 else 0#1)
    (q : FVec Ideal S128x1024 .bf16) (b : FVec Ideal S128x128 .f32) (x : Vec Ideal S2048x1024 .bf16)
    (n : Fin 8) (c : Fin 256) :
    own0 see q b x o n (ix2 (pairRow u r) c)
      = if c.val ≤ r.val + row0 then
          headDot q x (headOf n u) r ⟨(256 * o + c.val) % 2048, Nat.mod_lt _ (by decide)⟩ else ⊥ := by
  rw [← key_sum q b n x o u r c]
  unfold own0
  pointwise [ownScores]
  rw [hsee, select_ite, mask_bot]

theorem halves (f : Fin 256 → EReal) :
    (∑ x : Fin 128, f ⟨x.val, by omega⟩ + ∑ x : Fin 128, f ⟨128 + x.val, by omega⟩) = ∑ c : Fin 256, f c := by
  rw [show (∑ c : Fin 256, f c) = ∑ c : Fin (128 + 128), f c from rfl, Fin.sum_univ_add]
  rfl

section steps
variable (mk : FVec Ideal S256x128 .bf16) (kt vt : Vec Ideal S256x128 .bf16) (lhs : Vec Ideal S1x256x256 .bf16)
  (s : FVec Ideal S256x256 .f32) (m x : Vec Ideal S1x256x128 .f32) (r : Fin 256) (l : Fin 128)

theorem m0_at : m0 s (ix3 0 r l) = Finset.univ.fold max (⊥ : EReal) fun c : Fin 256 => s (ix2 r c) := by
  pointwise [m0, reslab, ownMax]
  rw [ofBits_neg_inf]

theorem l0_at : l0 k0_pay163 vt s (ix3 0 r l)
    = ∑ c : Fin 256, Ideal.exp (s (ix2 r c) - Finset.univ.fold max (⊥ : EReal) fun c : Fin 256 => s (ix2 r c)) * 1 := by
  pointwise [l0, reslab, rightHalf, ownWeigh, ownMax, k0_pay163]
  simp only [ofBits_neg_inf, mul_one]

theorem a0_at : a0 k0_pay163 vt s (ix3 0 r l)
    = ∑ c : Fin 256, Ideal.exp (s (ix2 r c) - Finset.univ.fold max (⊥ : EReal) fun c : Fin 256 => s (ix2 r c)) * vt (ix2 c l) := by
  pointwise [a0, reslab, leftHalf, ownWeigh, ownMax, k0_pay163]
  simp only [ofBits_neg_inf]

theorem peak_at : peak mk kt lhs m (ix2 r l)
    = max (m (ix3 0 r l)) (Finset.univ.fold max (⊥ : EReal) fun c : Fin 256 => scores mk kt lhs (ix2 r c)) := by
  pointwise [peak, rowMax, unslab]
  simp only [ofBits_neg_inf]

theorem nextM_at : nextM mk kt lhs m (ix3 0 r l) = peak mk kt lhs m (ix2 r l) := by
  pointwise [nextM, reslab]

theorem nextL_at (p : EReal) (hp : ∀ l, peak mk kt lhs m (ix2 r l) = p) :
    nextL k0_pay163 mk kt vt lhs m x (ix3 0 r l)
      = Ideal.exp (m (ix3 0 r l) - p) * x (ix3 0 r l)
        + ∑ c : Fin 256, Ideal.exp (scores mk kt lhs (ix2 r c) - p) * 1 := by
  rw [← halves]
  pointwise [nextL, decay, rightHalf, reslab, weigh, unslab, k0_pay163]
  simp only [hp, mul_one]

theorem nextA_at (p : EReal) (hp : ∀ l, peak mk kt lhs m (ix2 r l) = p) :
    nextA k0_pay163 mk kt vt lhs m x (ix3 0 r l)
      = Ideal.exp (m (ix3 0 r l) - p) * x (ix3 0 r l)
        + ∑ c : Fin 256, Ideal.exp (scores mk kt lhs (ix2 r c) - p) * vt (ix2 c l) := by
  rw [← halves]
  pointwise [nextA, decay, leftHalf, reslab, weigh, unslab, k0_pay163]
  simp only [hp]
end steps

theorem out_at (a x : Vec Ideal S1x256x128 .f32) (r l : Fin 128) (u : Fin 2) (hu : l.val / 64 = u.val) :
    outTile a x (ix2 r l) = Ideal.div (a (ix3 0 (pairRow u r) l)) (x (ix3 0 (pairRow u r) l)) := by
  pointwise [outTile, unslab, lanes]
  rw [lane_slt, select_ite]
  match u with
  | 0 =>
    have e : pairRow 0 r = ⟨r.val, by omega⟩ := Fin.ext (by simp [pairRow])
    rw [e, if_pos (by have : l.val / 64 = 0 := hu; omega)]
  | 1 =>
    have e : pairRow 1 r = ⟨128 + r.val, by omega⟩ := Fin.ext (by simp [pairRow])
    rw [e, if_neg (by have : l.val / 64 = 1 := hu; omega)]
end Cert.KernelIdeal.Moba
-- ==== Proof.Tile.lean ====
module
public import proofs.«01_k».proof.Proof.Pure
@[expose] public section
set_option maxRecDepth 16384
noncomputable section
/-! One row of one head through the whole loop: the quotient the body takes at the end is the weighted
mean of the values of the row's own block and of the blocks before it. -/
namespace Cert.KernelIdeal.Moba
open Idealize.ShloMosaic Idealize.ShloMosaic.TcCoe Idealize.ShloMosaic.Tactic Idealize.SL.Sem
open Cert.KernelIdeal Cert.KernelIdeal.Gen Cert.Moba

/-- Key `c` of block `k`. -/
def keyAt (k : ℕ) (c : Fin 256) : Fin 2048 := ⟨(256 * k + c.val) % 2048, Nat.mod_lt _ (by decide)⟩

theorem kblk_at (x : Vec Ideal S2048x1024 .bf16) (k : ℕ) (n : Fin 8) (c : Fin 256) (l : Fin 128) :
    kblk x k n (ix2 c l) = x (ix2 (keyAt k c) ⟨128 * n.val + l.val, by omega⟩) := rfl

section row
variable (q : FVec Ideal S128x1024 .bf16) (b : FVec Ideal S128x128 .f32) (x1 x2 : Vec Ideal S2048x1024 .bf16)
  (h : Fin 16) (r : Fin 128) (row0 o : ℕ)

/-- The score of a key of an earlier block. -/
def pastS (k : ℕ) (c : Fin 256) : EReal :=
  headDot q x1 h r (keyAt k c) + b (ix2 r ⟨(8 * h.val + k) % 128, Nat.mod_lt _ (by decide)⟩)

/-- The score of a key of the row's own block. -/
def ownS (c : Fin 256) : EReal := if c.val ≤ r.val + row0 then headDot q x1 h r (keyAt o c) else ⊥

/-- The sum of the weights of the own block and the first `k` blocks. -/
def sumW (k : ℕ) : ℝ :=
  ∑ c : Fin 256, weight (ownS q x1 h r row0 o c)
    + ∑ j ∈ Finset.range k, ∑ c : Fin 256, weight (pastS q b x1 h r j c)

/-- The weighted sum of the values of column `g`. -/
def sumV (g : Fin 1024) (k : ℕ) : EReal :=
  ∑ c : Fin 256, (weight (ownS q x1 h r row0 o c) : EReal) * x2 (ix2 (keyAt o c) g)
    + ∑ j ∈ Finset.range k, ∑ c : Fin 256, (weight (pastS q b x1 h r j c) : EReal) * x2 (ix2 (keyAt j c) g)

variable {q b x1 h r} in
theorem ownS_ne_top (hdot : ∀ t, ∃ y : ℝ, headDot q x1 h r t = y) (c : Fin 256) : ownS q x1 h r row0 o c ≠ ⊤ := by
  unfold ownS
  split
  · obtain ⟨y, e⟩ := hdot (keyAt o c); rw [e]; exact EReal.coe_ne_top y
  · exact bot_ne_top

variable {q b x1 h r} in
theorem ownS_zero (hdot : ∀ t, ∃ y : ℝ, headDot q x1 h r t = y) : ownS q x1 h r row0 o 0 ≠ ⊥ := by
  unfold ownS
  rw [if_pos (by simp)]
  obtain ⟨y, e⟩ := hdot (keyAt o 0); rw [e]; exact EReal.coe_ne_bot y

variable {q b x1 h r} in
theorem pastS_ne_top (hdot : ∀ t, ∃ y : ℝ, headDot q x1 h r t = y) (hb : ∀ l : Fin 128, b (ix2 r l) ≠ ⊤)
    (k : ℕ) (c : Fin 256) : pastS q b x1 h r k c ≠ ⊤ := by
  unfold pastS
  obtain ⟨y, e⟩ := hdot (keyAt k c); rw [e]
  exact EReal.add_ne_top (EReal.coe_ne_top y) (hb _)

variable {q b x1 h r} in
theorem sumW_pos (hdot : ∀ t, ∃ y : ℝ, headDot q x1 h r t = y) (k : ℕ) : 0 < sumW q b x1 h r row0 o k := by
  unfold sumW
  have h1 : 0 < ∑ c : Fin 256, weight (ownS q x1 h r row0 o c) :=
    Finset.sum_pos' (fun i _ => weight_nonneg _) ⟨0, Finset.mem_univ _, weight_pos (ownS_zero row0 o hdot)⟩
  have h2 : 0 ≤ ∑ j ∈ Finset.range k, ∑ c : Fin 256, weight (pastS q b x1 h r j c) :=
    Finset.sum_nonneg fun j _ => Finset.sum_nonneg fun c _ => weight_nonneg _
  linarith
end row

section inv
variable (see : IVec S256x256 1) (q : FVec Ideal S128x1024 .bf16) (b : FVec Ideal S128x128 .f32)
  (x1 x2 : Vec Ideal S2048x1024 .bf16) (n : Fin 8) (u : Fin 2) (r : Fin 128) (row0 o : ℕ)
  (hsee : ∀ c : Fin 256, see (ix2 (pairRow u r) c) = if c.val ≤ r.val + row0 then 1#1 else 0#1)
  (hdot : ∀ t, ∃ y : ℝ, headDot q x1 (headOf n u) r t = y) (hb : ∀ l : Fin 128, b (ix2 r l) ≠ ⊤)
include hsee hdot hb

theorem rows_through (k : ℕ) (hk : k ≤ 8) : ∃ μ : ℝ, ∀ l : Fin 128,
    Row μ (seqM see q b x1 o k n (ix3 0 (pairRow u r) l)) (seqL see q b x1 x2 o k n (ix3 0 (pairRow u r) l))
      (seqA see q b x1 x2 o k n (ix3 0 (pairRow u r) l))
      (sumW q b x1 (headOf n u) r row0 o k)
      (sumV q b x1 x2 (headOf n u) r row0 o ⟨128 * n.val + l.val, by omega⟩ k) := by
  induction k with
  | zero =>
    have hs : ∀ c, own0 see q b x1 o n (ix2 (pairRow u r) c) = ownS q x1 (headOf n u) r row0 o c :=
      own_score see row0 o r u hsee q b x1 n
    obtain ⟨μ, hμ⟩ := fold_max_real (fun c => ownS q x1 (headOf n u) r row0 o c) (ownS_ne_top row0 o hdot) 0
      (ownS_zero row0 o hdot)
    refine ⟨μ, fun l => ?_⟩
    show Row μ (m0 _ _) (l0 _ _ _ _) (a0 _ _ _ _) _ _
    rw [m0_at, l0_at, a0_at]
    simp only [hs, hμ, kblk_at]
    have h := Row.start (fun c => ownS q x1 (headOf n u) r row0 o c)
      (fun c => x2 (ix2 (keyAt o c) ⟨128 * n.val + l.val, by omega⟩)) (ownS_ne_top row0 o hdot) μ
    simpa only [sumW, sumV, Finset.range_zero, Finset.sum_empty, add_zero] using h
  | succ k ih =>
    obtain ⟨μ, ih⟩ := ih (by omega)
    have hs : ∀ c, scores (mark k) (kblk x1 k n) (lhs0 q b n) (ix2 (pairRow u r) c) = pastS q b x1 (headOf n u) r k c := by
      intro c
      refine (past_score q b x1 ⟨k, by omega⟩ n u r c).trans ?_
      unfold pastS
      congr 1
      refine congrArg b (congrArg (ix2 r) (Fin.ext ?_))
      have := (headOf n u).isLt
      show 8 * (headOf n u).val + k = (8 * (headOf n u).val + k) % 128
      omega
    obtain ⟨μ', hμ'⟩ := max_fold_real (fun c => pastS q b x1 (headOf n u) r k c) (pastS_ne_top hdot hb k) μ
    have hp : ∀ l, peak (mark k) (kblk x1 k n) (lhs0 q b n) (seqM see q b x1 o k n) (ix2 (pairRow u r) l) = (μ' : EReal) := by
      intro l
      rw [peak_at, (ih l).1]
      simp only [hs]
      exact hμ'
    refine ⟨μ', fun l => ?_⟩
    show Row μ' (nextM _ _ _ _ _) (nextL _ _ _ _ _ _ _ _) (nextA _ _ _ _ _ _ _ _) _ _
    rw [nextM_at, hp, nextL_at _ _ _ _ _ _ _ _ _ hp, nextA_at _ _ _ _ _ _ _ _ _ hp]
    simp only [hs, kblk_at]
    have h := Row.step (ih l) (fun c => pastS q b x1 (headOf n u) r k c)
      (fun c => x2 (ix2 (keyAt k c) ⟨128 * n.val + l.val, by omega⟩)) (pastS_ne_top hdot hb k) μ'
    simpa only [sumW, sumV, Finset.sum_range_succ, add_assoc] using h

theorem quotient_at (ho : o ≤ 8) (l : Fin 128) (hu : l.val / 64 = u.val) :
    outTile (seqA see q b x1 x2 o o n) (seqL see q b x1 x2 o o n) (ix2 r l)
      = sumV q b x1 x2 (headOf n u) r row0 o ⟨128 * n.val + l.val, by omega⟩ o
        * ((1 / sumW q b x1 (headOf n u) r row0 o o : ℝ) : EReal) := by
  rw [out_at _ _ r l u hu]
  obtain ⟨μ, h⟩ := rows_through see q b x1 x2 n u r row0 o hsee hdot hb o ho
  exact (h l).quotient (sumW_pos row0 o hdot o)
end inv
end Cert.KernelIdeal.Moba
-- ==== Proof.Choice.lean ====
module
public import proofs.«01_k».proof.Proof.Tile
public import Idealize.ShloMosaic.Lib.WordCmp
@[expose] public section
set_option maxRecDepth 16384
noncomputable section
/-! The choice of past blocks: the eight gates of a head lie side by side in eight lanes, each is
compared with the seven others by rotations, and the three that fewest others precede are kept. -/
namespace Cert.KernelIdeal.Moba
open Idealize.ShloMosaic Idealize.ShloMosaic.TcCoe Idealize.ShloMosaic.Tactic Idealize.SL.Sem
open Cert.KernelIdeal Cert.KernelIdeal.Gen Cert.Moba

/-- The gate `p` lanes before, inside the same eight lanes. -/
def partner (g : FVec Ideal S128x128 .f32) (p : ℕ) : FVec Ideal S128x128 .f32 :=
  select (cmpi .sge k0_pay144 (broadcast S128x128 (BitVec.ofNat 32 p)))
    (dynamicRotate 1 (BitVec.ofNat 32 p) none g rotates_S128x128_d1)
    (dynamicRotate 1 (BitVec.ofNat 32 (120 + p)) none g rotates_S128x128_d1)

/-- One where the partner comes before the gate itself, zero elsewhere. -/
def beat (g : FVec Ideal S128x128 .f32) (p : ℕ) : FVec Ideal S128x128 .f32 :=
  select (cmpi .sge k0_pay144 (broadcast S128x128 (BitVec.ofNat 32 p)))
    (select (cmpf .oge (partner g p) g) (broadcast S128x128 (Scalar.ofBits .f32 0x3F800000#32))
      (broadcast S128x128 (Scalar.ofBits .f32 0x00000000#32)))
    (select (cmpf .ogt (partner g p) g) (broadcast S128x128 (Scalar.ofBits .f32 0x3F800000#32))
      (broadcast S128x128 (Scalar.ofBits .f32 0x00000000#32)))

/-- How many come before. -/
def beats (g : FVec Ideal S128x128 .f32) : FVec Ideal S128x128 .f32 :=
  addf (addf (addf (addf (addf (addf (addf k0_pay145 (beat g 1)) (beat g 2)) (beat g 3)) (beat g 4)) (beat g 5))
    (beat g 6)) (beat g 7)

/-- Zero where the block is chosen. -/
def choice (valid : IVec S128x128 1) (g : FVec Ideal S128x128 .f32) : FVec Ideal S128x128 .f32 :=
  select (cmpf .olt (select valid (beats g) (broadcast S128x128 (Scalar.ofBits .f32 0x40400000#32)))
      (broadcast S128x128 (Scalar.ofBits .f32 0x40400000#32)))
    (broadcast S128x128 (Scalar.ofBits .f32 0x00000000#32))
    (broadcast S128x128 (Named.named κ "mask" 0xF149F2CA#32))

/-- The means, each head's columns kept in its own eight rows. -/
def spread (m : FVec Ideal S8x1024 .f32) : FVec Ideal S128x1024 .bf16 :=
  truncf .bf16 (select kernelRun0_A.sl.r_2 (k0_pay141 m)
    (broadcast S128x1024 (Scalar.ofBits .f32 0x00000000#32))) bitsLt_bf16_f32

/-- The gates, `⊥` where the block is not before the tile's own. -/
def gates (w : BitVec 32) (q : FVec Ideal S128x1024 .bf16) (m : FVec Ideal S8x1024 .f32) : FVec Ideal S128x128 .f32 :=
  select (k0_pay142 w)
    (matmul dot_S128x1024_S128x1024_S128x128_1_1_0_0_n_n none q (spread m) (constant S128x128 .f32 0x00000000#32))
    (broadcast S128x128 (Named.named κ "mask" 0xF149F2CA#32))

section
variable (c : Dev nD) (i : grid0.Coords)
  (arg2 : Memref sig .tc .vmem S128x1024 .bf16) (harg2 : arg2.IsWhole)
  (arg5 : Memref sig .tc .vmem S1x8x1024 .f32) (harg5 : arg5.IsWhole)
variable (x0 : Vec Ideal S128x1024 .bf16) (x3 : Vec Ideal S1x8x1024 .f32)

theorem tb_eq : tb c i arg2 harg2 arg5 harg5 x0 x3
    = choice (k0_pay142 (kernelRun0_A.sl.v16 i))
        (gates (kernelRun0_A.sl.v16 i) (tq c arg2 harg2 x0) (kernelRun0_A.sl.r_1 (F := Ideal) c arg5 harg5 x3)) := rfl

theorem tq_eq : tq c arg2 harg2 x0 = x0 := by
  have hx : arg2.view.read (Elt Ideal) (harg2.unread x0) = x0 := harg2.read_unread x0
  funext p
  idx_vars p
  show k0_pay136 _ _ = _
  pointwise [k0_pay136]
  show arg2.view.read (Elt Ideal) (harg2.unread x0) _ = _
  rw [hx]
  refine congrArg x0 (funext fun d => Fin.ext ?_)
  match d with
  | 0 => show 0 + 1 * p0.val = p0.val; omega
  | 1 => show 0 + 1 * p1.val = p1.val; omega

theorem tm_at (n : Fin 8) (j : Fin 1024) :
    kernelRun0_A.sl.r_1 (F := Ideal) c arg5 harg5 x3 (ix2 n j) = x3 (ix3 0 n j) := by
  have hx : arg5.view.read (Elt Ideal) (harg5.unread x3) = x3 := harg5.read_unread x3
  show k0_pay137 _ _ = _
  pointwise [k0_pay137]
  show arg5.view.read (Elt Ideal) (harg5.unread x3) _ = _
  rw [hx]
  refine congrArg x3 (funext fun d => Fin.ext ?_)
  match d with
  | 0 => rfl
  | 1 => show 0 + 1 * n.val = n.val; omega
  | 2 => show 0 + 1 * j.val = j.val; omega
end

theorem lane8_word : ∀ l : Fin 128, k0_pay144 (ix2 0 l) = BitVec.ofNat 32 (l.val % 8) := by
  intro l
  pointwise [k0_pay144]
  revert l; decide +kernel

theorem lane8_at (r l : Fin 128) : k0_pay144 (ix2 r l) = BitVec.ofNat 32 (l.val % 8) := by
  rw [← lane8_word l]
  pointwise [k0_pay144]

theorem lane_mod : ∀ l : Fin 128, (Scalar.select
        (IntOp.andi
          (IntOp.xori
            (IntOp.cmpi CmpIPredicate.slt
              (IntOp.remsi ArithUnit.vector (BitVec.ofNat 32 l.val)
                (Scalar.select (Scalar.cmpi CmpIPredicate.eq 8#32 0#32) 1#32 8#32))
              0#32)
            (Scalar.cmpi CmpIPredicate.slt (Scalar.select (Scalar.cmpi CmpIPredicate.eq 8#32 0#32) 1#32 8#32) 0#32))
          (IntOp.cmpi CmpIPredicate.ne
            (IntOp.remsi ArithUnit.vector (BitVec.ofNat 32 l.val)
              (Scalar.select (Scalar.cmpi CmpIPredicate.eq 8#32 0#32) 1#32 8#32))
            0#32))
        (IntOp.addi
          (IntOp.remsi ArithUnit.vector (BitVec.ofNat 32 l.val)
            (Scalar.select (Scalar.cmpi CmpIPredicate.eq 8#32 0#32) 1#32 8#32))
          (Scalar.select (Scalar.cmpi CmpIPredicate.eq 8#32 0#32) 1#32 8#32))
        (IntOp.remsi ArithUnit.vector (BitVec.ofNat 32 l.val)
          (Scalar.select (Scalar.cmpi CmpIPredicate.eq 8#32 0#32) 1#32 8#32))) = BitVec.ofNat 32 (l.val % 8) := by
  decide +kernel

theorem ofBool_ite (p : Prop) [Decidable p] : BitVec.ofBool (decide p) = if p then 1#1 else 0#1 := by
  by_cases h : p <;> simp [h]

theorem sge_small (a b : ℕ) (ha : a < 1000) (hb : b < 1000) :
    IntOp.cmpi .sge (BitVec.ofNat 32 a) (BitVec.ofNat 32 b) = if b ≤ a then 1#1 else 0#1 := by
  rw [WordCmp.cmpi_sge_ofNat (by omega) (by omega), ofBool_ite]

theorem slt_small (a b : ℕ) (ha : a < 1000) (hb : b < 1000) :
    IntOp.cmpi .slt (BitVec.ofNat 32 a) (BitVec.ofNat 32 b) = if a < b then 1#1 else 0#1 := by
  rw [WordCmp.cmpi_slt_ofNat (by omega) (by omega), ofBool_ite]

theorem sle_small (a b : ℕ) (ha : a < 1000) (hb : b < 1000) :
    IntOp.cmpi .sle (BitVec.ofNat 32 a) (BitVec.ofNat 32 b) = if a ≤ b then 1#1 else 0#1 := by
  rw [WordCmp.cmpi_sle_ofNat (by omega) (by omega), ofBool_ite]

theorem valid_at (o : ℕ) (ho : o < 8) (r l : Fin 128) :
    k0_pay142 (BitVec.ofNat 32 o) (ix2 r l) = if l.val % 8 < o then 1#1 else 0#1 := by
  pointwise [k0_pay142]
  rw [lane_mod, slt_small _ _ (by omega) (by omega)]

theorem row_head : ∀ r : Fin 128, (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 r.val) 8#32) 0#32))
        (IntOp.subi (IntOp.divsi ArithUnit.vector (BitVec.ofNat 32 r.val) 8#32) 1#32)
        (IntOp.divsi ArithUnit.vector (BitVec.ofNat 32 r.val) 8#32)) = BitVec.ofNat 32 (r.val / 8) := by
  decide +kernel

theorem col_head : ∀ l : Fin 1024, (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 l.val) 64#32) 0#32))
        (IntOp.subi (IntOp.divsi ArithUnit.vector (BitVec.ofNat 32 l.val) 64#32) 1#32)
        (IntOp.divsi ArithUnit.vector (BitVec.ofNat 32 l.val) 64#32)) = BitVec.ofNat 32 (l.val / 64) := by
  decide +kernel

theorem same_head (r : Fin 128) (l : Fin 1024) :
    kernelRun0_A.sl.r_2 (ix2 r l) = if r.val / 8 = l.val / 64 then 1#1 else 0#1 := by
  unfold kernelRun0_A.sl.r_2
  sl_unfold_words
  pointwise [k0_pay140, k0_pay139, k0_pay138]
  rw [row_head, col_head, WordCmp.cmpi_eq_ofNat (by omega) (by omega), ofBool_ite]

theorem tiled_at (m : FVec Ideal S8x1024 .f32) (r : Fin 128) (l : Fin 1024) :
    k0_pay141 m (ix2 r l) = m (ix2 ⟨r.val % 8, Nat.mod_lt _ (by decide)⟩ l) := by
  refine concatenate_replicate_apply (t := S128x1024) (s₁ := S8x1024) 0 16 m
    concatenates_S8x1024_S8x1024_S8x1024_S8x1024_S8x1024_S8x1024_S8x1024_S8x1024_S8x1024_S8x1024_S8x1024_S8x1024_S8x1024_S8x1024_S8x1024_S8x1024_S128x1024_d0 rfl _ _ rfl ?_
  intro b hb
  match b with
  | 0 => exact absurd rfl hb
  | 1 => rfl

theorem spread_at (m : FVec Ideal S8x1024 .f32) (r : Fin 128) (l : Fin 1024) :
    spread m (ix2 r l) = if r.val / 8 = l.val / 64 then m (ix2 ⟨r.val % 8, Nat.mod_lt _ (by decide)⟩ l) else 0 := by
  pointwise [spread]
  rw [same_head, select_ite, tiled_at]

/-- Head `h`'s gate for block `n`: the query row's product with the block's mean, over the head's columns. -/
def headGate (q : FVec Ideal S128x1024 .bf16) (m : FVec Ideal S8x1024 .f32) (h : Fin 16) (r : Fin 128) (n : Fin 8) : EReal :=
  ∑ d : Fin 64, q (ix2 r ⟨64 * h.val + d.val, by omega⟩) * m (ix2 n ⟨64 * h.val + d.val, by omega⟩)

/-- A sum over all columns of which only head `h`'s count. -/
theorem sum_head (f : Fin 1024 → EReal) (h : Fin 16) (hf : ∀ x : Fin 1024, x.val / 64 ≠ h.val → f x = 0) :
    ∑ x : Fin 1024, f x = ∑ d : Fin 64, f ⟨64 * h.val + d.val, by omega⟩ := by
  symm
  refine Finset.sum_of_injOn (fun d : Fin 64 => (⟨64 * h.val + d.val, by omega⟩ : Fin 1024)) ?_ ?_ ?_ ?_
  · intro a _ b _ e
    have := congrArg Fin.val e
    exact Fin.ext (by simpa using this)
  · intro a _; exact Finset.mem_coe.mpr (Finset.mem_univ _)
  · intro x _ hx
    refine hf x fun e => hx ⟨⟨x.val % 64, Nat.mod_lt _ (by decide)⟩, Finset.mem_coe.mpr (Finset.mem_univ _), Fin.ext ?_⟩
    show 64 * h.val + x.val % 64 = x.val
    omega
  · intro d _; rfl

theorem gates_at (o : ℕ) (ho : o < 8) (q : FVec Ideal S128x1024 .bf16) (m : FVec Ideal S8x1024 .f32) (r : Fin 128)
    (h : Fin 16) (n : Fin 8) :
    gates (BitVec.ofNat 32 o) q m (ix2 r ⟨8 * h.val + n.val, by omega⟩)
      = if n.val < o then headGate q m h r n else ⊥ := by
  pointwise [gates]
  rw [valid_at o ho, select_ite, mask_bot]
  refine if_congr (by show (8 * h.val + n.val) % 8 < o ↔ _; omega) ?_ rfl
  simp only [spread_at]
  rw [sum_head _ h]
  · unfold headGate
    refine Finset.sum_congr rfl fun d _ => ?_
    rw [if_pos (by show (8 * h.val + n.val) / 8 = (64 * h.val + d.val) / 64; omega)]
    congr 3
    exact Fin.ext (by show (8 * h.val + n.val) % 8 = n.val; omega)
  · intro x hx
    rw [if_neg (by show ¬ (8 * h.val + n.val) / 8 = x.val / 64; omega), mul_zero]

theorem see_row : ∀ r : Fin 256, (Scalar.select
          (IntOp.andi
            (IntOp.xori
              (IntOp.cmpi CmpIPredicate.slt
                (IntOp.remsi ArithUnit.vector (BitVec.ofNat 32 r.val)
                  (Scalar.select (Scalar.cmpi CmpIPredicate.eq 128#32 0#32) 1#32 128#32))
                0#32)
              0#1)
            (IntOp.cmpi CmpIPredicate.ne
              (IntOp.remsi ArithUnit.vector (BitVec.ofNat 32 r.val)
                (Scalar.select (Scalar.cmpi CmpIPredicate.eq 128#32 0#32) 1#32 128#32))
              0#32))
          (IntOp.addi
            (IntOp.remsi ArithUnit.vector (BitVec.ofNat 32 r.val)
              (Scalar.select (Scalar.cmpi CmpIPredicate.eq 128#32 0#32) 1#32 128#32))
            128#32)
          (IntOp.remsi ArithUnit.vector (BitVec.ofNat 32 r.val)
            (Scalar.select (Scalar.cmpi CmpIPredicate.eq 128#32 0#32) 1#32 128#32))) = BitVec.ofNat 32 (r.val % 128) := by
  decide +kernel

theorem see_at (i : grid0.Coords) (u : Fin 2) (r : Fin 128) (c : Fin 256) :
    kernelRun0_A.sl.r_13 i (ix2 (pairRow u r) c)
      = if c.val ≤ r.val + 128 * ((i 1).val % 2) then 1#1 else 0#1 := by
  have e : kernelRun0_A.sl.r_13 i = k0_pay162 (kernelRun0_A.sl.v27 i)
    (iota .tc S256x256 32 [1] iota_S256x256_d1_w32) 128#32 k0_pay159 k0_pay160 k0_pay161 0#1 := rfl
  rw [e, row_word]
  generalize hw : 128 * ((i 1).val % 2) = w
  have hw' : w < 256 := by omega
  pointwise [k0_pay162, k0_pay161, k0_pay160, k0_pay159]
  rw [see_row]
  show IntOp.cmpi CmpIPredicate.sle (BitVec.ofNat 32 c.val) (BitVec.ofNat 32 _ + BitVec.ofNat 32 w) = _
  rw [← BitVec.ofNat_add, sle_small _ _ (by omega) (by omega)]
  refine if_congr ?_ rfl rfl
  have : (pairRow u r).val = 128 * u.val + r.val := rfl
  rw [this]
  omega
end Cert.KernelIdeal.Moba
-- ==== Proof.Order.lean ====
module
public import Idealize.ShloMosaic.Lib.SortFacts
public import Idealize.ShloMosaic.Lib.SortPrefix
public import proofs.«01_k».proof.Proof.Weights
@[expose] public section
set_option maxRecDepth 16384
noncomputable section
/-! A stable descending sort of eight gates puts a block at the place that counts how many come
before it. -/
namespace Cert.Moba
open Idealize.ShloMosaic

/-- Block `p` comes before block `n`: a larger gate, or an equal one and an earlier place. -/
def Comes (G : Fin 8 → EReal) (p n : Fin 8) : Prop := (p < n ∧ G n ≤ G p) ∨ (n < p ∧ G n < G p)

instance (G : Fin 8 → EReal) (p n : Fin 8) : Decidable (Comes G p n) := Classical.propDecidable _

/-- How many blocks come before block `n`. -/
def placeOf (G : Fin 8 → EReal) (n : Fin 8) : ℕ := (Finset.univ.filter fun p => Comes G p n).card

theorem not_comes_self (G : Fin 8 → EReal) (n : Fin 8) : ¬ Comes G n n := by
  rintro (⟨h, -⟩ | ⟨h, -⟩) <;> exact lt_irrefl _ h

theorem sum_comes (G : Fin 8 → EReal) (n : Fin 8) :
    ∑ p : Fin 8, (if Comes G p n then (1 : EReal) else 0) = ((placeOf G n : ℝ) : EReal) := by
  have h : ∀ p : Fin 8, (if Comes G p n then (1 : EReal) else 0) = (((if Comes G p n then (1 : ℝ) else 0) : ℝ) : EReal) := by
    intro p; split <;> simp
  simp only [h]
  rw [← coe_sum, Finset.sum_boole]
  rfl

/-- The sort's own comparison: a strictly larger gate. -/
def larger (G : Fin 8 → EReal) (p n : Fin 8) : Bool := Ideal.cmp .ogt (G p) (G n) == 1#1

theorem larger_iff (G : Fin 8 → EReal) (p n : Fin 8) : larger G p n = true ↔ G n < G p := by
  unfold larger Ideal.cmp
  simp only [beq_iff_eq]
  by_cases h : G n < G p
  · simp [h]
  · simp [h]

/-- That comparison, made total by the place. -/
def comesB (G : Fin 8 → EReal) (p n : Fin 8) : Bool := decide (Comes G p n)

theorem comesB_iff (G : Fin 8 → EReal) (p n : Fin 8) : comesB G p n = true ↔ Comes G p n := decide_eq_true_iff

theorem comes_total (G : Fin 8 → EReal) : StrictTotalBefore (comesB G) where
  irrefl a := by
    cases h : comesB G a a
    · rfl
    · exact absurd ((comesB_iff G a a).mp h) (not_comes_self G a)
  trans a b c hab hbc := by
    rw [comesB_iff] at *
    rcases hab with ⟨h1, g1⟩ | ⟨h1, g1⟩ <;> rcases hbc with ⟨h2, g2⟩ | ⟨h2, g2⟩
    · exact Or.inl ⟨h1.trans h2, g2.trans g1⟩
    · have g := lt_of_lt_of_le g2 g1
      rcases lt_trichotomy a c with h | h | h
      · exact Or.inl ⟨h, g.le⟩
      · subst h; exact absurd g (lt_irrefl _)
      · exact Or.inr ⟨h, g⟩
    · have g := lt_of_le_of_lt g2 g1
      rcases lt_trichotomy a c with h | h | h
      · exact Or.inl ⟨h, g.le⟩
      · subst h; exact absurd g (lt_irrefl _)
      · exact Or.inr ⟨h, g⟩
    · exact Or.inr ⟨h2.trans h1, g2.trans g1⟩
  total a b hne := by
    rw [comesB_iff, comesB_iff]
    rcases lt_or_gt_of_ne hne with h | h <;> rcases lt_or_ge (G a) (G b) with g | g
    · exact Or.inr (Or.inr ⟨h, g⟩)
    · exact Or.inl (Or.inl ⟨h, g⟩)
    · exact Or.inr (Or.inl ⟨h, g.le⟩)
    · rcases lt_or_eq_of_le g with g' | g'
      · exact Or.inl (Or.inr ⟨h, g'⟩)
      · exact Or.inr (Or.inl ⟨h, g'.ge⟩)

/-- The elements come in order of their places, so ties are kept in that order. -/
theorem stable_eq (G : Fin 8 → EReal) (l : List (Fin 8)) (hl : l.Pairwise (· < ·)) :
    stableSort (larger G) l = stableSort (comesB G) l := by
  induction l with
  | nil => rfl
  | cons a l ih =>
    rw [List.pairwise_cons] at hl
    unfold stableSort
    rw [ih hl.2]
    refine insertBefore_congr _ _ a _ fun b hb => ?_
    have hab : a < b := hl.1 b ((perm_stableSort (comesB G) l).mem_iff.mp hb)
    rw [Bool.eq_iff_iff, larger_iff, comesB_iff]
    constructor
    · intro h; exact Or.inr ⟨hab, h⟩
    · rintro (⟨h, -⟩ | ⟨-, h⟩)
      · exact absurd h hab.asymm
      · exact h

theorem sorted_eq (G : Fin 8 → EReal) : sortedFrom (larger G) = sortedFrom (comesB G) := by
  have h : sortPositions 8 (larger G) = sortPositions 8 (comesB G) :=
    stable_eq G _ (List.pairwise_lt_finRange 8)
  funext k
  unfold sortedFrom
  simp only [List.get_eq_getElem, Fin.val_cast, h]

/-- The block the sort puts at place `i` has `i` blocks before it. -/
theorem place_sorted (G : Fin 8 → EReal) (i : Fin 8) : placeOf G (sortedFrom (larger G) i) = i.val := by
  rw [sorted_eq]
  have hB := comes_total G
  have hord : ∀ a b : Fin 8, a < b → Comes G (sortedFrom (comesB G) a) (sortedFrom (comesB G) b) := by
    intro a b hab
    have h1 := sortedFrom_noInversion (comesB G) (comesB G) (fun a b h => hB.asymm a b h) (fun _ _ h => h)
      hB.negTrans a b hab
    rcases hB.total (sortedFrom (comesB G) a) (sortedFrom (comesB G) b)
      (fun e => hab.ne (sortedFrom_injective _ e)) with h | h
    · exact (comesB_iff _ _ _).mp h
    · rw [h1] at h; exact Bool.noConfusion h
  have hiff : ∀ a : Fin 8, Comes G (sortedFrom (comesB G) a) (sortedFrom (comesB G) i) ↔ a < i := by
    intro a
    constructor
    · intro h
      rcases lt_trichotomy a i with g | g | g
      · exact g
      · subst g; exact absurd h (not_comes_self _ _)
      · have h2 := (comesB_iff _ _ _).mpr (hord i a g)
        rw [hB.asymm _ _ ((comesB_iff _ _ _).mpr h)] at h2
        exact Bool.noConfusion h2
    · exact hord a i
  have hc : (Finset.univ.filter fun p => Comes G p (sortedFrom (comesB G) i))
      = (Finset.Iio i).map ⟨sortedFrom (comesB G), sortedFrom_injective _⟩ := by
    ext p
    simp only [Finset.mem_filter, Finset.mem_univ, true_and, Finset.mem_map, Finset.mem_Iio, Function.Embedding.coeFn_mk]
    constructor
    · intro h
      obtain ⟨a, rfl⟩ := sortedFrom_surjective (comesB G) p
      exact ⟨a, (hiff a).mp h, rfl⟩
    · rintro ⟨a, ha, rfl⟩
      exact (hiff a).mpr ha
  unfold placeOf
  rw [hc, Finset.card_map, Fin.card_Iio]

/-- A block is among the first three of the sort exactly when fewer than three come before it. -/
theorem among_three (G : Fin 8 → EReal) (n : Fin 8) :
    (∃ j : Fin 3, sortedFrom (larger G) ⟨j.val, by omega⟩ = n) ↔ placeOf G n < 3 := by
  constructor
  · rintro ⟨j, rfl⟩
    rw [place_sorted]; exact j.isLt
  · intro h
    obtain ⟨i, rfl⟩ := sortedFrom_surjective (larger G) n
    rw [place_sorted] at h
    exact ⟨⟨i.val, h⟩, rfl⟩

/-- Scaling every gate by one positive number moves nothing. -/
theorem place_congr (G G' : Fin 8 → EReal) (h : ∀ p n, G p < G n ↔ G' p < G' n) (n : Fin 8) : placeOf G n = placeOf G' n := by
  unfold placeOf
  congr 1
  ext p
  simp only [Finset.mem_filter, Finset.mem_univ, true_and]
  unfold Comes
  rw [← not_lt, ← not_lt, h p n, h n p]
end Cert.Moba
-- ==== Proof.Rank.lean ====
module
public import proofs.«01_k».proof.Proof.Choice
public import proofs.«01_k».proof.Proof.Order
@[expose] public section
set_option maxRecDepth 16384
noncomputable section
/-! How many gates come before a block's own, and which blocks are therefore kept. -/
namespace Cert.KernelIdeal.Moba
open Idealize.ShloMosaic Idealize.ShloMosaic.TcCoe Idealize.ShloMosaic.Tactic Idealize.SL.Sem
open Cert.KernelIdeal Cert.KernelIdeal.Gen Cert.Moba

/-- The eight gates of head `h` in one row. -/
def eight (g : FVec Ideal S128x128 .f32) (r : Fin 128) (h : Fin 16) (n : Fin 8) : EReal :=
  g (ix2 r ⟨8 * h.val + n.val, by omega⟩)

theorem beat_at (g : FVec Ideal S128x128 .f32) (p : ℕ) (hp : 0 < p) (hp8 : p < 8) (r : Fin 128) (h : Fin 16) (n : Fin 8) :
    beat g p (ix2 r ⟨8 * h.val + n.val, by omega⟩)
      = if Comes (eight g r h) ⟨(n.val + 8 - p) % 8, Nat.mod_lt _ (by decide)⟩ n then 1 else 0 := by
  have hl : (8 * h.val + n.val) % 8 = n.val := by omega
  have e1 : (BitVec.ofNat 32 p).toNat = p := by rw [BitVec.toNat_ofNat]; omega
  have e2 : (BitVec.ofNat 32 (120 + p)).toNat = 120 + p := by rw [BitVec.toNat_ofNat]; omega
  pointwise [beat, partner]
  rw [lane8_at]
  simp only [hl]
  rw [sge_small _ _ (by omega) (by omega), select_ite, select_ite]
  by_cases hn : p ≤ n.val
  · simp only [if_pos hn]
    have ei : (⟨(8 * h.val + n.val + 128 - (BitVec.ofNat 32 p).toNat % 128) % 128, Nat.mod_lt _ (by decide)⟩ : Fin 128)
        = ⟨8 * h.val + (⟨(n.val + 8 - p) % 8, Nat.mod_lt _ (by decide)⟩ : Fin 8).val, by
            have := Nat.mod_lt (n.val + 8 - p) (show 0 < 8 by decide); simp only; omega⟩ := Fin.ext (by
      simp only [e1]; omega)
    rw [ei]
    refine if_congr ⟨fun hc => Or.inl ⟨?_, hc⟩, ?_⟩ rfl rfl
    · show (n.val + 8 - p) % 8 < n.val; omega
    · rintro (⟨-, hc⟩ | ⟨hc, -⟩)
      · exact hc
      · exact absurd (show n.val < (n.val + 8 - p) % 8 from hc) (by omega)
  · simp only [if_neg hn]
    have ei : (⟨(8 * h.val + n.val + 128 - (BitVec.ofNat 32 (120 + p)).toNat % 128) % 128, Nat.mod_lt _ (by decide)⟩ : Fin 128)
        = ⟨8 * h.val + (⟨(n.val + 8 - p) % 8, Nat.mod_lt _ (by decide)⟩ : Fin 8).val, by
            have := Nat.mod_lt (n.val + 8 - p) (show 0 < 8 by decide); simp only; omega⟩ := Fin.ext (by
      simp only [e2]; omega)
    rw [ei]
    refine if_congr ⟨fun hc => Or.inr ⟨?_, hc⟩, ?_⟩ rfl rfl
    · show n.val < (n.val + 8 - p) % 8; omega
    · rintro (⟨hc, -⟩ | ⟨-, hc⟩)
      · exact absurd (show (n.val + 8 - p) % 8 < n.val from hc) (by omega)
      · exact hc

theorem cyclic_sum (f : Fin 8 → EReal) (n : Fin 8) (hf : f n = 0) :
    0 + f ⟨(n.val + 8 - 1) % 8, Nat.mod_lt _ (by decide)⟩ + f ⟨(n.val + 8 - 2) % 8, Nat.mod_lt _ (by decide)⟩
      + f ⟨(n.val + 8 - 3) % 8, Nat.mod_lt _ (by decide)⟩ + f ⟨(n.val + 8 - 4) % 8, Nat.mod_lt _ (by decide)⟩
      + f ⟨(n.val + 8 - 5) % 8, Nat.mod_lt _ (by decide)⟩ + f ⟨(n.val + 8 - 6) % 8, Nat.mod_lt _ (by decide)⟩
      + f ⟨(n.val + 8 - 7) % 8, Nat.mod_lt _ (by decide)⟩ = ∑ p : Fin 8, f p := by
  rw [Fin.sum_univ_eight]
  have hz : ∀ m : Fin 8, n = m → f m = 0 := fun m e => e ▸ hf
  match n with
  | 0 =>
    show 0 + f 7 + f 6 + f 5 + f 4 + f 3 + f 2 + f 1 = f 0 + f 1 + f 2 + f 3 + f 4 + f 5 + f 6 + f 7
    rw [hz 0 rfl]; abel
  | 1 =>
    show 0 + f 0 + f 7 + f 6 + f 5 + f 4 + f 3 + f 2 = f 0 + f 1 + f 2 + f 3 + f 4 + f 5 + f 6 + f 7
    rw [hz 1 rfl]; abel
  | 2 =>
    show 0 + f 1 + f 0 + f 7 + f 6 + f 5 + f 4 + f 3 = f 0 + f 1 + f 2 + f 3 + f 4 + f 5 + f 6 + f 7
    rw [hz 2 rfl]; abel
  | 3 =>
    show 0 + f 2 + f 1 + f 0 + f 7 + f 6 + f 5 + f 4 = f 0 + f 1 + f 2 + f 3 + f 4 + f 5 + f 6 + f 7
    rw [hz 3 rfl]; abel
  | 4 =>
    show 0 + f 3 + f 2 + f 1 + f 0 + f 7 + f 6 + f 5 = f 0 + f 1 + f 2 + f 3 + f 4 + f 5 + f 6 + f 7
    rw [hz 4 rfl]; abel
  | 5 =>
    show 0 + f 4 + f 3 + f 2 + f 1 + f 0 + f 7 + f 6 = f 0 + f 1 + f 2 + f 3 + f 4 + f 5 + f 6 + f 7
    rw [hz 5 rfl]; abel
  | 6 =>
    show 0 + f 5 + f 4 + f 3 + f 2 + f 1 + f 0 + f 7 = f 0 + f 1 + f 2 + f 3 + f 4 + f 5 + f 6 + f 7
    rw [hz 6 rfl]; abel
  | 7 =>
    show 0 + f 6 + f 5 + f 4 + f 3 + f 2 + f 1 + f 0 = f 0 + f 1 + f 2 + f 3 + f 4 + f 5 + f 6 + f 7
    rw [hz 7 rfl]; abel

theorem beats_at (g : FVec Ideal S128x128 .f32) (r : Fin 128) (h : Fin 16) (n : Fin 8) :
    beats g (ix2 r ⟨8 * h.val + n.val, by omega⟩) = ((placeOf (eight g r h) n : ℝ) : EReal) := by
  rw [← sum_comes, ← cyclic_sum _ n (if_neg (not_comes_self _ n)), zero_add]
  pointwise [beats, k0_pay145]
  rw [beat_at g 1 (by omega) (by omega), beat_at g 2 (by omega) (by omega), beat_at g 3 (by omega) (by omega),
    beat_at g 4 (by omega) (by omega), beat_at g 5 (by omega) (by omega), beat_at g 6 (by omega) (by omega),
    beat_at g 7 (by omega) (by omega)]

theorem three : (Ideal.ofBits .f32 0x40400000#32 : EReal) = ((3 : ℝ) : EReal) := by
  simp [Ideal.ofBits, Ideal.ieee]
  rw [← EReal.coe_mul]; norm_num

theorem choice_at (w : IVec S128x128 1) (g : FVec Ideal S128x128 .f32) (r : Fin 128) (h : Fin 16) (n : Fin 8) (o : ℕ)
    (hw : w (ix2 r ⟨8 * h.val + n.val, by omega⟩) = if n.val < o then 1#1 else 0#1) :
    choice w g (ix2 r ⟨8 * h.val + n.val, by omega⟩)
      = if n.val < o ∧ placeOf (eight g r h) n < 3 then 0 else ⊥ := by
  pointwise [choice]
  rw [hw, select_ite, mask_bot, three, beats_at]
  refine if_congr ?_ rfl rfl
  by_cases hn : n.val < o
  · rw [if_pos hn, EReal.coe_lt_coe_iff]
    constructor
    · intro hc; exact ⟨hn, by exact_mod_cast hc⟩
    · intro hc; exact_mod_cast hc.2
  · rw [if_neg hn]
    exact ⟨fun hc => absurd hc (lt_irrefl _), fun hc => absurd hc.1 hn⟩
end Cert.KernelIdeal.Moba
-- ==== Proof.RefChoice.lean ====
module
public import proofs.«01_k».proof.Proof.Gen.ReferenceIdeal.Read
public import proofs.«01_k».proof.Proof.Order
public import Idealize.ShloMosaic.Lib.WordCmp
@[expose] public section
set_option maxRecDepth 16384
noncomputable section
/-! The reference's choice of blocks and its softmax, read at one query and one head. -/
namespace Cert.ReferenceIdeal.Moba
open Idealize.ShloMosaic Idealize.ShloMosaic.TcCoe Idealize.ShloMosaic.Tactic Idealize.SL.Sem
open Cert.ReferenceIdeal Cert.ReferenceIdeal.Gen Cert.ReferenceIdeal.Read Cert.Moba
variable (x0 x1 x2 : (⟨S8x2048x16x64, .f32⟩ : BufTy).Contents (Elt Ideal))

theorem ofBits_256 : (Ideal.ofBits .f32 0x43800000#32 : EReal) = ((256 : ℝ) : EReal) := by
  simp [Ideal.ofBits, Ideal.ieee]
  rw [← EReal.coe_mul]; norm_num

theorem ofBits_eighth : (Ideal.ofBits .f32 0x3E000000#32 : EReal) = ((1 / 8 : ℝ) : EReal) := by
  simp [Ideal.ofBits, Ideal.ieee]
  rw [← EReal.coe_mul]; norm_num

theorem ofBits_neg_inf : (Ideal.ofBits .f32 0xFF800000#32 : EReal) = ⊥ := by
  simp [Ideal.ofBits, Ideal.ieee]

theorem select_ite {α : Type} (p : Prop) [Decidable p] (a b : α) :
    Scalar.select (if p then 1#1 else 0#1) a b = if p then a else b := by
  by_cases h : p <;> simp [Scalar.select, h]

theorem ofBool_ite (p : Prop) [Decidable p] : BitVec.ofBool (decide p) = if p then 1#1 else 0#1 := by
  by_cases h : p <;> simp [h]

/-- The mean of block `n`'s keys. -/
theorem means_at (b n : Fin 8) (h : Fin 16) (d : Fin 64) : val_main_v3 x1 (ix4 b n h d)
    = (∑ x : Fin 256, x1 (ix4 b ⟨n.val * 256 + x.val, by omega⟩ h d)) * ((1 / 256 : ℝ) : EReal) := by
  pointwise [val_main_v3, val_main_v2, val_main_v1, val_main_v0, val_main_cst, val_main_cst_0]
  rw [ofBits_256, Ideal.div_coe (by norm_num)]

def sign (w : BitVec 32) : BitVec 32 := if w = 0 then 0 else if w.msb then -1 else 1

theorem block_word : ∀ t : Fin 2048, Scalar.select
      (IntOp.andi
        (IntOp.cmpi CmpIPredicate.ne (sign (BitVec.ofNat 32 t.val)) (sign 256#32))
        (IntOp.cmpi CmpIPredicate.ne (IntOp.remsi ArithUnit.host (BitVec.ofNat 32 t.val) 256#32) 0#32))
      (IntOp.subi (IntOp.divsi ArithUnit.host (BitVec.ofNat 32 t.val) 256#32) 1#32)
      (IntOp.divsi ArithUnit.host (BitVec.ofNat 32 t.val) 256#32) = BitVec.ofNat 32 (t.val / 256) := by
  decide +kernel

theorem block_at (t : Fin 2048) : val_main_v5 (F := Ideal) (ix1 t) = BitVec.ofNat 32 (t.val / 256) := by
  rw [← block_word t]
  rfl

theorem key_block_at (t : Fin 2048) : val_main_v30 (F := Ideal) (ix2 0 t) = BitVec.ofNat 32 (t.val / 256) := by
  rw [← block_word t]
  rfl

/-- Head `h`'s gate for block `n`. -/
def gate (b : Fin 8) (h : Fin 16) (t : Fin 2048) (n : Fin 8) : EReal :=
  ∑ d : Fin 64, x0 (ix4 b t h d) * ((∑ x : Fin 256, x1 (ix4 b ⟨n.val * 256 + x.val, by omega⟩ h d)) * ((1 / 256 : ℝ) : EReal))

/-- The gate, `⊥` where the block is not before the query's own. -/
def maskedGate (b : Fin 8) (h : Fin 16) (t : Fin 2048) (n : Fin 8) : EReal :=
  if n.val < t.val / 256 then gate x0 x1 b h t n else ⊥

theorem gate_at (b n : Fin 8) (h : Fin 16) (t : Fin 2048) :
    val_main_v13 x0 x1 (ix4 b h t n) = maskedGate x0 x1 b h t n := by
  have e : val_main_v6 x0 x1 (ix4 b h t n) = gate x0 x1 b h t n := by
    pointwise [val_main_v6]
    unfold gate
    exact Finset.sum_congr rfl fun d _ => by rw [means_at]
  unfold maskedGate
  rw [← e]
  pointwise [val_main_v13, val_main_v12, val_main_v11, val_main_v10, val_main_v9, val_main_v8, val_main_v7, val_main_cst_1, val_main_call1_v0, val_main_call1_v1, val_main_call1_v2]
  rw [block_at, WordCmp.cmpi_slt_ofNat (by omega) (by omega), ofBool_ite, select_ite]
  have e2 : (id (constant S_ FTy.f32 0xFF800000#32) ix0 : Ideal .f32) = (⊥ : EReal) := ofBits_neg_inf
  rw [e2]

theorem along_at (b : Fin 8) (h : Fin 16) (t : Fin 2048) (j k : Fin 8) :
    (ix4 b h t j : S8x16x2048x8.Idx).along 3 k = ix4 b h t k := by
  funext a
  match a with
  | ⟨0, _⟩ => rfl
  | ⟨1, _⟩ => rfl
  | ⟨2, _⟩ => rfl
  | ⟨3, _⟩ => rfl

theorem iota_sorted (x : S8x16x2048x8.Idx → Ideal .f32) (b : Fin 8) (h : Fin 16) (t : Fin 2048) (j : Fin 8) :
    (Host.sort2 S8x16x2048x8 3 (fun p q : Ideal .f32 × BitVec 32 => FloatOps.cmpfTotal .gt p.1 q.1) x (fun i => BitVec.ofNat 32 (i 3).val)).2 (ix4 b h t j)
      = BitVec.ofNat 32 (sortedFrom (larger (fun n => x (ix4 b h t n))) j).val := by
  unfold Host.sort2
  rw [dif_pos (by decide : 3 < S8x16x2048x8.rank)]
  have e : (fun k k' : Fin 8 => FloatOps.cmpfTotal .gt (x ((ix4 b h t j : S8x16x2048x8.Idx).along 3 k)) (x ((ix4 b h t j : S8x16x2048x8.Idx).along 3 k')) == 1#1)
      = larger (fun n => x (ix4 b h t n)) := by
    funext k k'
    rw [along_at, along_at]
    rfl
  rw [← e]
  rfl

theorem top_at (x : S8x16x2048x8.Idx → Ideal .f32) (b : Fin 8) (h : Fin 16) (t : Fin 2048) (j : Fin 3) :
    (Host.topK S8x16x2048x3 3 (FloatOps.cmpfTotal .gt) x sliceFits_S8x16x2048x8_S8x16x2048x3).2 (ix4 b h t j)
      = BitVec.ofNat 32 (sortedFrom (larger (fun n => x (ix4 b h t n))) ⟨j.val, by omega⟩).val := by
  rw [← iota_sorted]
  unfold Host.topK
  pointwise []

/-- The block at place `j` of the sort. -/
theorem index_at (b : Fin 8) (h : Fin 16) (t : Fin 2048) (j : Fin 3) : val_main_indices x0 x1 (ix4 b h t j)
    = BitVec.ofNat 32 (sortedFrom (larger (maskedGate x0 x1 b h t)) ⟨j.val, by omega⟩).val := by
  have hg : ∀ n : Fin 8, maskedGate x0 x1 b h t n = val_main_v13 x0 x1 (ix4 b h t n) := fun n => (gate_at x0 x1 b n h t).symm
  rw [show maskedGate x0 x1 b h t = fun n => val_main_v13 x0 x1 (ix4 b h t n) from funext hg]
  unfold val_main_indices
  generalize val_main_v13 x0 x1 = x
  exact top_at x b h t j

theorem fold_or {n : Nat} (P : Fin n → Prop) [∀ i, Decidable (P i)] (s : Finset (Fin n)) :
    s.fold IntOp.ori (0#1) (fun i => if P i then 1#1 else 0#1) = 1#1 ↔ ∃ i ∈ s, P i := by
  induction s using Finset.induction_on with
  | empty => simp
  | insert a s ha ih =>
    rw [Finset.fold_insert ha]
    have key : ∀ u w : BitVec 1, IntOp.ori u w = 1#1 ↔ u = 1#1 ∨ w = 1#1 := by decide
    rw [key, ih]
    by_cases h1 : P a <;> simp [h1]

theorem eq_ite (u : BitVec 1) (p : Prop) [Decidable p] (h : u = 1#1 ↔ p) : u = if p then 1#1 else 0#1 := by
  by_cases hp : p
  · rw [if_pos hp]; exact h.2 hp
  · rw [if_neg hp]
    have key : ∀ u : BitVec 1, u ≠ 1#1 → u = 0#1 := by decide
    exact key u fun e => hp (h.1 e)

theorem chosen_at (b : Fin 8) (h : Fin 16) (t : Fin 2048) (n : Fin 8) : val_main_v27 x0 x1 (ix4 b h t n)
    = if n.val < t.val / 256 ∧ placeOf (maskedGate x0 x1 b h t) n < 3 then 1#1 else 0#1 := by
  have e : ∀ j : Fin 3, val_main_v26 x0 x1 (ix5 b h t j n)
      = if sortedFrom (larger (maskedGate x0 x1 b h t)) ⟨j.val, by omega⟩ = n ∧ n.val < t.val / 256 then 1#1 else 0#1 := by
    intro j
    pointwise [val_main_v26, val_main_v25, val_main_v24, val_main_v23, val_main_v22, val_main_v21, val_main_v20, val_main_v19, val_main_v18, val_main_v17, val_main_v16, val_main_v15, val_main_v14]
    rw [index_at, block_at]
    generalize sortedFrom (larger (maskedGate x0 x1 b h t)) ⟨j.val, by omega⟩ = m
    rw [WordCmp.cmpi_eq_ofNat (by omega) (by omega), WordCmp.cmpi_slt_ofNat (by omega) (by omega), ofBool_ite, ofBool_ite]
    by_cases h1 : m = n
    · subst h1; by_cases h2 : m.val < t.val / 256 <;> simp [h2, IntOp.andi]
    · have h1' : ¬ m.val = n.val := fun e => h1 (Fin.ext e)
      simp [h1, h1', IntOp.andi]
  have z : (val_main_c_2 (F := Ideal) (Shape.Idx.first h_S_) : BitVec 1) = 0#1 := rfl
  pointwise [val_main_v27]
  simp only [e]
  refine eq_ite _ _ ?_
  rw [z, fold_or, ← among_three]
  constructor
  · rintro ⟨j, -, h1, h2⟩; exact ⟨h2, j, h1⟩
  · rintro ⟨h2, j, h1⟩; exact ⟨j, Finset.mem_univ _, h1, h2⟩

theorem or_and (A B C : Prop) [Decidable A] [Decidable B] [Decidable C] :
    IntOp.ori (if A then 1#1 else 0#1) (IntOp.andi (if B then 1#1 else 0#1) (if C then 1#1 else 0#1))
      = if A ∨ (B ∧ C) then 1#1 else 0#1 := by
  by_cases hA : A <;> by_cases hB : B <;> by_cases hC : C <;> simp [hA, hB, hC, IntOp.ori, IntOp.andi]

/-- The query sees the key. -/
def Seen (b : Fin 8) (h : Fin 16) (t s : Fin 2048) : Prop :=
  (s.val / 256 < t.val / 256 ∧ placeOf (maskedGate x0 x1 b h t) ⟨s.val / 256, by omega⟩ < 3)
    ∨ (s.val / 256 = t.val / 256 ∧ s.val ≤ t.val)

instance (b : Fin 8) (h : Fin 16) (t s : Fin 2048) : Decidable (Seen x0 x1 b h t s) := by
  unfold Seen
  infer_instance

theorem seen_at (b : Fin 8) (h : Fin 16) (t s : Fin 2048) :
    val_main_v45 x0 x1 (ix4 b h t s) = if Seen x0 x1 b h t s then 1#1 else 0#1 := by
  have e34 : val_main_v34 (F := Ideal) (ix2 t s) = if s.val / 256 = t.val / 256 then 1#1 else 0#1 := by
    pointwise [val_main_v34, val_main_v33, val_main_v32, val_main_v31]
    rw [block_at, key_block_at, WordCmp.cmpi_eq_ofNat (by omega) (by omega), ofBool_ite]
  have e39 : IntOp.cmpi CmpIPredicate.sle (val_main_v37 (F := Ideal) (ix2 t s)) (val_main_v38 (F := Ideal) (ix2 t s))
      = if s.val ≤ t.val then 1#1 else 0#1 := by
    pointwise [val_main_v37, val_main_v38, val_main_v36, val_main_v35, val_main_v28, val_main_v4]
    rw [WordCmp.cmpi_sle_ofNat (by omega) (by omega), ofBool_ite]
  pointwise [val_main_v45, val_main_v44, val_main_v43, val_main_v42, val_main_v41, val_main_v40, val_main_v39]
  rw [chosen_at, e34, e39, or_and]
  unfold Seen
  exact if_congr Iff.rfl rfl rfl

/-- The score of a key that is seen. -/
def score (b : Fin 8) (h : Fin 16) (t s : Fin 2048) : EReal :=
  (∑ d : Fin 64, x0 (ix4 b t h d) * x1 (ix4 b s h d)) * ((1 / 8 : ℝ) : EReal)

def maskedScore (b : Fin 8) (h : Fin 16) (t s : Fin 2048) : EReal :=
  if Seen x0 x1 b h t s then score x0 x1 b h t s else ⊥

theorem score_at (b : Fin 8) (h : Fin 16) (t s : Fin 2048) :
    val_main_v49 x0 x1 (ix4 b h t s) = maskedScore x0 x1 b h t s := by
  have e : val_main_v48 x0 x1 (ix4 b h t s) = score x0 x1 b h t s := by
    pointwise [val_main_v48, val_main_v47, val_main_v46, val_main_cst_4]
    rw [ofBits_eighth]; rfl
  have e2 : val_main_call3_v1 (F := Ideal) (ix4 b h t s) = (⊥ : EReal) := ofBits_neg_inf
  unfold maskedScore
  rw [← e, ← e2]
  pointwise [val_main_v49]
  rw [seen_at, select_ite]

end Cert.ReferenceIdeal.Moba
-- ==== Proof.RefMean.lean ====
module
public import proofs.«01_k».proof.Proof.Gen.ReferenceIdeal.Read
public import proofs.«01_k».proof.Proof.RefChoice
@[expose] public section
set_option maxRecDepth 16384
noncomputable section
/-! The reference's softmax, read at one query and one head. -/
namespace Cert.ReferenceIdeal.Moba
open Idealize.ShloMosaic Idealize.ShloMosaic.TcCoe Idealize.ShloMosaic.Tactic Idealize.SL.Sem
open Cert.ReferenceIdeal Cert.ReferenceIdeal.Gen Cert.ReferenceIdeal.Read Cert.Moba
variable (x0 x1 x2 : (⟨S8x2048x16x64, .f32⟩ : BufTy).Contents (Elt Ideal))

theorem largest_at (b : Fin 8) (h : Fin 16) (t : Fin 2048) (hs : ∀ s, maskedScore x0 x1 b h t s ≠ ⊤)
    (ht : score x0 x1 b h t t ≠ ⊥) : ∃ μ : ℝ, val_main_v50 x0 x1 (ix3 b h t) = (μ : EReal) := by
  have h0 : maskedScore x0 x1 b h t t ≠ ⊥ := by
    unfold maskedScore
    rw [if_pos (show Seen x0 x1 b h t t from Or.inr ⟨rfl, le_rfl⟩)]
    exact ht
  obtain ⟨μ, hμ⟩ := fold_max_real (fun s => maskedScore x0 x1 b h t s) hs t h0
  refine ⟨μ, ?_⟩
  rw [← hμ]
  pointwise [val_main_v50]
  refine congrArg₂ (fun z f => Finset.fold max z f Finset.univ) ofBits_neg_inf ?_
  funext s
  exact score_at x0 x1 b h t s

theorem exp_at (b : Fin 8) (h : Fin 16) (t s : Fin 2048) (μ : ℝ) (hμ : val_main_v50 x0 x1 (ix3 b h t) = (μ : EReal)) :
    val_main_v56 x0 x1 (ix4 b h t s) = Ideal.exp (maskedScore x0 x1 b h t s - (μ : EReal)) := by
  have i1 : idx_main_v53 (idx_main_v54 (ix4 b h t s)) = ix3 b h t := by
    funext a
    match a with
    | ⟨0, _⟩ => rfl
    | ⟨1, _⟩ => rfl
    | ⟨2, _⟩ => rfl
  rw [val_main_v56_apply, val_main_v55_apply, val_main_v54_apply, val_main_v53_apply, val_main_v52_apply, val_main_v51_apply,
    val_main_cst_7_apply, i1, hμ, score_at]
  generalize maskedScore x0 x1 b h t s = y
  show Ideal.exp (y - max (Ideal.ofBits .f32 0xFF800000#32) (μ : EReal)) = Ideal.exp (y - (μ : EReal))
  rw [ofBits_neg_inf, max_eq_right bot_le]

theorem total_at (b : Fin 8) (h : Fin 16) (t : Fin 2048) :
    val_main_v58 x0 x1 (ix4 b h t 0) = ∑ s : Fin 2048, val_main_v56 x0 x1 (ix4 b h t s) := by
  pointwise [val_main_v58, val_main_v57, val_main_cst_8]

theorem mean_raw (b : Fin 8) (h : Fin 16) (t : Fin 2048) (d : Fin 64) : val_main_v61 x0 x1 x2 (ix4 b h d t)
    = ∑ s : Fin 2048, x2 (ix4 b s h d) * Ideal.div (val_main_v56 x0 x1 (ix4 b h t s)) (val_main_v58 x0 x1 (ix4 b h t 0)) := by
  pointwise [val_main_v61, val_main_v60, val_main_v59]

/-- The softmax's weighted mean of the values. -/
theorem mean_at (b : Fin 8) (h : Fin 16) (t : Fin 2048) (hs : ∀ s, maskedScore x0 x1 b h t s ≠ ⊤) (d : Fin 64)
    (ht : score x0 x1 b h t t ≠ ⊥) :
    val_main_v61 x0 x1 x2 (ix4 b h d t)
      = (∑ s : Fin 2048, (weight (maskedScore x0 x1 b h t s) : EReal) * x2 (ix4 b s h d))
        * ((1 / ∑ s : Fin 2048, weight (maskedScore x0 x1 b h t s) : ℝ) : EReal) := by
  have h0 : maskedScore x0 x1 b h t t ≠ ⊥ := by
    unfold maskedScore
    rw [if_pos (show Seen x0 x1 b h t t from Or.inr ⟨rfl, le_rfl⟩)]
    exact ht
  obtain ⟨μ, hμ⟩ := largest_at x0 x1 b h t hs ht
  rw [← softmax_row (fun s => maskedScore x0 x1 b h t s) (fun s => x2 (ix4 b s h d)) hs t h0 μ, mean_raw, total_at]
  have e : ∀ s, val_main_v56 x0 x1 (ix4 b h t s) = Ideal.exp (maskedScore x0 x1 b h t s - (μ : EReal)) :=
    fun s => exp_at x0 x1 b h t s μ hμ
  rw [Finset.sum_congr rfl fun s _ => e s]
  exact Finset.sum_congr rfl fun s _ => by rw [e s]
end Cert.ReferenceIdeal.Moba
-- ==== Proof.Link.lean ====
module
public import proofs.«01_k».proof.Proof.Rank
public import proofs.«01_k».proof.Proof.Tile
public import proofs.«01_k».proof.Proof.RefMean
@[expose] public section
set_option maxRecDepth 16384
noncomputable section
/-! One row of one tile: what the kernel leaves there is the reference's softmax mean. -/
namespace Cert.KernelIdeal.Moba
open Idealize.ShloMosaic Idealize.ShloMosaic.TcCoe Idealize.ShloMosaic.Tactic Idealize.SL.Sem
open Cert.KernelIdeal Cert.KernelIdeal.Gen Cert.Moba
open Cert.ReferenceIdeal.Moba (gate maskedGate Seen score maskedScore)

/-- Row `r` of tile `w` among a sequence's queries. -/
def rowOf (w : Fin 16) (r : Fin 128) : Fin 2048 := ⟨128 * w.val + r.val, by omega⟩

/-- Column `d` of head `h`. -/
def colOf (h : Fin 16) (d : Fin 64) : Fin 1024 := ⟨64 * h.val + d.val, by omega⟩

theorem products_real {n : ℕ} (a c : Fin n → EReal) (ha : ∀ i, ∃ y : ℝ, a i = y) (hc : ∀ i, ∃ y : ℝ, c i = y) :
    ∃ y : ℝ, ∑ i, a i * c i = y := by
  choose a' ha using ha
  choose c' hc using hc
  refine ⟨∑ i, a' i * c' i, ?_⟩
  rw [coe_sum]
  exact Finset.sum_congr rfl fun i _ => by rw [ha, hc, EReal.coe_mul]

theorem scaled_products {n : ℕ} (a c : Fin n → EReal) (x : ℝ) (ha : ∀ i, ∃ y : ℝ, a i = y) (hc : ∀ i, ∃ y : ℝ, c i = y) :
    ∑ i, a i * (x : EReal) * c i = (∑ i, a i * c i) * (x : EReal) := by
  choose a' ha using ha
  choose c' hc using hc
  have e1 : ∑ i, a i * (x : EReal) * c i = ((∑ i, a' i * x * c' i : ℝ) : EReal) := by
    rw [coe_sum]
    exact Finset.sum_congr rfl fun i _ => by rw [ha, hc, EReal.coe_mul, EReal.coe_mul]
  have e2 : ∑ i, a i * c i = ((∑ i, a' i * c' i : ℝ) : EReal) := by
    rw [coe_sum]
    exact Finset.sum_congr rfl fun i _ => by rw [ha, hc, EReal.coe_mul]
  rw [e1, e2, ← EReal.coe_mul, Finset.sum_mul]
  exact congrArg _ (Finset.sum_congr rfl fun i _ => by ring)

theorem sum_scaled_real {n : ℕ} (a : Fin n → EReal) (x : ℝ) (ha : ∀ i, ∃ y : ℝ, a i = y) :
    ∃ y : ℝ, (∑ i, a i) * (x : EReal) = y := by
  choose a' ha using ha
  refine ⟨(∑ i, a' i) * x, ?_⟩
  rw [EReal.coe_mul, coe_sum]
  exact congrArg (· * (x : EReal)) (Finset.sum_congr rfl fun i _ => ha i)

variable (q k v : (⟨Cert.ReferenceIdeal.S8x2048x16x64, .f32⟩ : BufTy).Contents (Elt Ideal))
  (b : Fin 8) (w : Fin 16) (X0 : Vec Ideal S128x1024 .bf16) (X1 X2 : Vec Ideal S2048x1024 .bf16) (M : FVec Ideal S8x1024 .f32)

/-- The tile's blocks are the arguments' parts for sequence `b` and tile `w`, and the arguments are real. -/
structure Parts : Prop where
  hq : ∀ i, ∃ y : ℝ, q i = (y : EReal)
  hk : ∀ i, ∃ y : ℝ, k i = (y : EReal)
  h0 : ∀ r h d, X0 (ix2 r (colOf h d)) = q (ix4 b (rowOf w r) h d) * ((1 / 8 : ℝ) : EReal)
  h1 : ∀ s h d, X1 (ix2 s (colOf h d)) = k (ix4 b s h d)
  h2 : ∀ s h d, X2 (ix2 s (colOf h d)) = v (ix4 b s h d)
  h3 : ∀ n h d, M (ix2 n (colOf h d))
    = (∑ x : Fin 256, k (ix4 b ⟨n.val * 256 + x.val, by omega⟩ h d)) * ((1 / 256 : ℝ) : EReal)

variable {q k v b w X0 X1 X2 M}
variable (P : Parts q k v b w X0 X1 X2 M)
include P

theorem Parts.dot (h : Fin 16) (r : Fin 128) (s : Fin 2048) : headDot X0 X1 h r s = score q k b h (rowOf w r) s := by
  unfold headDot score
  rw [← scaled_products _ _ _ (fun _ => P.hq _) (fun _ => P.hk _)]
  exact Finset.sum_congr rfl fun d _ => congrArg₂ (· * ·) (P.h0 r h d) (P.h1 s h d)

theorem Parts.score_real (h : Fin 16) (t s : Fin 2048) : ∃ y : ℝ, score q k b h t s = y := by
  obtain ⟨y, e⟩ := products_real (fun d : Fin 64 => q (ix4 b t h d)) (fun d => k (ix4 b s h d)) (fun _ => P.hq _) (fun _ => P.hk _)
  exact ⟨y * (1 / 8), by unfold score; rw [e, EReal.coe_mul]⟩

theorem Parts.gate_real (h : Fin 16) (t : Fin 2048) (n : Fin 8) : ∃ y : ℝ, gate q k b h t n = y :=
  products_real _ _ (fun _ => P.hq _) (fun _ => sum_scaled_real _ _ fun _ => P.hk _)

theorem Parts.head_gate (h : Fin 16) (r : Fin 128) (n : Fin 8) :
    headGate X0 M h r n = gate q k b h (rowOf w r) n * ((1 / 8 : ℝ) : EReal) := by
  unfold headGate gate
  rw [← scaled_products _ _ _ (fun _ => P.hq _) (fun _ => sum_scaled_real _ _ fun _ => P.hk _)]
  exact Finset.sum_congr rfl fun d _ => congrArg₂ (· * ·) (P.h0 r h d) (P.h3 n h d)

omit P in
theorem row_block (w : Fin 16) (r : Fin 128) : (rowOf w r).val / 256 = w.val / 2 := by
  show (128 * w.val + r.val) / 256 = _
  omega

theorem Parts.places (h : Fin 16) (r : Fin 128) (n : Fin 8) :
    placeOf (eight (gates (BitVec.ofNat 32 (w.val / 2)) X0 M) r h) n = placeOf (maskedGate q k b h (rowOf w r)) n := by
  refine place_congr _ _ (fun i j => ?_) n
  have e : ∀ i : Fin 8, eight (gates (BitVec.ofNat 32 (w.val / 2)) X0 M) r h i
      = if i.val < w.val / 2 then gate q k b h (rowOf w r) i * ((1 / 8 : ℝ) : EReal) else ⊥ := by
    intro i
    unfold eight
    rw [gates_at _ (by omega), P.head_gate]
  have f : ∀ i : Fin 8, maskedGate q k b h (rowOf w r) i = if i.val < w.val / 2 then gate q k b h (rowOf w r) i else ⊥ := by
    intro i
    unfold maskedGate
    rw [row_block]
  rw [e, e, f, f]
  obtain ⟨y, hy⟩ := P.gate_real h (rowOf w r) i
  obtain ⟨z, hz⟩ := P.gate_real h (rowOf w r) j
  rw [hy, hz, ← EReal.coe_mul, ← EReal.coe_mul]
  split_ifs
  · rw [EReal.coe_lt_coe_iff, EReal.coe_lt_coe_iff]
    constructor <;> intro h <;> linarith
  · exact iff_of_false not_lt_bot not_lt_bot
  · exact iff_of_true (EReal.bot_lt_coe _) (EReal.bot_lt_coe _)
  · exact Iff.rfl

/-- The mask of one block in one row of one head. -/
theorem Parts.kept (h : Fin 16) (r : Fin 128) (n : Fin 8) :
    choice (k0_pay142 (BitVec.ofNat 32 (w.val / 2))) (gates (BitVec.ofNat 32 (w.val / 2)) X0 M) (ix2 r ⟨8 * h.val + n.val, by omega⟩)
      = if n.val < w.val / 2 ∧ placeOf (maskedGate q k b h (rowOf w r)) n < 3 then 0 else ⊥ := by
  rw [choice_at _ _ r h n (w.val / 2), P.places]
  rw [valid_at _ (by omega)]
  exact if_congr (by show (8 * h.val + n.val) % 8 < _ ↔ _; rw [show (8 * h.val + n.val) % 8 = n.val by omega]) rfl rfl

abbrev Parts.mask (_ : Parts q k v b w X0 X1 X2 M) : FVec Ideal S128x128 .f32 :=
  choice (k0_pay142 (BitVec.ofNat 32 (w.val / 2))) (gates (BitVec.ofNat 32 (w.val / 2)) X0 M)

theorem Parts.mask_ne_top (r l : Fin 128) : P.mask (ix2 r l) ≠ ⊤ := by
  have e := P.kept ⟨l.val / 8, by omega⟩ r ⟨l.val % 8, Nat.mod_lt _ (by decide)⟩
  have hl : (⟨8 * (l.val / 8) + l.val % 8, by omega⟩ : Fin 128) = l := Fin.ext (by show 8 * (l.val / 8) + l.val % 8 = l.val; omega)
  rw [show P.mask (ix2 r l) = P.mask (ix2 r ⟨8 * (l.val / 8) + l.val % 8, by omega⟩) by rw [hl]]
  rw [show P.mask (ix2 r ⟨8 * (l.val / 8) + l.val % 8, by omega⟩) = _ from e]
  split_ifs
  · exact EReal.zero_ne_top
  · exact bot_ne_top

theorem Parts.past (h : Fin 16) (r : Fin 128) (n : Fin 8) (hn : n.val < w.val / 2) (c : Fin 256) :
    pastS X0 P.mask X1 h r n.val c = maskedScore q k b h (rowOf w r) (keyAt n.val c) := by
  have hs : (keyAt n.val c).val / 256 = n.val := by show (256 * n.val + c.val) % 2048 / 256 = _; omega
  have hl : (⟨(8 * h.val + n.val) % 128, Nat.mod_lt _ (by decide)⟩ : Fin 128) = ⟨8 * h.val + n.val, by omega⟩ :=
    Fin.ext (by show (8 * h.val + n.val) % 128 = 8 * h.val + n.val; omega)
  unfold pastS
  rw [hl, show P.mask (ix2 r ⟨8 * h.val + n.val, by omega⟩) = _ from P.kept h r n, P.dot]
  unfold maskedScore
  have hi : Seen q k b h (rowOf w r) (keyAt n.val c)
      ↔ n.val < w.val / 2 ∧ placeOf (maskedGate q k b h (rowOf w r)) n < 3 := by
    have hf : (⟨(keyAt n.val c).val / 256, by omega⟩ : Fin 8) = n := Fin.ext hs
    unfold Seen
    rw [hf, hs, row_block]
    constructor
    · rintro (h | h)
      · exact h
      · omega
    · exact Or.inl
  by_cases hc : n.val < w.val / 2 ∧ placeOf (maskedGate q k b h (rowOf w r)) n < 3
  · rw [if_pos hc, if_pos (hi.2 hc), add_zero]
  · rw [if_neg hc, if_neg (mt hi.1 hc)]
    exact EReal.add_bot _

theorem Parts.own (h : Fin 16) (r : Fin 128) (c : Fin 256) :
    ownS X0 X1 h r (128 * (w.val % 2)) (w.val / 2) c = maskedScore q k b h (rowOf w r) (keyAt (w.val / 2) c) := by
  have hs : (keyAt (w.val / 2) c).val / 256 = w.val / 2 := by show (256 * (w.val / 2) + c.val) % 2048 / 256 = _; omega
  unfold ownS maskedScore
  rw [P.dot]
  refine if_congr ?_ rfl rfl
  unfold Seen
  have hb := row_block w r
  have e : (keyAt (w.val / 2) c).val ≤ (rowOf w r).val ↔ c.val ≤ r.val + 128 * (w.val % 2) := by
    show (256 * (w.val / 2) + c.val) % 2048 ≤ 128 * w.val + r.val ↔ _
    omega
  constructor
  · intro h; exact Or.inr ⟨hs.trans hb.symm, e.2 h⟩
  · rintro (h | h)
    · have h1 := h.1
      rw [hs, hb] at h1
      exact absurd h1 (lt_irrefl _)
    · exact e.1 h.2

theorem Parts.later (h : Fin 16) (r : Fin 128) (n : ℕ) (hn : w.val / 2 < n) (hn8 : n < 8) (c : Fin 256) :
    maskedScore q k b h (rowOf w r) (keyAt n c) = ⊥ := by
  have hs : (keyAt n c).val / 256 = n := by show (256 * n + c.val) % 2048 / 256 = _; omega
  unfold maskedScore
  rw [if_neg]
  unfold Seen
  have hb := row_block w r
  rintro (h | h)
  · have h1 := h.1
    rw [hs, hb] at h1
    omega
  · have h1 := h.1
    rw [hs, hb] at h1
    omega

omit P in
/-- A sum over all keys, block by block, when the blocks after block `o` give nothing. -/
theorem sum_blocks {R : Type} [AddCommMonoid R] (f : Fin 2048 → R) (o : ℕ) (ho : o < 8) (hf : ∀ n, o < n → n < 8 → ∀ c, f (keyAt n c) = 0) :
    ∑ s, f s = ∑ c : Fin 256, f (keyAt o c) + ∑ j ∈ Finset.range o, ∑ c : Fin 256, f (keyAt j c) := by
  have e : ∑ s, f s = ∑ n : Fin 8, ∑ c : Fin 256, f (keyAt n.val c) := by
    rw [← Fintype.sum_prod_type']
    refine (Fintype.sum_equiv (finProdFinEquiv (m := 8) (n := 256)) _ _ fun p => ?_).symm
    refine congrArg f (Fin.ext ?_)
    show (256 * p.1.val + p.2.val) % 2048 = p.2.val + 256 * p.1.val
    omega
  rw [e, Finset.sum_fin_eq_sum_range]
  have e2 : ∀ n ∈ Finset.range 8, (if h : n < 8 then ∑ c : Fin 256, f (keyAt n c) else 0) = ∑ c : Fin 256, f (keyAt n c) :=
    fun n hn => dif_pos (Finset.mem_range.1 hn)
  rw [Finset.sum_congr rfl e2, add_comm, ← Finset.sum_range_succ (fun n => ∑ c : Fin 256, f (keyAt n c))]
  refine (Finset.sum_subset (fun n hn => ?_) (fun n hn hn' => ?_)).symm
  · rw [Finset.mem_range] at hn ⊢; omega
  · rw [Finset.mem_range] at hn hn'
    exact Finset.sum_eq_zero fun c _ => hf n (by omega) hn c

theorem Parts.sumW_eq (h : Fin 16) (r : Fin 128) :
    sumW X0 P.mask X1 h r (128 * (w.val % 2)) (w.val / 2) (w.val / 2)
      = ∑ s : Fin 2048, weight (maskedScore q k b h (rowOf w r) s) := by
  rw [sum_blocks _ (w.val / 2) (by omega) (fun n hn hn8 c => by rw [P.later h r n hn hn8 c, weight_bot])]
  unfold sumW
  refine congrArg₂ (· + ·) (Finset.sum_congr rfl fun c _ => by rw [P.own]) ?_
  refine Finset.sum_congr rfl fun j hj => Finset.sum_congr rfl fun c _ => ?_
  have hj := Finset.mem_range.1 hj
  rw [show pastS X0 P.mask X1 h r j c = _ from P.past h r ⟨j, by omega⟩ hj c]

theorem Parts.sumV_eq (h : Fin 16) (r : Fin 128) (d : Fin 64) :
    sumV X0 P.mask X1 X2 h r (128 * (w.val % 2)) (w.val / 2) (colOf h d) (w.val / 2)
      = ∑ s : Fin 2048, (weight (maskedScore q k b h (rowOf w r) s) : EReal) * v (ix4 b s h d) := by
  rw [sum_blocks _ (w.val / 2) (by omega) (fun n hn hn8 c => by rw [P.later h r n hn hn8 c, weight_bot, EReal.coe_zero, zero_mul])]
  unfold sumV
  refine congrArg₂ (· + ·) (Finset.sum_congr rfl fun c _ => by rw [P.own, P.h2]) ?_
  refine Finset.sum_congr rfl fun j hj => Finset.sum_congr rfl fun c _ => ?_
  have hj := Finset.mem_range.1 hj
  rw [show pastS X0 P.mask X1 h r j c = _ from P.past h r ⟨j, by omega⟩ hj c, P.h2]

theorem Parts.row (see : IVec S256x256 1) (n : Fin 8) (u : Fin 2) (r l : Fin 128) (hu : l.val / 64 = u.val)
    (hsee : ∀ c : Fin 256, see (ix2 (pairRow u r) c) = if c.val ≤ r.val + 128 * (w.val % 2) then 1#1 else 0#1)
    (d : Fin 64) (hd : l.val % 64 = d.val) :
    outTile (seqA see X0 P.mask X1 X2 (w.val / 2) (w.val / 2) n) (seqL see X0 P.mask X1 X2 (w.val / 2) (w.val / 2) n) (ix2 r l)
      = Cert.ReferenceIdeal.Read.val_main_v61 q k v (ix4 b (headOf n u) d (rowOf w r)) := by
  have hc : (⟨128 * n.val + l.val, by omega⟩ : Fin 1024) = colOf (headOf n u) d :=
    Fin.ext (by show 128 * n.val + l.val = 64 * (2 * n.val + u.val) + d.val; omega)
  rw [quotient_at see X0 P.mask X1 X2 n u r (128 * (w.val % 2)) (w.val / 2) hsee
    (fun t => by rw [P.dot]; exact P.score_real _ _ _) (P.mask_ne_top r) (by omega) l hu, hc, P.sumW_eq, P.sumV_eq]
  refine (Cert.ReferenceIdeal.Moba.mean_at q k v b (headOf n u) (rowOf w r) (fun s => ?_) d ?_).symm
  · unfold maskedScore
    obtain ⟨y, e⟩ := P.score_real (headOf n u) (rowOf w r) s
    rw [e]
    split_ifs
    · exact EReal.coe_ne_top y
    · exact bot_ne_top
  · obtain ⟨y, e⟩ := P.score_real (headOf n u) (rowOf w r) (rowOf w r)
    rw [e]; exact EReal.coe_ne_bot y
end Cert.KernelIdeal.Moba
-- ==== Proof.Blocks.lean ====
module
public import proofs.«01_k».proof.Proof.Link
public import proofs.«01_k».proof.Proof.Finish
public import proofs.«01_k».proof.Proof.Gen.KernelIdeal.Value
public import Idealize.ShloMosaic.Lib.Pipeline.ValueKit
public import Idealize.ShloMosaic.Lib.Claim
@[expose] public section
set_option maxRecDepth 16384
noncomputable section
/-! From the grid's points to the result array. -/
namespace Cert.KernelIdeal.Moba
open Idealize.ShloMosaic Idealize.ShloMosaic.TcCoe Idealize.ShloMosaic.Tactic Idealize.SL.Sem
open Cert.KernelIdeal Cert.KernelIdeal.Gen Cert.KernelIdeal.Value Cert.Moba

theorem eighth_word : (Ideal.ofBits .f32 0x3E000000#32 : EReal) = ((1 / 8 : ℝ) : EReal) := by
  simp [Ideal.ofBits, Ideal.ieee]
  rw [← EReal.coe_mul]; norm_num

theorem part_word : (Ideal.ofBits .f32 0x3B800000#32 : EReal) = ((1 / 256 : ℝ) : EReal) := by
  simp [Ideal.ofBits, Ideal.ieee]
  rw [← EReal.coe_mul]; norm_num

variable (m : (ℓ : Loc nD τ sig) → Buf (Elt Ideal) ℓ) (c : Dev nD)

abbrev qArg : Vec Ideal S8x2048x16x64 .f32 := m ((c : Thread nD τ).loc main_arg0)
abbrev kArg : Vec Ideal S8x2048x16x64 .f32 := m ((c : Thread nD τ).loc main_arg1)
abbrev vArg : Vec Ideal S8x2048x16x64 .f32 := m ((c : Thread nD τ).loc main_arg2)
abbrev gArg : Vec Ideal S1024 .f32 := m ((c : Thread nD τ).loc main_arg3)

theorem queries_at (p : Fin 16384) (j : Fin 1024) : (show Vec Ideal S16384x1024 .bf16 from V m c main_v3) (ix2 p j)
    = qArg m c (ix4 ⟨p.val / 2048, by omega⟩ ⟨p.val % 2048, Nat.mod_lt _ (by decide)⟩ ⟨j.val / 64, by omega⟩ ⟨j.val % 64, Nat.mod_lt _ (by decide)⟩)
      * ((1 / 8 : ℝ) : EReal) := by
  rw [← eighth_word]
  entry_read
  pointwise []

theorem keys_at (p : Fin 16384) (j : Fin 1024) : (show Vec Ideal S16384x1024 .bf16 from V m c main_v5) (ix2 p j)
    = kArg m c (ix4 ⟨p.val / 2048, by omega⟩ ⟨p.val % 2048, Nat.mod_lt _ (by decide)⟩ ⟨j.val / 64, by omega⟩ ⟨j.val % 64, Nat.mod_lt _ (by decide)⟩) := by
  entry_read
  pointwise []

theorem values_at (p : Fin 16384) (j : Fin 1024) : (show Vec Ideal S16384x1024 .bf16 from V m c main_v7) (ix2 p j)
    = vArg m c (ix4 ⟨p.val / 2048, by omega⟩ ⟨p.val % 2048, Nat.mod_lt _ (by decide)⟩ ⟨j.val / 64, by omega⟩ ⟨j.val % 64, Nat.mod_lt _ (by decide)⟩) := by
  entry_read
  pointwise []

theorem key_means_at (b n : Fin 8) (j : Fin 1024) : (show Vec Ideal S8x8x1024 .f32 from V m c main_v11) (ix3 b n j)
    = (∑ x : Fin 256, kArg m c (ix4 b ⟨n.val * 256 + x.val, by omega⟩ ⟨j.val / 64, by omega⟩ ⟨j.val % 64, Nat.mod_lt _ (by decide)⟩))
      * ((1 / 256 : ℝ) : EReal) := by
  rw [← part_word]
  entry_read
  pointwise []

theorem gains_at (j : Fin 1024) : (show Vec Ideal S1x1024 .f32 from V m c main_v12) (ix2 0 j) = gArg m c (ix1 j) := by
  entry_read
  pointwise []

theorem places : ∀ t : Fin cfg0.N, win0_0.index t = ![t.val, 0] ∧ win0_1.index t = ![t.val / 16, 0]
    ∧ win0_2.index t = ![t.val / 16, 0] ∧ win0_3.index t = ![t.val / 16, 0, 0] ∧ win0_4.index t = ![0, 0]
    ∧ win0_5.index t = ![t.val, 0] ∧ (grid0.coords t 0).val = t.val / 16 ∧ (grid0.coords t 1).val = t.val % 16 :=
  (by decide +kernel : ∀ t : Fin grid0.N, _)

theorem points_lt (t : Fin cfg0.N) : t.val < 128 := t.isLt

abbrev batchOf (t : Fin cfg0.N) : Fin 8 := ⟨t.val / 16, by have := points_lt t; omega⟩
abbrev tileOf (t : Fin cfg0.N) : Fin 16 := ⟨t.val % 16, Nat.mod_lt _ (by decide)⟩

variable (t : Fin cfg0.N)

abbrev qBlk : Vec Ideal S128x1024 .bf16 := iblk m c 0 t
abbrev kBlk : Vec Ideal S2048x1024 .bf16 := iblk m c 1 t
abbrev vBlk : Vec Ideal S2048x1024 .bf16 := iblk m c 2 t
abbrev mBlk : Vec Ideal S1x8x1024 .f32 := iblk m c 3 t
abbrev gBlk : Vec Ideal S1x1024 .f32 := iblk m c 4 t

theorem qBlk_at (r : Fin 128) (h : Fin 16) (d : Fin 64) : qBlk m c t (ix2 r (colOf h d))
    = qArg m c (ix4 (batchOf t) (rowOf (tileOf t) r) h d) * ((1 / 8 : ℝ) : EReal) := by
  have ht := points_lt t
  have e : qBlk m c t (ix2 r (colOf h d)) = (show Vec Ideal S16384x1024 .bf16 from V m c main_v3) (ix2 ⟨128 * t.val + r.val, by omega⟩ (colOf h d)) := by
    blk_ext [iblk, places t]
  rw [e, queries_at]
  refine congrArg (· * ((1 / 8 : ℝ) : EReal)) (congrArg (qArg m c) ?_)
  refine funext fun a => Fin.ext ?_
  match a with
  | ⟨0, _⟩ => show (128 * t.val + r.val) / 2048 = t.val / 16; omega
  | ⟨1, _⟩ => show (128 * t.val + r.val) % 2048 = 128 * (t.val % 16) + r.val; omega
  | ⟨2, _⟩ => show (64 * h.val + d.val) / 64 = h.val; omega
  | ⟨3, _⟩ => show (64 * h.val + d.val) % 64 = d.val; omega

theorem kBlk_at (s : Fin 2048) (h : Fin 16) (d : Fin 64) : kBlk m c t (ix2 s (colOf h d))
    = kArg m c (ix4 (batchOf t) s h d) := by
  have ht := points_lt t
  have e : kBlk m c t (ix2 s (colOf h d)) = (show Vec Ideal S16384x1024 .bf16 from V m c main_v5) (ix2 ⟨2048 * (t.val / 16) + s.val, by omega⟩ (colOf h d)) := by
    blk_ext [iblk, places t]
  rw [e, keys_at]
  refine congrArg (kArg m c) ?_
  refine funext fun a => Fin.ext ?_
  match a with
  | ⟨0, _⟩ => show (2048 * (t.val / 16) + s.val) / 2048 = t.val / 16; omega
  | ⟨1, _⟩ => show (2048 * (t.val / 16) + s.val) % 2048 = s.val; omega
  | ⟨2, _⟩ => show (64 * h.val + d.val) / 64 = h.val; omega
  | ⟨3, _⟩ => show (64 * h.val + d.val) % 64 = d.val; omega

theorem vBlk_at (s : Fin 2048) (h : Fin 16) (d : Fin 64) : vBlk m c t (ix2 s (colOf h d))
    = vArg m c (ix4 (batchOf t) s h d) := by
  have ht := points_lt t
  have e : vBlk m c t (ix2 s (colOf h d)) = (show Vec Ideal S16384x1024 .bf16 from V m c main_v7) (ix2 ⟨2048 * (t.val / 16) + s.val, by omega⟩ (colOf h d)) := by
    blk_ext [iblk, places t]
  rw [e, values_at]
  refine congrArg (vArg m c) ?_
  refine funext fun a => Fin.ext ?_
  match a with
  | ⟨0, _⟩ => show (2048 * (t.val / 16) + s.val) / 2048 = t.val / 16; omega
  | ⟨1, _⟩ => show (2048 * (t.val / 16) + s.val) % 2048 = s.val; omega
  | ⟨2, _⟩ => show (64 * h.val + d.val) / 64 = h.val; omega
  | ⟨3, _⟩ => show (64 * h.val + d.val) % 64 = d.val; omega

theorem mBlk_at (n : Fin 8) (h : Fin 16) (d : Fin 64) : mBlk m c t (ix3 0 n (colOf h d))
    = (∑ x : Fin 256, kArg m c (ix4 (batchOf t) ⟨n.val * 256 + x.val, by omega⟩ h d)) * ((1 / 256 : ℝ) : EReal) := by
  have ht := points_lt t
  have e : mBlk m c t (ix3 0 n (colOf h d)) = (show Vec Ideal S8x8x1024 .f32 from V m c main_v11) (ix3 (batchOf t) n (colOf h d)) := by
    blk_ext [iblk, places t]
  rw [e, key_means_at]
  refine congrArg (· * ((1 / 256 : ℝ) : EReal)) (Finset.sum_congr rfl fun x _ => congrArg (kArg m c) ?_)
  refine funext fun a => Fin.ext ?_
  match a with
  | ⟨0, _⟩ => rfl
  | ⟨1, _⟩ => rfl
  | ⟨2, _⟩ => show (64 * h.val + d.val) / 64 = h.val; omega
  | ⟨3, _⟩ => show (64 * h.val + d.val) % 64 = d.val; omega

theorem gBlk_at (j : Fin 1024) : gBlk m c t (ix2 0 j) = gArg m c (ix1 j) := by
  rw [← gains_at]
  blk_ext [iblk, places t]

theorem hz : (![0, 0] : Fin 2 → Nat) = fun _ => 0 := funext fun a => by fin_cases a <;> rfl
end Cert.KernelIdeal.Moba
-- ==== Proof.Result.lean ====
module
public import proofs.«01_k».proof.Proof.Blocks
@[expose] public section
set_option maxRecDepth 16384
noncomputable section
/-! The result array is the reference's last value of the same arguments. -/
namespace Cert.KernelIdeal.Moba
open Idealize.ShloMosaic Idealize.ShloMosaic.TcCoe Idealize.ShloMosaic.Tactic Idealize.SL.Sem
open Cert.KernelIdeal Cert.KernelIdeal.Gen Cert.KernelIdeal.Value Cert.Moba
open Cert.ReferenceIdeal.Read (val_main_v61 val_main_v62 val_main_v63 val_main_v64 val_main_v65 val_main_v66 val_main_v67 val_main_v68
  val_main_v69 val_main_v70 val_main_v71 val_main_v72 val_main_v73 val_main_v74 val_main_v75 val_main_v76 val_main_v77 val_main_v78
  val_main_cst_9 val_main_cst_10 val_main_cst_11)

section body
variable (c : Dev nD) (i : grid0.Coords)
  (arg2 : Memref sig .tc .vmem S128x1024 .bf16) (harg2 : arg2.IsWhole)
  (arg3 : Memref sig .tc .vmem S2048x1024 .bf16) (harg3 : arg3.IsWhole)
  (arg4 : Memref sig .tc .vmem S2048x1024 .bf16) (harg4 : arg4.IsWhole)
  (arg5 : Memref sig .tc .vmem S1x8x1024 .f32) (harg5 : arg5.IsWhole)
  (arg6 : Memref sig .tc .vmem S1x1024 .f32) (harg6 : arg6.IsWhole)
  (arg7 : Memref sig .tc .vmem S128x1024 .bf16) (harg7 : arg7.IsWhole)
  (arg8 : Memref sig .tc .vmem S8x256x256 .bf16) (harg8 : arg8.IsWhole)
  (arg9 : Memref sig .tc .vmem S8x256x128 .f32) (harg9 : arg9.IsWhole)
  (arg10 : Memref sig .tc .vmem S8x256x128 .f32) (harg10 : arg10.IsWhole)
  (arg11 : Memref sig .tc .vmem S8x256x128 .f32) (harg11 : arg11.IsWhole)
  (arg12 : Memref sig .tc .vmem S128x1024 .f32) (harg12 : arg12.IsWhole)
variable (x0 : Vec Ideal S128x1024 .bf16) (x1 x2 : Vec Ideal S2048x1024 .bf16) (x3 : Vec Ideal S1x8x1024 .f32)
  (x4 : Vec Ideal S1x1024 .f32)

theorem left_by_body : out0_A_5 (F := Ideal) c i arg2 harg2 arg3 harg3 arg4 harg4 arg5 harg5 arg6 harg6 arg7 harg7 arg8 harg8 arg9 harg9 arg10 harg10 arg11 harg11 arg12 harg12 x0 x1 x2 x3 x4
    = k0_pay1 (tileOut c i arg2 harg2 arg3 harg3 arg4 harg4 arg5 harg5 arg6 harg6 arg7 harg7 arg8 harg8 arg9 harg9 arg10 harg10 arg11 harg11 arg12 harg12 x0 x1 x2 x3) (k0_pay268 (tileOut c i arg2 harg2 arg3 harg3 arg4 harg4 arg5 harg5 arg6 harg6 arg7 harg7 arg8 harg8 arg9 harg9 arg10 harg10 arg11 harg11 arg12 harg12 x0 x1 x2 x3)) x4 := by
  unfold out0_A_5
  rw [View.read_writes_junk_eq_canon, body_out, View.canon_unit_zero hz, View.readAt_eq_ld, harg6.read_unread, View.ld_unit_zero hz]

theorem tile_at {q k v : (⟨Cert.ReferenceIdeal.S8x2048x16x64, .f32⟩ : BufTy).Contents (Elt Ideal)} {b : Fin 8} {w : Fin 16}
    (hw : (i 1).val = w.val) (P : Parts q k v b w x0 x1 x2 (kernelRun0_A.sl.r_1 (F := Ideal) c arg5 harg5 x3)) (r : Fin 128) (j : Fin 1024) :
    tileOut c i arg2 harg2 arg3 harg3 arg4 harg4 arg5 harg5 arg6 harg6 arg7 harg7 arg8 harg8 arg9 harg9 arg10 harg10 arg11 harg11 arg12 harg12 x0 x1 x2 x3 (ix2 r j)
      = val_main_v61 q k v (ix4 b ⟨j.val / 64, by omega⟩ ⟨j.val % 64, Nat.mod_lt _ (by decide)⟩ (rowOf w r)) := by
  rw [tileOut_at c i arg2 harg2 arg3 harg3 arg4 harg4 arg5 harg5 arg6 harg6 arg7 harg7 arg8 harg8 arg9 harg9 arg10 harg10 arg11 harg11 arg12 harg12 x0 x1 x2 x3 ⟨j.val / 128, by omega⟩ r ⟨j.val % 128, Nat.mod_lt _ (by decide)⟩ j
    (by show j.val = 128 * (j.val / 128) + j.val % 128; omega)]
  have hs : ∀ (u : Fin 2) (x : Fin 256), kernelRun0_A.sl.r_13 i (ix2 (pairRow u r) x)
      = if x.val ≤ r.val + 128 * (w.val % 2) then 1#1 else 0#1 := fun u x => by rw [see_at, hw]
  have hb : blockOf i = w.val / 2 := by show (i 1).val / 2 = _; rw [hw]
  have hm : tb c i arg2 harg2 arg5 harg5 x0 x3 = P.mask := by rw [tb_eq, tq_eq, block_word, hw]
  rw [tq_eq, hm, hb]
  generalize kernelRun0_A.sl.r_13 i = see at hs
  have hu : j.val % 128 / 64 < 2 := by omega
  rw [P.row see ⟨j.val / 128, by omega⟩ ⟨j.val % 128 / 64, hu⟩ r ⟨j.val % 128, Nat.mod_lt _ (by decide)⟩ rfl (hs _)
    ⟨j.val % 64, Nat.mod_lt _ (by decide)⟩ (by show j.val % 128 % 64 = j.val % 64; omega)]
  refine congrArg (fun h => val_main_v61 q k v (ix4 b h ⟨j.val % 64, Nat.mod_lt _ (by decide)⟩ (rowOf w r))) (Fin.ext ?_)
  show 2 * (j.val / 128) + j.val % 128 / 64 = j.val / 64
  omega
end body

section norm
variable (q k v : (⟨Cert.ReferenceIdeal.S8x2048x16x64, .f32⟩ : BufTy).Contents (Elt Ideal))
  (g : (⟨Cert.ReferenceIdeal.S1024, .f32⟩ : BufTy).Contents (Elt Ideal))

theorem ref_row (b : Fin 8) (t : Fin 2048) (j : Fin 1024) : val_main_v63 q k v (ix3 b t j)
    = val_main_v61 q k v (ix4 b ⟨j.val / 64, by omega⟩ ⟨j.val % 64, Nat.mod_lt _ (by decide)⟩ t) := by
  pointwise [val_main_v63, val_main_v62]

theorem ref_scale (b : Fin 8) (t : Fin 2048) : val_main_v71 q k v (ix3 b t 0)
    = Ideal.rsqrt (Ideal.div (∑ x, val_main_v63 q k v (ix3 b t x) * val_main_v63 q k v (ix3 b t x)) (Ideal.ofBits .f32 0x44800000#32)
        + Ideal.ofBits .f32 0x358637BD#32) := by
  pointwise [val_main_v71, val_main_v70, val_main_v69, val_main_v68, val_main_v67, val_main_v66, val_main_v65, val_main_v64,
    val_main_cst_9, val_main_cst_10, val_main_cst_11]

theorem ref_result (p : Fin 16384) (j : Fin 1024) : val_main_v78 q k v g (ix2 p j)
    = val_main_v63 q k v (ix3 ⟨p.val / 2048, by omega⟩ ⟨p.val % 2048, Nat.mod_lt _ (by decide)⟩ j)
      * val_main_v71 q k v (ix3 ⟨p.val / 2048, by omega⟩ ⟨p.val % 2048, Nat.mod_lt _ (by decide)⟩ 0) * g (ix1 j) := by
  pointwise [val_main_v78, val_main_v77, val_main_v76, val_main_v75, val_main_v74, val_main_v73, val_main_v72]

theorem norm_at (T : Vec Ideal S128x1024 .f32) (x4 : Vec Ideal S1x1024 .f32) (r : Fin 128) (j : Fin 1024) :
    k0_pay1 (F := Ideal) T (k0_pay268 T) x4 (ix2 r j)
      = (show EReal from T (ix2 r j)) * Ideal.rsqrt (Ideal.div (∑ x : Fin 1024, (show EReal from T (ix2 r x)) * (show EReal from T (ix2 r x))) (Ideal.ofBits .f32 0x44800000#32)
        + Ideal.ofBits .f32 0x358637BD#32) * (show EReal from x4 (ix2 0 j)) := by
  pointwise [k0_pay1, k0_pay268]

theorem norm_eq (T : Vec Ideal S128x1024 .f32) (x4 : Vec Ideal S1x1024 .f32) (b : Fin 8) (t : Fin 2048) (r : Fin 128)
    (hT : ∀ j : Fin 1024, T (ix2 r j) = val_main_v61 q k v (ix4 b ⟨j.val / 64, by omega⟩ ⟨j.val % 64, Nat.mod_lt _ (by decide)⟩ t))
    (hg : ∀ j : Fin 1024, x4 (ix2 0 j) = g (ix1 j)) (p : Fin 16384) (hb : p.val / 2048 = b.val) (ht : p.val % 2048 = t.val) (j : Fin 1024) :
    k0_pay1 (F := Ideal) T (k0_pay268 T) x4 (ix2 r j) = val_main_v78 q k v g (ix2 p j) := by
  have eb : (⟨p.val / 2048, by omega⟩ : Fin 8) = b := Fin.ext hb
  have et : (⟨p.val % 2048, Nat.mod_lt _ (by decide)⟩ : Fin 2048) = t := Fin.ext ht
  have hT' : ∀ j, T (ix2 r j) = val_main_v63 q k v (ix3 b t j) := fun j => (hT j).trans (ref_row q k v b t j).symm
  rw [norm_at, ref_result, eb, et, ref_scale]
  simp only [hT', hg]
end norm

variable (m : (ℓ : Loc nD τ sig) → Buf (Elt Ideal) ℓ) (c : Dev nD)
  (hq : ∀ i, ∃ y : ℝ, qArg m c i = (y : EReal)) (hk : ∀ i, ∃ y : ℝ, kArg m c i = (y : EReal))

/-- The result, as the reference computes it. -/
abbrev result : Vec Ideal S16384x1024 .bf16 := val_main_v78 (qArg m c) (kArg m c) (vArg m c) (gArg m c)

include hq hk in
theorem final : (dats m 0 c).arrAt 5 (cfgs 0).N = result m c := by
  refine (dats m 0 c).arrAt_eq_of_covers 5 _ (by decide +kernel) fun t _ y => ?_
  blk_simp
  rw [after0_5]
  have ht := points_lt t
  have hp : Parts (qArg m c) (kArg m c) (vArg m c) (batchOf t) (tileOf t) (qBlk m c t) (kBlk m c t) (vBlk m c t)
      (kernelRun0_A.sl.r_1 (F := Ideal) c (ms0_3 t) (hs0_3 t) (mBlk m c t)) :=
    ⟨hq, hk, qBlk_at m c t, kBlk_at m c t, vBlk_at m c t, fun n h d => by rw [tm_at, mBlk_at]⟩
  have hw : (grid0.coords t 1).val = (tileOf t).val := (places t).2.2.2.2.2.2.2
  rw [outsAt0, left_by_body]
  have e5 : ((cfg0.win 5).blk t).view.emb y = (ix2 (⟨128 * t.val + (y 0).val, by have h : (y 0).val < 128 := (y 0).isLt; omega⟩ : Fin 16384) (y 1) : S16384x1024.Idx) := by
    blk_ext [places t]
  have ey : y = (ix2 (y 0) (y 1) : S128x1024.Idx) := by
    funext a
    match a with
    | ⟨0, _⟩ => rfl
    | ⟨1, _⟩ => rfl
  have h0 : (y 0).val < 128 := (y 0).isLt
  rw [e5]
  refine (congrArg _ ey).trans (norm_eq _ _ _ _ _ _ (batchOf t) (rowOf (tileOf t) (y 0)) (y 0) (fun j => tile_at _ _ _ _ _ _ _ _ _ _ _ _ _ _ _ _ _ _ _ _ _ _ _ _ _ _ _ _ hw hp (y 0) j)
    (gBlk_at m c t) _ ?_ ?_ (y 1))
  · show (128 * t.val + (y 0).val) / 2048 = t.val / 16
    omega
  · show (128 * t.val + (y 0).val) % 2048 = 128 * (t.val % 16) + (y 0).val
    omega
end Cert.KernelIdeal.Moba
-- ==== Proof.Finite.lean ====
module
public import proofs.«01_k».proof.Pre_finite
public import Idealize.ShloMosaic.PureOps.Ideal
public import Idealize.ShloMosaic.Lib.ReduceAll
public import Idealize.ShloMosaic.Lib.Affine
public import Idealize.ShloMosaic.Lib.Pointwise
@[expose] public section
set_option maxRecDepth 16384
noncomputable section
/-! The precondition at exact values: every query and key is a real number. -/
namespace Cert.Pre_finite.Moba
open Idealize.ShloMosaic Idealize.ShloMosaic.Tactic

theorem facts : Cert.Pre_finite.Facts :=
  ⟨by decide, by decide, by decide⟩

instance : Subsingleton S_.Idx := ⟨fun a b => funext fun i => i.elim0⟩

theorem inf_word : (Ideal.ofBits .f32 0x7F800000#32 : EReal) = ⊤ := by
  simp [Ideal.ofBits, Ideal.ieee]

theorem real_of_lt (x : EReal) (h : max x (-x) < ⊤) : ∃ y : ℝ, x = (y : EReal) := by
  induction x using EReal.rec with
  | bot => simp at h
  | top => simp at h
  | coe r => exact ⟨r, rfl⟩

theorem real_of_below [Facts] (x : FVec Ideal S8x2048x16x64 .f32) (i : S8x2048x16x64.Idx)
    (h : cmpf .olt (Host.absf x) (broadcastInDim S8x2048x16x64 ![] Facts.bcast_S_S8x2048x16x64 (constant S_ .f32 0x7F800000#32)) i = 1#1) :
    ∃ y : ℝ, x i = (y : EReal) := by
  have e : cmpf .olt (Host.absf x) (broadcastInDim S8x2048x16x64 ![] Facts.bcast_S_S8x2048x16x64 (constant S_ .f32 0x7F800000#32)) i
      = BitVec.ofBool (decide (max (x i) (-(x i)) < (Ideal.ofBits .f32 0x7F800000#32 : EReal))) := rfl
  rw [e, inf_word] at h
  refine real_of_lt (x i) ?_
  by_contra hn
  rw [decide_eq_false hn] at h
  exact absurd h (by decide)

theorem reals [Facts] (a0 a1 a2 : FVec Ideal S8x2048x16x64 .f32) (a3 : FVec Ideal S1024 .f32)
    (h : fn a0 a1 a2 a3 = fun _ => 1#1) : (∀ i, ∃ y : ℝ, a0 i = (y : EReal)) ∧ ∀ i, ∃ y : ℝ, a1 i = (y : EReal) := by
  have h0 : IntOp.andi _ _ = 1#1 := congrFun h (fun i => i.elim0)
  obtain ⟨p, q⟩ := IntOp.andi_eq_one.1 h0
  exact ⟨fun i => real_of_below a0 i (Host.reduce_andi_all _ _ _ _ _ p i), fun i => real_of_below a1 i (Host.reduce_andi_all _ _ _ _ _ q i)⟩
end Cert.Pre_finite.Moba
-- ==== Proof.Turn.lean ====
module
public import Idealize.ShloMosaic.PureOps.Ideal
@[expose] public section
set_option maxRecDepth 16384
noncomputable section
/-! The rotary turn of the first sixteen columns of a head, in the two forms the programs have: pair by pair, and by three
products with tables that are one and zero where nothing turns. -/
namespace Cert.Proj
open Idealize.ShloMosaic

/-- Column `d` of head `h` among the 1024 columns. -/
abbrev col (h : Fin 16) (d : Fin 64) : Fin 1024 := ⟨64 * h.val + d.val, by omega⟩

/-- The turned value: the first eight columns of a head with the next eight, by cosine and sine; the others as they are. -/
def turn (P : Fin 1024 → EReal) (co si : Fin 8 → EReal) (h : Fin 16) (d : Fin 64) : EReal :=
  if p : d.val < 8 then P (col h d) * co ⟨d.val, p⟩ - P (col h ⟨d.val + 8, by omega⟩) * si ⟨d.val, p⟩
  else if q : d.val < 16 then P (col h d) * co ⟨d.val - 8, by omega⟩ + P (col h ⟨d.val - 8, by omega⟩) * si ⟨d.val - 8, by omega⟩
  else P (col h d)

/-- The table of the column's own factor: cosines, then ones. -/
def own (co : Fin 8 → EReal) (d : Fin 64) : EReal :=
  if p : d.val < 8 then co ⟨d.val, p⟩ else if q : d.val < 16 then co ⟨d.val - 8, by omega⟩ else 1

/-- The table of the factor of the column eight after: minus the sines, then zeros. -/
def after (si : Fin 8 → EReal) (d : Fin 64) : EReal := if p : d.val < 8 then - si ⟨d.val, p⟩ else 0

/-- The table of the factor of the column eight before: zeros, the sines, zeros. -/
def before (si : Fin 8 → EReal) (d : Fin 64) : EReal :=
  if d.val < 8 then 0 else if q : d.val < 16 then si ⟨d.val - 8, by omega⟩ else 0

/-- Half `e` of the columns and a column of the half. -/
abbrev half (e : Fin 2) (c : Fin 512) : Fin 1024 := ⟨512 * e.val + c.val, by omega⟩

/-- The three products over a half of 512 columns, turned around its end, are the turned value. -/
theorem three_products (P : Fin 1024 → EReal) (co si : Fin 8 → EReal) (e : Fin 2) (c : Fin 512) :
    P (half e c) * own co ⟨c.val % 64, Nat.mod_lt _ (by decide)⟩
      + P (half e ⟨(c.val + 8) % 512, Nat.mod_lt _ (by decide)⟩) * after si ⟨c.val % 64, Nat.mod_lt _ (by decide)⟩
      + P (half e ⟨(c.val + 504) % 512, Nat.mod_lt _ (by decide)⟩) * before si ⟨c.val % 64, Nat.mod_lt _ (by decide)⟩
    = turn P co si ⟨(half e c).val / 64, by omega⟩ ⟨(half e c).val % 64, Nat.mod_lt _ (by decide)⟩ := by
  have hm : (512 * e.val + c.val) % 64 = c.val % 64 := by omega
  have e0 : (⟨(half e c).val % 64, Nat.mod_lt _ (by decide)⟩ : Fin 64) = ⟨c.val % 64, Nat.mod_lt _ (by decide)⟩ := Fin.ext hm
  rw [e0]
  have e1 : col ⟨(half e c).val / 64, by omega⟩ ⟨c.val % 64, Nat.mod_lt _ (by decide)⟩ = half e c := Fin.ext (by
    show 64 * ((512 * e.val + c.val) / 64) + c.val % 64 = 512 * e.val + c.val; omega)
  unfold turn own after before
  by_cases p : c.val % 64 < 8
  · rw [dif_pos p, dif_pos p, dif_pos p, if_pos p, e1, mul_zero, add_zero, mul_neg, sub_eq_add_neg]
    have e2 : col ⟨(half e c).val / 64, by omega⟩ ⟨c.val % 64 + 8, by omega⟩ = half e ⟨(c.val + 8) % 512, Nat.mod_lt _ (by decide)⟩ := Fin.ext (by
      show 64 * ((512 * e.val + c.val) / 64) + (c.val % 64 + 8) = 512 * e.val + (c.val + 8) % 512; omega)
    rw [e2]
  · rw [dif_neg p, dif_neg p, dif_neg p, if_neg p]
    by_cases q : c.val % 64 < 16
    · rw [dif_pos q, dif_pos q, dif_pos q, mul_zero, add_zero, e1]
      have e2 : col ⟨(half e c).val / 64, by omega⟩ ⟨c.val % 64 - 8, by omega⟩ = half e ⟨(c.val + 504) % 512, Nat.mod_lt _ (by decide)⟩ := Fin.ext (by
        show 64 * ((512 * e.val + c.val) / 64) + (c.val % 64 - 8) = 512 * e.val + (c.val + 504) % 512; omega)
      rw [e2]
    · rw [dif_neg q, dif_neg q, dif_neg q, mul_zero, mul_zero, mul_one, add_zero, add_zero, e1]

end Cert.Proj
-- ==== Proof.ProjBlock.lean ====
module
public import proofs.«01_k».proof.Proof.Gen.Kernel2Ideal.Frame
public import proofs.«01_k».proof.Proof.Turn
public import Idealize.ShloMosaic.Lib.Pointwise
public import Idealize.ShloMosaic.Lib.Pipeline.ValueKit
@[expose] public section
set_option maxRecDepth 16384
noncomputable section
/-! The projection kernel's stored values, from the blocks it loads. -/
namespace Cert.Kernel2Ideal.Proj
open Idealize.ShloMosaic Idealize.ShloMosaic.Tactic Cert.Kernel2Ideal Cert.Kernel2Ideal.Gen Cert.Proj

theorem part_word : (Ideal.ofBits .f32 0x3B800000#32 : EReal) = ((1 / 256 : ℝ) : EReal) := by
  simp [Ideal.ofBits, Ideal.ieee]
  rw [← EReal.coe_mul]; norm_num

theorem whole_word : (Ideal.ofBits .f32 0x43800000#32 : EReal) = ((256 : ℝ) : EReal) := by
  simp [Ideal.ofBits, Ideal.ieee]
  try (rw [← EReal.coe_mul]; norm_num)

section pay
variable (A : FVec Ideal S256x1024 .bf16) (T0 T1 T2 : FVec Ideal S256x512 .f32) (M : Vec Ideal S1024x512 .bf16)

/-- A product of the rows with 512 columns. -/
def prod (r : Fin 256) (j : Fin 512) : EReal := ∑ k : Fin 1024, A (ix2 r k) * M (ix2 k j)

theorem normed_pay (x0 : Vec Ideal S256x1024 .f32) (x1 : Vec Ideal S1x1024 .f32) (r : Fin 256) (k : Fin 1024) :
    k0_pay5 (F := Ideal) x0 x1 (ix2 r k) = x0 (ix2 r k) * Ideal.rsqrt (Ideal.div (∑ x : Fin 1024, x0 (ix2 r x) * x0 (ix2 r x)) (Ideal.ofBits .f32 0x44800000#32)
    + Ideal.ofBits .f32 0x358637BD#32) * x1 (ix2 0 k) := by
  pointwise [k0_pay5]

theorem table_pay (x : Vec Ideal S256x128 .f32) (r : Fin 256) (j : Fin 512) :
    k0_pay6 (F := Ideal) x (ix2 r j) = x (ix2 r ⟨j.val % 128, Nat.mod_lt _ (by decide)⟩) := by
  pointwise [k0_pay6]
  blk_point []

theorem value_pay (r : Fin 256) (j : Fin 512) : k0_pay20 (F := Ideal) A M (ix2 r j) = prod A M r j := by
  pointwise [k0_pay20, prod]

theorem turned_pay (r : Fin 256) (j : Fin 512) : k0_pay16 (F := Ideal) A T0 T1 T2 M (ix2 r j)
    = prod A M r j * T0 (ix2 r j) + prod A M r ⟨(j.val + 8) % 512, Nat.mod_lt _ (by decide)⟩ * T1 (ix2 r j)
      + prod A M r ⟨(j.val + 504) % 512, Nat.mod_lt _ (by decide)⟩ * T2 (ix2 r j) := by
  pointwise [k0_pay16, prod]
  simp only [show ∀ n : ℕ, n + 512 - 504 = n + 8 from fun n => by omega, show ∀ n : ℕ, n + 512 - 8 = n + 504 from fun n => by omega]

theorem step_pay (W : Vec Ideal S1024x16 .bf16) (r : Fin 256) (j : Fin 16) : k0_pay3 (F := Ideal) A W (ix2 r j)
    = ∑ k : Fin 1024, A (ix2 r k) * W (ix2 k j) := by
  pointwise [k0_pay3]

theorem step_across_pay (W : Vec Ideal S16x1024 .bf16) (r : Fin 256) (j : Fin 16) : k0_pay4 (F := Ideal) A W (ix2 j r)
    = ∑ k : Fin 1024, W (ix2 j k) * A (ix2 r k) := by
  pointwise [k0_pay4]

theorem mean_pay (j : Fin 512) : k0_pay19 (F := Ideal) A T0 T1 T2 M (ix3 0 0 j)
    = (∑ r : Fin 256, k0_pay16 (F := Ideal) A T0 T1 T2 M (ix2 r j)) * Ideal.ofBits .f32 0x3B800000#32 := by
  pointwise [k0_pay19]

theorem key_pay (r : Fin 256) (j : Fin 512) : k0_pay17 (F := Ideal) A T0 T1 T2 M (ix3 0 j r) = k0_pay16 (F := Ideal) A T0 T1 T2 M (ix2 r j) := by
  pointwise [k0_pay17]
theorem low_key_pay (r : Fin 256) (j : Fin 512) : k0_pay18 (F := Ideal) A T0 T1 T2 M (ix2 r j) = k0_pay16 (F := Ideal) A T0 T1 T2 M (ix2 r j) := by
  pointwise [k0_pay18]
theorem query_pay (r : Fin 256) (j : Fin 512) : k0_pay10 (F := Ideal) A T0 T1 T2 M (ix2 r j)
    = k0_pay16 (F := Ideal) A T0 T1 T2 M (ix2 r j) * Ideal.ofBits .f32 0x3E000000#32 := by
  pointwise [k0_pay10, k0_pay16]
theorem value_across_pay (r : Fin 256) (j : Fin 512) : k0_pay25 (F := Ideal) A M (ix3 0 j r) = k0_pay20 (F := Ideal) A M (ix2 r j) := by
  pointwise [k0_pay25, k0_pay24, k0_pay20]
theorem pay_7 : k0_pay7 (F := Ideal) = k0_pay6 := rfl
theorem pay_8 : k0_pay8 (F := Ideal) = k0_pay6 := rfl
theorem pay_9 (x0 x1 x7 x8 x9 w) : k0_pay9 (F := Ideal) x0 x1 x7 x8 x9 w = k0_pay10 (k0_pay5 x0 x1) (k0_pay6 x7) (k0_pay7 x8) (k0_pay8 x9) w := rfl
theorem pay_12 : k0_pay12 (F := Ideal) = k0_pay17 := rfl
theorem pay_13 : k0_pay13 (F := Ideal) = k0_pay18 := rfl
theorem pay_15 (A T0 T1 T2 M) : k0_pay15 (F := Ideal) (k0_pay14 A T0 T1 T2 M) = k0_pay19 A T0 T1 T2 M := rfl
theorem pay_22 (A M) : k0_pay22 (F := Ideal) (k0_pay21 A M) = k0_pay25 A M := rfl
theorem pay_23 (A M) : k0_pay23 (F := Ideal) (k0_pay20 A M) = k0_pay20 A M := rfl
theorem pay_26 (A M) : k0_pay26 (F := Ideal) A M = k0_pay20 A M := rfl
theorem pay_27 : k0_pay27 (F := Ideal) = k0_pay20 := rfl
theorem pay_28 : k0_pay28 (F := Ideal) = k0_pay20 := rfl
theorem pay_29 : k0_pay29 (F := Ideal) = k0_pay20 := rfl
theorem pay_2 : k0_pay2 (F := Ideal) = k0_pay20 := rfl
theorem pay_1 (A M) : k0_pay1 (F := Ideal) A (k0_pay30 M) = k0_pay20 A M := rfl
end pay
end Cert.Kernel2Ideal.Proj
-- ==== Proof.ProjRef.lean ====
module
public import proofs.«01_k».proof.Proof.Gen.Reference2Ideal.Read
public import proofs.«01_k».proof.Proof.Turn
public import Idealize.ShloMosaic.Lib.Pointwise
@[expose] public section
set_option maxRecDepth 16384
noncomputable section
/-! The projection's reference read at an element: every result is a column of the product, or one turned. -/
namespace Cert.Reference2Ideal.Proj
open Idealize.ShloMosaic Idealize.ShloMosaic.Tactic Cert.Reference2Ideal Cert.Reference2Ideal.Read Cert.Proj
variable (X : FVec Ideal S8x2048x1024 .f32) (G : FVec Ideal S1x1024 .f32) (W : FVec Ideal S1x1024x5648 .f32)

/-- The normalised row times the gain. -/
def normed (b : Fin 8) (s : Fin 2048) (k : Fin 1024) : EReal :=
  X (ix3 b s k) * Ideal.rsqrt (Ideal.div (∑ x : Fin 1024, X (ix3 b s x) * X (ix3 b s x)) (Ideal.ofBits .f32 0x44800000#32)
    + Ideal.ofBits .f32 0x358637BD#32) * G (ix2 0 k)

/-- Column `j` of the product of that row with the weights. -/
def column (b : Fin 8) (s : Fin 2048) (j : Fin 5648) : EReal := ∑ k : Fin 1024, normed X G b s k * W (ix3 0 k j)

/-- The angle of position `s` in the pair `j`. -/
def angle (s : Fin 2048) (j : Fin 8) : EReal :=
  FloatOps.sitofp (F := Ideal) .f32 (BitVec.ofNat 32 s.val) * Ideal.pow (Ideal.ofBits .f32 0x48F42400#32)
    (Ideal.div (-FloatOps.sitofp (F := Ideal) .f32 (BitVec.ofNat 32 j.val)) (Ideal.ofBits .f32 0x41000000#32))

def cosine (s : Fin 2048) (j : Fin 8) : EReal := Ideal.cos (angle s j)
def sine (s : Fin 2048) (j : Fin 8) : EReal := Ideal.sin (angle s j)

theorem normed_at (b : Fin 8) (s : Fin 2048) (k : Fin 1024) : val_main_v13 (F := Ideal) X G (ix3 b s k) = normed X G b s k := by
  pointwise [val_main_v13, val_main_v12, val_main_v11, val_main_v10, val_main_v9, val_main_v8, val_main_v7, val_main_v6,
    val_main_v5, val_main_cst_1, val_main_v4, val_main_v3, val_main_v2, val_main_v1, val_main_v0, val_main_cst, val_main_cst_0]
  rfl

theorem weight_at (k : Fin 1024) (j : Fin 5648) : val_main_v14 (F := Ideal) W (ix2 k j) = W (ix3 0 k j) := by
  pointwise [val_main_v14]

theorem column_at (b : Fin 8) (s : Fin 2048) (j : Fin 5648) : val_main_v15 (F := Ideal) X G W (ix3 b s j) = column X G W b s j := by
  rw [val_main_v15_apply]
  refine Finset.sum_congr rfl fun k _ => ?_
  have e1 : lidx_main_v15 (ix3 b s j) k = ix3 b s k := funext fun a => Fin.ext (by
    match a with
    | ⟨0, _⟩ => rfl
    | ⟨1, _⟩ => rfl
    | ⟨2, _⟩ => rfl)
  have e2 : ridx_main_v15 (ix3 b s j) k = ix2 k j := funext fun a => Fin.ext (by
    match a with
    | ⟨0, _⟩ => rfl
    | ⟨1, _⟩ => rfl)
  rw [e1, e2, normed_at, weight_at]

theorem cosine_at (s : Fin 2048) (j : Fin 8) : val_main_v36 (F := Ideal) (ix2 s j) = cosine s j := by
  pointwise [val_main_v36, val_main_v35, val_main_v34, val_main_v33, val_main_v32, val_main_v31, val_main_v30, val_main_v29, val_main_v28,
    val_main_v27, val_main_v26, val_main_v25, val_main_v24, val_main_v23, val_main_cst_2, val_main_cst_3]
  rfl

theorem sine_at (s : Fin 2048) (j : Fin 8) : val_main_v38 (F := Ideal) (ix2 s j) = sine s j := by
  pointwise [val_main_v38, val_main_v35, val_main_v34, val_main_v33, val_main_v32, val_main_v31, val_main_v30, val_main_v29, val_main_v28,
    val_main_v27, val_main_v26, val_main_v25, val_main_v24, val_main_v23, val_main_cst_2, val_main_cst_3]
  rfl

theorem cosine_again : val_main_v72 (F := Ideal) = val_main_v36 := rfl
theorem sine_again : val_main_v74 (F := Ideal) = val_main_v38 := rfl

/-- The columns of the queries, of the keys and of the values. -/
abbrev part (o : Nat) (ho : o ≤ 2048) (b : Fin 8) (s : Fin 2048) (j : Fin 1024) : EReal := column X G W b s ⟨o + j.val, by omega⟩

/-- A query or a key after its rotary turn. -/
def turned (o : Nat) (ho : o ≤ 2048) (b : Fin 8) (s : Fin 2048) (h : Fin 16) (d : Fin 64) : EReal :=
  turn (part X G W o ho b s) (cosine s) (sine s) h d

theorem column_congr {b : Fin 8} {s : Fin 2048} {i j : Fin 5648} (h : i.val = j.val) : column X G W b s i = column X G W b s j := by
  rw [Fin.ext h]

/-- The turn as the reference's three pieces side by side state it. -/
theorem turned_eq (o : Nat) (ho : o ≤ 2048) (b : Fin 8) (s : Fin 2048) (h : Fin 16) (d : Fin 64) :
    (if _ : d.val < 8 then
      column X G W b s ⟨o + (h.val * 64 + d.val), by omega⟩ * cosine s ⟨d.val, by omega⟩
        - column X G W b s ⟨o + (h.val * 64 + (8 + d.val)), by omega⟩ * sine s ⟨d.val, by omega⟩
    else if _ : d.val - 8 < 8 then
      column X G W b s ⟨o + (h.val * 64 + (8 + (d.val - 8))), by omega⟩ * cosine s ⟨d.val - 8, by omega⟩
        + column X G W b s ⟨o + (h.val * 64 + (d.val - 8)), by omega⟩ * sine s ⟨d.val - 8, by omega⟩
    else column X G W b s ⟨o + (h.val * 64 + (16 + (d.val - 8 - 8))), by omega⟩) = turned X G W o ho b s h d := by
  unfold turned turn
  by_cases p : d.val < 8
  · rw [dif_pos p, dif_pos p]
    refine congrArg₂ (· - ·) (congrArg (· * _) (column_congr X G W ?_)) (congrArg (· * _) (column_congr X G W ?_))
    · show o + (h.val * 64 + d.val) = o + (64 * h.val + d.val); omega
    · show o + (h.val * 64 + (8 + d.val)) = o + (64 * h.val + (d.val + 8)); omega
  · rw [dif_neg p, dif_neg p]
    by_cases q : d.val < 16
    · rw [dif_pos (by omega : d.val - 8 < 8), dif_pos q]
      refine congrArg₂ (· + ·) (congrArg (· * _) (column_congr X G W ?_)) (congrArg (· * _) (column_congr X G W ?_))
      · show o + (h.val * 64 + (8 + (d.val - 8))) = o + (64 * h.val + d.val); omega
      · show o + (h.val * 64 + (d.val - 8)) = o + (64 * h.val + (d.val - 8)); omega
    · rw [dif_neg (by omega : ¬ d.val - 8 < 8), dif_neg q]
      exact column_congr X G W (by show o + (h.val * 64 + (16 + (d.val - 8 - 8))) = o + (64 * h.val + d.val); omega)

theorem key_at (b : Fin 8) (s : Fin 2048) (h : Fin 16) (d : Fin 64) :
    val_main_v93 (F := Ideal) X G W (ix4 b s h d) = turned X G W 1024 (by decide) b s h d := by
  rw [← turned_eq]
  simp only [← column_at, ← cosine_at, ← sine_at]
  rw [← cosine_again, ← sine_again]
  pointwise [val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76,
    val_main_v75, val_main_v73, val_main_v58, val_main_v17]

theorem query_at (b : Fin 8) (s : Fin 2048) (h : Fin 16) (d : Fin 64) :
    val_main_v57 (F := Ideal) X G W (ix4 b s h d) = turned X G W 0 (by decide) b s h d := by
  rw [← turned_eq]
  simp only [← column_at, ← cosine_at, ← sine_at]
  pointwise [val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40,
    val_main_v39, val_main_v37, val_main_v22, val_main_v16]

/-- Sequence and position of a row. -/
abbrev seqOf (i : Fin 16384) : Fin 8 := ⟨i.val / 2048, by omega⟩
abbrev posOf (i : Fin 16384) : Fin 2048 := ⟨i.val % 2048, Nat.mod_lt _ (by decide)⟩
abbrev headOf (j : Fin 1024) : Fin 16 := ⟨j.val / 64, by omega⟩
abbrev laneOf (j : Fin 1024) : Fin 64 := ⟨j.val % 64, Nat.mod_lt _ (by decide)⟩

theorem out_keys (b : Fin 8) (s : Fin 2048) (h : Fin 16) (d : Fin 64) :
    val_main_v100 (F := Ideal) X G W (ix5 0 b s h d) = turned X G W 1024 (by decide) b s h d := by
  rw [← key_at]
  pointwise [val_main_v100]

theorem out_values (b : Fin 8) (s : Fin 2048) (h : Fin 16) (d : Fin 64) :
    val_main_v101 (F := Ideal) X G W (ix5 0 b s h d) = part X G W 2048 (by decide) b s (col h d) := by
  have e : part X G W 2048 (by decide) b s (col h d) = column X G W b s ⟨2048 + (h.val * 64 + d.val), by omega⟩ :=
    column_congr X G W (by show 2048 + (64 * h.val + d.val) = 2048 + (h.val * 64 + d.val); omega)
  rw [e, ← column_at]
  pointwise [val_main_v101, val_main_v94, val_main_v18]

theorem out_queries (i : Fin 16384) (j : Fin 1024) : val_main_v105 (F := Ideal) X G W (ix2 i j)
    = turned X G W 0 (by decide) (seqOf i) (posOf i) (headOf j) (laneOf j) * Ideal.ofBits .f32 0x3E000000#32 := by
  rw [← query_at]
  pointwise [val_main_v105, val_main_v104, val_main_v103, val_main_v102, val_main_cst_8]

theorem out_low_keys (i : Fin 16384) (j : Fin 1024) : val_main_v107 (F := Ideal) X G W (ix2 i j)
    = turned X G W 1024 (by decide) (seqOf i) (posOf i) (headOf j) (laneOf j) := by
  rw [← key_at]
  pointwise [val_main_v107, val_main_v106]

theorem out_low_values (i : Fin 16384) (j : Fin 1024) : val_main_v109 (F := Ideal) X G W (ix2 i j)
    = part X G W 2048 (by decide) (seqOf i) (posOf i) j := by
  show _ = column X G W _ _ _
  rw [← column_at]
  pointwise [val_main_v109, val_main_v108, val_main_v94, val_main_v18]

theorem out_gate (i : Fin 16384) (j : Fin 1024) : val_main_v110 (F := Ideal) X G W (ix2 i j)
    = column X G W (seqOf i) (posOf i) ⟨3072 + j.val, by omega⟩ := by
  rw [← column_at]
  pointwise [val_main_v110, val_main_v19]

theorem out_conv (i : Fin 16384) (j : Fin 1536) : val_main_v111 (F := Ideal) X G W (ix2 i j)
    = column X G W (seqOf i) (posOf i) ⟨4096 + j.val, by omega⟩ := by
  rw [← column_at]
  pointwise [val_main_v111, val_main_v20]

theorem out_step (i : Fin 16384) (j : Fin 16) : val_main_v99 (F := Ideal) X G W (ix2 i j)
    = column X G W (seqOf i) (posOf i) ⟨5632 + j.val, by omega⟩ := by
  rw [← column_at]
  pointwise [val_main_v99, val_main_v21]

theorem out_step_across (j : Fin 16) (i : Fin 16384) : val_main_v112 (F := Ideal) X G W (ix2 j i)
    = column X G W (seqOf i) (posOf i) ⟨5632 + j.val, by omega⟩ := by
  rw [← column_at]
  pointwise [val_main_v112, val_main_v99, val_main_v21]

theorem out_means (n : Fin 64) (j : Fin 1024) : val_main_v113 (F := Ideal) X G W (ix3 n 0 j)
    = Ideal.div (∑ x : Fin 256, turned X G W 1024 (by decide) ⟨n.val / 8, by omega⟩ ⟨n.val % 8 * 256 + x.val, by omega⟩ (headOf j) (laneOf j))
      (Ideal.ofBits .f32 0x43800000#32) := by
  simp only [← key_at]
  pointwise [val_main_v113, val_main_v98, val_main_v97, val_main_v96, val_main_v95, val_main_cst_7, val_main_cst_6]
end Cert.Reference2Ideal.Proj
-- ==== Proof.ProjHost.lean ====
module
public import proofs.«01_k».proof.Proof.Gen.Kernel2Ideal.Frame
public import proofs.«01_k».proof.Proof.ProjRef
public import Idealize.ShloMosaic.Lib.Pointwise
public import Idealize.ShloMosaic.Lib.Claim
public import Idealize.ShloMosaic.Lib.StableHlo.RunRead
public import Idealize.ShloMosaic.Lib.Pipeline.ValueKit
@[expose] public section
set_option maxRecDepth 16384
noncomputable section
/-! What the projection kernel's windows are of the arguments, and the blocks its points load. -/
namespace Cert.Kernel2Ideal.Proj
open Idealize.ShloMosaic Idealize.ShloMosaic.TcCoe Idealize.ShloMosaic.Tactic Idealize.SL.Sem
open Cert.Kernel2Ideal Cert.Kernel2Ideal.Gen Cert.Proj
open Cert.Reference2Ideal.Proj (cosine sine cosine_at sine_at)
open Cert.Reference2Ideal.Read (val_main_v36 val_main_v38)

theorem one_word : (Ideal.ofBits .f32 0x3F800000#32 : EReal) = 1 := by
  simp [Ideal.ofBits, Ideal.ieee]
  rw [← EReal.coe_mul]; norm_num
theorem zero_word : (Ideal.ofBits .f32 0x00000000#32 : EReal) = 0 := by
  simp [Ideal.ofBits, Ideal.ieee]

variable (m : (ℓ : Loc nD τ sig) → Buf (Elt Ideal) ℓ) (c : Dev nD)

abbrev xArg : Vec Ideal S8x2048x1024 .f32 := m ((c : Thread nD τ).loc main_arg0)
abbrev gArg : Vec Ideal S1x1024 .f32 := m ((c : Thread nD τ).loc main_arg1)
abbrev wArg : Vec Ideal S1x1024x5648 .f32 := m ((c : Thread nD τ).loc main_arg2)

theorem V_eq (b : Ref sig .tc) : V m c b = StableHlo.after hostOps0 (fun b => m (c, b)) (Proc.devRef .tc b) := by
  show StableHlo.after (List.flatten [hostOps0]) _ _ = _
  rw [List.flatten_cons, List.flatten_nil, List.append_nil]

theorem rows_at (p : Fin 16384) (k : Fin 1024) : (show Vec Ideal S16384x1024 .f32 from V m c main_v44) (ix2 p k)
    = xArg m c (ix3 ⟨p.val / 2048, by omega⟩ ⟨p.val % 2048, Nat.mod_lt _ (by decide)⟩ k) := by
  rw [V_eq]
  entry_read
  pointwise []
theorem gain_at (k : Fin 1024) : (show Vec Ideal S1x1024 .f32 from V m c main_v46) (ix2 0 k) = gArg m c (ix2 0 k) := by
  rw [V_eq]
  entry_read
  pointwise []
theorem wide_at (k : Fin 1024) (j : Fin 3072) : (show Vec Ideal S1024x3072 .bf16 from V m c main_v2) (ix2 k j)
    = wArg m c (ix3 0 k ⟨j.val, by omega⟩) := by
  rw [V_eq]
  entry_read
  pointwise []
theorem gate_at (k : Fin 1024) (j : Fin 1024) : (show Vec Ideal S1024x1024 .bf16 from V m c main_v4) (ix2 k j)
    = wArg m c (ix3 0 k ⟨3072 + j.val, by omega⟩) := by
  rw [V_eq]
  entry_read
  pointwise []
theorem conv_at (k : Fin 1024) (j : Fin 1536) : (show Vec Ideal S1024x1536 .bf16 from V m c main_v6) (ix2 k j)
    = wArg m c (ix3 0 k ⟨4096 + j.val, by omega⟩) := by
  rw [V_eq]
  entry_read
  pointwise []
theorem step_at (k : Fin 1024) (j : Fin 16) : (show Vec Ideal S1024x16 .bf16 from V m c main_v8) (ix2 k j)
    = wArg m c (ix3 0 k ⟨5632 + j.val, by omega⟩) := by
  rw [V_eq]
  entry_read
  pointwise []
theorem step_across_at (k : Fin 1024) (j : Fin 16) : (show Vec Ideal S16x1024 .bf16 from V m c main_v11) (ix2 j k)
    = wArg m c (ix3 0 k ⟨5632 + j.val, by omega⟩) := by
  rw [V_eq]
  entry_read
  pointwise []

/-- A table of 128 columns: the three pieces side by side, for the two heads. -/
def table (a b : FVec Ideal S2048x8 .f32) (z : FVec Ideal S2048x48 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x8, a⟩, ⟨S2048x8, b⟩, ⟨S2048x48, z⟩] concatenates_S2048x8_S2048x8_S2048x48_S2048x64_d1)
      shapeCasts_S2048x64_S1x2048x1x64)) shapeCasts_S1x2048x2x64_S2048x128

theorem table_at (a b : FVec Ideal S2048x8 .f32) (z : FVec Ideal S2048x48 .f32) (s : Fin 2048) (l : Fin 128) : table a b z (ix2 s l)
    = if p : l.val % 64 < 8 then a (ix2 s ⟨l.val % 64, p⟩) else if q : l.val % 64 < 16 then b (ix2 s ⟨l.val % 64 - 8, by omega⟩)
      else z (ix2 s ⟨l.val % 64 - 16, by omega⟩) := by
  pointwise [table]
  by_cases p : l.val % 64 < 8
  · rw [dif_pos p, dif_pos p]
  · rw [dif_neg p, dif_neg p]
    by_cases q : l.val % 64 < 16
    · rw [dif_pos (by omega : l.val % 64 - 8 < 8), dif_pos q]
    · rw [dif_neg (by omega : ¬ l.val % 64 - 8 < 8), dif_neg q]
      exact congrArg z (congrArg (ix2 s) (Fin.ext (by show l.val % 64 - 8 - 8 = l.val % 64 - 16; omega)))

abbrev cosTab : FVec Ideal S2048x8 .f32 := val_main_v36 (F := Ideal)
abbrev sinTab : FVec Ideal S2048x8 .f32 := val_main_v38 (F := Ideal)

theorem own_table : (show Vec Ideal S2048x128 .f32 from V m c main_v37) = table cosTab cosTab
    (addf (broadcastInDim S2048x48 ![] bcast_S_S2048x48 (constant S_ .f32 0x00000000#32)) (broadcastInDim S2048x48 ![] bcast_S_S2048x48 (constant S_ .f32 0x3F800000#32))) := by
  rw [V_eq]
  after_reads_simp
  rfl
theorem after_table : (show Vec Ideal S2048x128 .f32 from V m c main_v40) = table (Host.negf sinTab)
    (broadcastInDim S2048x8 ![] bcast_S_S2048x8 (constant S_ .f32 0x00000000#32)) (broadcastInDim S2048x48 ![] bcast_S_S2048x48 (constant S_ .f32 0x00000000#32)) := by
  rw [V_eq]
  after_reads_simp
  rfl
theorem before_table : (show Vec Ideal S2048x128 .f32 from V m c main_v43) = table
    (broadcastInDim S2048x8 ![] bcast_S_S2048x8 (constant S_ .f32 0x00000000#32)) sinTab (broadcastInDim S2048x48 ![] bcast_S_S2048x48 (constant S_ .f32 0x00000000#32)) := by
  rw [V_eq]
  after_reads_simp
  rfl

theorem own_at (s : Fin 2048) (l : Fin 128) : (show Vec Ideal S2048x128 .f32 from V m c main_v37) (ix2 s l)
    = own (cosine s) ⟨l.val % 64, Nat.mod_lt _ (by decide)⟩ := by
  refine ((congrFun (own_table m c) (ix2 s l)).trans (table_at _ _ _ s l)).trans ?_
  unfold own
  simp only [cosine_at]
  refine dite_congr rfl (fun _ => rfl) fun _ => dite_congr rfl (fun _ => rfl) fun _ => ?_
  refine Eq.trans (b := Ideal.ofBits .f32 0x00000000#32 + Ideal.ofBits .f32 0x3F800000#32) (by pointwise []) ?_
  rw [zero_word, one_word, zero_add]
theorem after_at (s : Fin 2048) (l : Fin 128) : (show Vec Ideal S2048x128 .f32 from V m c main_v40) (ix2 s l)
    = after (sine s) ⟨l.val % 64, Nat.mod_lt _ (by decide)⟩ := by
  refine ((congrFun (after_table m c) (ix2 s l)).trans (table_at _ _ _ s l)).trans ?_
  unfold after
  refine dite_congr rfl (fun h => ?_) fun _ => ?_
  · rw [← sine_at]; rfl
  · split
    · exact Eq.trans (b := Ideal.ofBits .f32 0x00000000#32) (by pointwise []) zero_word
    · exact Eq.trans (b := Ideal.ofBits .f32 0x00000000#32) (by pointwise []) zero_word
theorem before_at (s : Fin 2048) (l : Fin 128) : (show Vec Ideal S2048x128 .f32 from V m c main_v43) (ix2 s l)
    = before (sine s) ⟨l.val % 64, Nat.mod_lt _ (by decide)⟩ := by
  refine ((congrFun (before_table m c) (ix2 s l)).trans (table_at _ _ _ s l)).trans ?_
  unfold before
  by_cases p : l.val % 64 < 8
  · rw [dif_pos p, if_pos p]
    exact Eq.trans (b := Ideal.ofBits .f32 0x00000000#32) (by pointwise []) zero_word
  · rw [dif_neg p, if_neg p]
    refine dite_congr rfl (fun h => ?_) fun _ => ?_
    · exact sine_at s _
    · exact Eq.trans (b := Ideal.ofBits .f32 0x00000000#32) (by pointwise []) zero_word

theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 8, 0] ∧ win0_8.index t = ![t.val % 8, 0] ∧ win0_9.index t = ![t.val % 8, 0]
    ∧ win0_10.index t = ![t.val, 0] ∧ win0_11.index t = ![t.val, 0] ∧ win0_12.index t = ![t.val, 0]
    ∧ win0_13.index t = ![t.val / 8, 0, t.val % 8] ∧ win0_14.index t = ![t.val / 8, 0, t.val % 8]
    ∧ win0_15.index t = ![t.val, 0] ∧ win0_16.index t = ![t.val, 0] ∧ win0_17.index t = ![t.val, 0]
    ∧ win0_18.index t = ![0, t.val] ∧ win0_19.index t = ![t.val, 0, 0] :=
  (by decide +kernel : ∀ t : Fin grid0.N, _)
theorem points_lt (t : Fin cfg0.N) : t.val < 64 := t.isLt
end Cert.Kernel2Ideal.Proj
-- ==== Proof.ProjOut.lean ====
module
public import proofs.«01_k».proof.Proof.ProjBlock
public import proofs.«01_k».proof.Proof.ProjHost
@[expose] public section
set_option maxRecDepth 16384
noncomputable section
/-! What a point leaves in each of the ten result blocks, when its loads are the parts of the arguments they should be. -/
namespace Cert.Kernel2Ideal.Proj
open Idealize.ShloMosaic Idealize.ShloMosaic.Tactic Cert.Kernel2Ideal Cert.Kernel2Ideal.Gen Cert.Proj
open Cert.Reference2Ideal.Proj (cosine sine normed column part turned headOf laneOf)

theorem hz : (![0, 0] : Fin 2 → Nat) = fun _ => 0 := funext fun a => by fin_cases a <;> rfl

/-! Pieces side by side. -/

theorem two_halves {e : EltTy} (p1 p0 : Vec Ideal S256x512 e) (H : S256x1024.Idx → Elt Ideal e)
    (h1 : ∀ (r : Fin 256) (j : Fin 512), p1 (ix2 r j) = H (ix2 r (half 1 j))) (h0 : ∀ (r : Fin 256) (j : Fin 512), p0 (ix2 r j) = H (ix2 r (half 0 j))) :
    View.canon ([⟨r0_6, p1⟩, ⟨r0_4, p0⟩] : List (View.Piece (Elt Ideal) S256x1024 e)) = H := by
  funext y
  refine View.canon_apply_of_pieces H _ ?_ y (View.cover_of_tiled [⟨r0_6, p1⟩, ⟨r0_4, p0⟩] S256x512.size (by rfl) y)
  intro p hp
  rcases List.mem_cons.mp hp with rfl | hp
  · intro (x : S256x512.Idx)
    refine ((congrArg p1 (eq_ix2 x)).trans (h1 (x 0) (x 1))).trans (congrArg H (funext fun a => Fin.ext ?_))
    match a with
    | ⟨0, _⟩ => show (x 0).val = 0 + 1 * (x 0).val; omega
    | ⟨1, _⟩ => show 512 * 1 + (x 1).val = 512 + 1 * (x 1).val; omega
  rcases List.mem_cons.mp hp with rfl | hp
  · intro (x : S256x512.Idx)
    refine ((congrArg p0 (eq_ix2 x)).trans (h0 (x 0) (x 1))).trans (congrArg H (funext fun a => Fin.ext ?_))
    match a with
    | ⟨0, _⟩ => show (x 0).val = 0 + 1 * (x 0).val; omega
    | ⟨1, _⟩ => show 512 * 0 + (x 1).val = 0 + 1 * (x 1).val; omega
  · exact absurd hp (by simp)

theorem two_halves_across {e : EltTy} (p1 p0 : Vec Ideal S1x512x256 e) (H : S1x1024x256.Idx → Elt Ideal e)
    (h1 : ∀ (r : Fin 256) (j : Fin 512), p1 (ix3 0 j r) = H (ix3 0 (half 1 j) r)) (h0 : ∀ (r : Fin 256) (j : Fin 512), p0 (ix3 0 j r) = H (ix3 0 (half 0 j) r)) :
    View.canon ([⟨r0_11, p1⟩, ⟨r0_8, p0⟩] : List (View.Piece (Elt Ideal) S1x1024x256 e)) = H := by
  funext y
  refine View.canon_apply_of_pieces H _ ?_ y (View.cover_of_tiled [⟨r0_11, p1⟩, ⟨r0_8, p0⟩] S1x512x256.size (by rfl) y)
  have ex : ∀ x : S1x512x256.Idx, x = (ix3 0 (x 1) (x 2) : S1x512x256.Idx) := fun x => funext fun a => by
    match a with
    | ⟨0, _⟩ => exact Fin.ext (by have h : (x 0).val < 1 := (x 0).isLt; show (x 0).val = 0; omega)
    | ⟨1, _⟩ => rfl
    | ⟨2, _⟩ => rfl
  intro p hp
  rcases List.mem_cons.mp hp with rfl | hp
  · intro (x : S1x512x256.Idx)
    refine ((congrArg p1 (ex x)).trans (h1 (x 2) (x 1))).trans (congrArg H (funext fun a => Fin.ext ?_))
    match a with
    | ⟨0, _⟩ => have h : (x 0).val < 1 := (x 0).isLt; show 0 = 0 + 1 * (x 0).val; omega
    | ⟨1, _⟩ => show 512 * 1 + (x 1).val = 512 + 1 * (x 1).val; omega
    | ⟨2, _⟩ => show (x 2).val = 0 + 1 * (x 2).val; omega
  rcases List.mem_cons.mp hp with rfl | hp
  · intro (x : S1x512x256.Idx)
    refine ((congrArg p0 (ex x)).trans (h0 (x 2) (x 1))).trans (congrArg H (funext fun a => Fin.ext ?_))
    match a with
    | ⟨0, _⟩ => have h : (x 0).val < 1 := (x 0).isLt; show 0 = 0 + 1 * (x 0).val; omega
    | ⟨1, _⟩ => show 512 * 0 + (x 1).val = 0 + 1 * (x 1).val; omega
    | ⟨2, _⟩ => show (x 2).val = 0 + 1 * (x 2).val; omega
  · exact absurd hp (by simp)

theorem two_mean_halves (p1 p0 : Vec Ideal S1x1x512 .f32) (H : S1x1x1024.Idx → Elt Ideal .f32)
    (h1 : ∀ j : Fin 512, p1 (ix3 0 0 j) = H (ix3 0 0 (half 1 j))) (h0 : ∀ j : Fin 512, p0 (ix3 0 0 j) = H (ix3 0 0 (half 0 j))) :
    View.canon ([⟨r0_12, p1⟩, ⟨r0_9, p0⟩] : List (View.Piece (Elt Ideal) S1x1x1024 .f32)) = H := by
  funext y
  refine View.canon_apply_of_pieces H _ ?_ y (View.cover_of_tiled [⟨r0_12, p1⟩, ⟨r0_9, p0⟩] S1x1x512.size (by rfl) y)
  have ex : ∀ x : S1x1x512.Idx, x = (ix3 0 0 (x 2) : S1x1x512.Idx) := fun x => funext fun a => by
    match a with
    | ⟨0, _⟩ => exact Fin.ext (by have h : (x 0).val < 1 := (x 0).isLt; show (x 0).val = 0; omega)
    | ⟨1, _⟩ => exact Fin.ext (by have h : (x 1).val < 1 := (x 1).isLt; show (x 1).val = 0; omega)
    | ⟨2, _⟩ => rfl
  intro p hp
  rcases List.mem_cons.mp hp with rfl | hp
  · intro (x : S1x1x512.Idx)
    refine ((congrArg p1 (ex x)).trans (h1 (x 2))).trans (congrArg H (funext fun a => Fin.ext ?_))
    match a with
    | ⟨0, _⟩ => have h : (x 0).val < 1 := (x 0).isLt; show 0 = 0 + 1 * (x 0).val; omega
    | ⟨1, _⟩ => have h : (x 1).val < 1 := (x 1).isLt; show 0 = 0 + 1 * (x 1).val; omega
    | ⟨2, _⟩ => show 512 * 1 + (x 2).val = 512 + 1 * (x 2).val; omega
  rcases List.mem_cons.mp hp with rfl | hp
  · intro (x : S1x1x512.Idx)
    refine ((congrArg p0 (ex x)).trans (h0 (x 2))).trans (congrArg H (funext fun a => Fin.ext ?_))
    match a with
    | ⟨0, _⟩ => have h : (x 0).val < 1 := (x 0).isLt; show 0 = 0 + 1 * (x 0).val; omega
    | ⟨1, _⟩ => have h : (x 1).val < 1 := (x 1).isLt; show 0 = 0 + 1 * (x 1).val; omega
    | ⟨2, _⟩ => show 512 * 0 + (x 2).val = 0 + 1 * (x 2).val; omega
  · exact absurd hp (by simp)

theorem three_parts (p2 p1 p0 : Vec Ideal S256x512 .f32) (H : S256x1536.Idx → Elt Ideal .f32)
    (h2 : ∀ (r : Fin 256) (j : Fin 512), p2 (ix2 r j) = H (ix2 r ⟨1024 + j.val, by omega⟩))
    (h1 : ∀ (r : Fin 256) (j : Fin 512), p1 (ix2 r j) = H (ix2 r ⟨512 + j.val, by omega⟩))
    (h0 : ∀ (r : Fin 256) (j : Fin 512), p0 (ix2 r j) = H (ix2 r ⟨j.val, by omega⟩)) :
    View.canon ([⟨r0_22, p2⟩, ⟨r0_20, p1⟩, ⟨r0_18, p0⟩] : List (View.Piece (Elt Ideal) S256x1536 .f32)) = H := by
  funext y
  refine View.canon_apply_of_pieces H _ ?_ y (View.cover_of_tiled [⟨r0_22, p2⟩, ⟨r0_20, p1⟩, ⟨r0_18, p0⟩] S256x512.size (by rfl) y)
  intro p hp
  rcases List.mem_cons.mp hp with rfl | hp
  · intro (x : S256x512.Idx)
    refine ((congrArg p2 (eq_ix2 x)).trans (h2 (x 0) (x 1))).trans (congrArg H (funext fun a => Fin.ext ?_))
    match a with
    | ⟨0, _⟩ => show (x 0).val = 0 + 1 * (x 0).val; omega
    | ⟨1, _⟩ => show 1024 + (x 1).val = 1024 + 1 * (x 1).val; omega
  rcases List.mem_cons.mp hp with rfl | hp
  · intro (x : S256x512.Idx)
    refine ((congrArg p1 (eq_ix2 x)).trans (h1 (x 0) (x 1))).trans (congrArg H (funext fun a => Fin.ext ?_))
    match a with
    | ⟨0, _⟩ => show (x 0).val = 0 + 1 * (x 0).val; omega
    | ⟨1, _⟩ => show 512 + (x 1).val = 512 + 1 * (x 1).val; omega
  rcases List.mem_cons.mp hp with rfl | hp
  · intro (x : S256x512.Idx)
    refine ((congrArg p0 (eq_ix2 x)).trans (h0 (x 0) (x 1))).trans (congrArg H (funext fun a => Fin.ext ?_))
    match a with
    | ⟨0, _⟩ => show (x 0).val = 0 + 1 * (x 0).val; omega
    | ⟨1, _⟩ => show (x 1).val = 0 + 1 * (x 1).val; omega
  · exact absurd hp (by simp)

/-- A load of 512 columns. -/
theorem ld_columns {n : ℕ} {e : EltTy} (x : (⟨2, ![1024, n]⟩ : Shape).Idx → Elt Ideal e) (o : ℕ)
    (inb : ∀ a, (![0, o] : Fin 2 → ℕ) a + S1024x512.size a ≤ (⟨2, ![1024, n]⟩ : Shape).size a) (k : Fin 1024) (j : Fin 512) (h : o + j.val < n) :
    View.ld x (Rect.unit (s := ⟨2, ![1024, n]⟩) ![0, o] S1024x512.size inb) (ix2 k j) = x (ix2 k ⟨o + j.val, h⟩) :=
  View.ld_unit_apply_of x _ _ inb _ _ fun a => by
    match a with
    | ⟨0, _⟩ => exact (Nat.zero_add _).symm
    | ⟨1, _⟩ => rfl

variable {X : FVec Ideal S8x2048x1024 .f32} {G : FVec Ideal S1x1024 .f32} {W : FVec Ideal S1x1024x5648 .f32}
variable {b : Fin 8} {s : Fin 256 → Fin 2048}

section pay
variable {A : FVec Ideal S256x1024 .bf16} {T0 T1 T2 : FVec Ideal S256x512 .f32} {M : Vec Ideal S1024x512 .bf16}

theorem prod_eq (hA : ∀ r k, A (ix2 r k) = normed X G b (s r) k) (f : Fin 512 → Fin 5648) (hM : ∀ k j, M (ix2 k j) = W (ix3 0 k (f j)))
    (r : Fin 256) (j : Fin 512) : prod A M r j = column X G W b (s r) (f j) := by
  unfold prod column
  exact Finset.sum_congr rfl fun k _ => by rw [hA, hM]

theorem turned_half (hA : ∀ r k, A (ix2 r k) = normed X G b (s r) k)
    (h0 : ∀ (r : Fin 256) (j : Fin 512), T0 (ix2 r j) = own (cosine (s r)) ⟨j.val % 64, Nat.mod_lt _ (by decide)⟩)
    (h1 : ∀ (r : Fin 256) (j : Fin 512), T1 (ix2 r j) = after (sine (s r)) ⟨j.val % 64, Nat.mod_lt _ (by decide)⟩)
    (h2 : ∀ (r : Fin 256) (j : Fin 512), T2 (ix2 r j) = before (sine (s r)) ⟨j.val % 64, Nat.mod_lt _ (by decide)⟩)
    (o : Nat) (ho : o ≤ 2048) (e : Fin 2) (hM : ∀ (k : Fin 1024) (j : Fin 512), M (ix2 k j) = W (ix3 0 k ⟨o + (half e j).val, by omega⟩))
    (r : Fin 256) (j : Fin 512) :
    k0_pay16 (F := Ideal) A T0 T1 T2 M (ix2 r j) = turned X G W o ho b (s r) (headOf (half e j)) (laneOf (half e j)) := by
  have hp : ∀ j : Fin 512, prod A M r j = part X G W o ho b (s r) (half e j) := fun j => prod_eq hA (fun j => ⟨o + (half e j).val, by omega⟩) hM r j
  rw [turned_pay, hp, hp, hp, h0, h1, h2]
  exact three_products _ _ _ e j
end pay

/-- The ten loads of a point are these parts of the arguments. -/
structure Parts (X : FVec Ideal S8x2048x1024 .f32) (G : FVec Ideal S1x1024 .f32) (W : FVec Ideal S1x1024x5648 .f32)
    (b : Fin 8) (s : Fin 256 → Fin 2048)
    (x0 : Vec Ideal S256x1024 .f32) (x1 : Vec Ideal S1x1024 .f32) (x2 : Vec Ideal S1024x3072 .bf16) (x3 : Vec Ideal S1024x1024 .bf16)
    (x4 : Vec Ideal S1024x1536 .bf16) (x5 : Vec Ideal S1024x16 .bf16) (x6 : Vec Ideal S16x1024 .bf16)
    (x7 x8 x9 : Vec Ideal S256x128 .f32) : Prop where
  rows : ∀ (r : Fin 256) (k : Fin 1024), x0 (ix2 r k) = X (ix3 b (s r) k)
  gain : ∀ k : Fin 1024, x1 (ix2 0 k) = G (ix2 0 k)
  wide : ∀ (k : Fin 1024) (j : Fin 3072), x2 (ix2 k j) = W (ix3 0 k ⟨j.val, by omega⟩)
  gate : ∀ (k : Fin 1024) (j : Fin 1024), x3 (ix2 k j) = W (ix3 0 k ⟨3072 + j.val, by omega⟩)
  conv : ∀ (k : Fin 1024) (j : Fin 1536), x4 (ix2 k j) = W (ix3 0 k ⟨4096 + j.val, by omega⟩)
  step : ∀ (k : Fin 1024) (j : Fin 16), x5 (ix2 k j) = W (ix3 0 k ⟨5632 + j.val, by omega⟩)
  across : ∀ (k : Fin 1024) (j : Fin 16), x6 (ix2 j k) = W (ix3 0 k ⟨5632 + j.val, by omega⟩)
  own : ∀ (r : Fin 256) (l : Fin 128), x7 (ix2 r l) = Cert.Proj.own (cosine (s r)) ⟨l.val % 64, Nat.mod_lt _ (by decide)⟩
  after : ∀ (r : Fin 256) (l : Fin 128), x8 (ix2 r l) = Cert.Proj.after (sine (s r)) ⟨l.val % 64, Nat.mod_lt _ (by decide)⟩
  before : ∀ (r : Fin 256) (l : Fin 128), x9 (ix2 r l) = Cert.Proj.before (sine (s r)) ⟨l.val % 64, Nat.mod_lt _ (by decide)⟩

namespace Parts
variable {x0 : Vec Ideal S256x1024 .f32} {x1 : Vec Ideal S1x1024 .f32} {x2 : Vec Ideal S1024x3072 .bf16} {x3 : Vec Ideal S1024x1024 .bf16}
    {x4 : Vec Ideal S1024x1536 .bf16} {x5 : Vec Ideal S1024x16 .bf16} {x6 : Vec Ideal S16x1024 .bf16}
    {x7 x8 x9 : Vec Ideal S256x128 .f32}
variable (P : Parts X G W b s x0 x1 x2 x3 x4 x5 x6 x7 x8 x9)
include P

theorem normed_rows (r : Fin 256) (k : Fin 1024) : k0_pay5 (F := Ideal) (View.ld x0 r0_0) (View.ld x1 r0_1) (ix2 r k) = normed X G b (s r) k := by
  rw [View.ld_unit_zero hz, View.ld_unit_zero hz, normed_pay, P.gain]
  simp only [P.rows]
  rfl

theorem lane (j : Fin 512) : (⟨(⟨j.val % 128, Nat.mod_lt _ (by decide)⟩ : Fin 128).val % 64, Nat.mod_lt _ (by decide)⟩ : Fin 64) = ⟨j.val % 64, Nat.mod_lt _ (by decide)⟩ :=
  Fin.ext (by show j.val % 128 % 64 = j.val % 64; omega)

theorem own_tab (r : Fin 256) (j : Fin 512) : k0_pay6 (F := Ideal) (View.ld x7 r0_2) (ix2 r j) = Cert.Proj.own (cosine (s r)) ⟨j.val % 64, Nat.mod_lt _ (by decide)⟩ := by
  rw [View.ld_unit_zero hz, table_pay, P.own, P.lane]
theorem after_tab (r : Fin 256) (j : Fin 512) : k0_pay7 (F := Ideal) (View.ld x8 r0_2) (ix2 r j) = Cert.Proj.after (sine (s r)) ⟨j.val % 64, Nat.mod_lt _ (by decide)⟩ := by
  rw [pay_7, View.ld_unit_zero hz, table_pay, P.after, P.lane]
theorem before_tab (r : Fin 256) (j : Fin 512) : k0_pay8 (F := Ideal) (View.ld x9 r0_2) (ix2 r j) = Cert.Proj.before (sine (s r)) ⟨j.val % 64, Nat.mod_lt _ (by decide)⟩ := by
  rw [pay_8, View.ld_unit_zero hz, table_pay, P.before, P.lane]

theorem wide_load (o : ℕ) (inb) (k : Fin 1024) (j : Fin 512) (h : o + j.val < 3072) (v : Fin 5648) (hv : v.val = o + j.val) :
    View.ld x2 (Rect.unit (s := S1024x3072) ![0, o] S1024x512.size inb) (ix2 k j) = W (ix3 0 k v) := by
  refine (ld_columns x2 o inb k j h).trans ((P.wide k _).trans ?_)
  exact congrArg (fun v => W (ix3 0 k v)) (Fin.ext hv.symm)
theorem gate_load (o : ℕ) (inb) (k : Fin 1024) (j : Fin 512) (h : o + j.val < 1024) (v : Fin 5648) (hv : v.val = 3072 + (o + j.val)) :
    View.ld x3 (Rect.unit (s := S1024x1024) ![0, o] S1024x512.size inb) (ix2 k j) = W (ix3 0 k v) := by
  refine (ld_columns x3 o inb k j h).trans ((P.gate k _).trans ?_)
  exact congrArg (fun v => W (ix3 0 k v)) (Fin.ext hv.symm)
theorem conv_load (o : ℕ) (inb) (k : Fin 1024) (j : Fin 512) (h : o + j.val < 1536) (v : Fin 5648) (hv : v.val = 4096 + (o + j.val)) :
    View.ld x4 (Rect.unit (s := S1024x1536) ![0, o] S1024x512.size inb) (ix2 k j) = W (ix3 0 k v) := by
  refine (ld_columns x4 o inb k j h).trans ((P.conv k _).trans ?_)
  exact congrArg (fun v => W (ix3 0 k v)) (Fin.ext hv.symm)

theorem left_queries : out0_10 (F := Ideal) x0 x1 x2 x3 x4 x5 x6 x7 x8 x9
    = fun y => turned X G W 0 (by decide) b (s (y 0)) (headOf (y 1)) (laneOf (y 1)) * Ideal.ofBits .f32 0x3E000000#32 := by
  unfold_out out0_10
  rw [pay_9]
  refine two_halves _ _ _ (fun r j => ?_) (fun r j => ?_)
  · rw [query_pay, turned_half P.normed_rows P.own_tab P.after_tab P.before_tab 0 (by decide) 1
      fun k j => P.wide_load 512 _ k j (by omega) _ (by show 0 + (512 * 1 + j.val) = 512 + j.val; omega)]
    rfl
  · rw [query_pay, turned_half P.normed_rows P.own_tab P.after_tab P.before_tab 0 (by decide) 0
      fun k j => P.wide_load 0 _ k j (by omega) _ (by show 0 + (512 * 0 + j.val) = 0 + j.val; omega)]
    rfl

theorem key_half_1 (r : Fin 256) (j : Fin 512) : k0_pay16 (F := Ideal) (k0_pay5 (View.ld x0 r0_0) (View.ld x1 r0_1)) (k0_pay6 (View.ld x7 r0_2))
    (k0_pay7 (View.ld x8 r0_2)) (k0_pay8 (View.ld x9 r0_2)) (View.ld x2 r0_10) (ix2 r j)
    = turned X G W 1024 (by decide) b (s r) (headOf (half 1 j)) (laneOf (half 1 j)) :=
  turned_half P.normed_rows P.own_tab P.after_tab P.before_tab 1024 (by decide) 1
      (fun k j => P.wide_load 1536 _ k j (by omega) _ (by show 1024 + (512 * 1 + j.val) = 1536 + j.val; omega)) r j
theorem key_half_0 (r : Fin 256) (j : Fin 512) : k0_pay16 (F := Ideal) (k0_pay5 (View.ld x0 r0_0) (View.ld x1 r0_1)) (k0_pay6 (View.ld x7 r0_2))
    (k0_pay7 (View.ld x8 r0_2)) (k0_pay8 (View.ld x9 r0_2)) (View.ld x2 r0_7) (ix2 r j)
    = turned X G W 1024 (by decide) b (s r) (headOf (half 0 j)) (laneOf (half 0 j)) :=
  turned_half P.normed_rows P.own_tab P.after_tab P.before_tab 1024 (by decide) 0
      (fun k j => P.wide_load 1024 _ k j (by omega) _ (by show 1024 + (512 * 0 + j.val) = 1024 + j.val; omega)) r j
theorem value_half_1 (r : Fin 256) (j : Fin 512) : k0_pay20 (F := Ideal) (k0_pay5 (View.ld x0 r0_0) (View.ld x1 r0_1)) (View.ld x2 r0_14) (ix2 r j)
    = part X G W 2048 (by decide) b (s r) (half 1 j) := by
  rw [value_pay]
  exact prod_eq P.normed_rows (fun j => ⟨2048 + (half 1 j).val, by omega⟩)
    (fun k j => P.wide_load 2560 _ k j (by omega) _ (by show 2048 + (512 * 1 + j.val) = 2560 + j.val; omega)) r j
theorem value_half_0 (r : Fin 256) (j : Fin 512) : k0_pay20 (F := Ideal) (k0_pay5 (View.ld x0 r0_0) (View.ld x1 r0_1)) (View.ld x2 r0_13) (ix2 r j)
    = part X G W 2048 (by decide) b (s r) (half 0 j) := by
  rw [value_pay]
  exact prod_eq P.normed_rows (fun j => ⟨2048 + (half 0 j).val, by omega⟩)
    (fun k j => P.wide_load 2048 _ k j (by omega) _ (by show 2048 + (512 * 0 + j.val) = 2048 + j.val; omega)) r j

theorem left_low_keys : out0_11 (F := Ideal) x0 x1 x2 x3 x4 x5 x6 x7 x8 x9
    = fun y => turned X G W 1024 (by decide) b (s (y 0)) (headOf (y 1)) (laneOf (y 1)) := by
  unfold_out out0_11
  rw [pay_13]
  exact two_halves _ _ _ (fun r j => (low_key_pay ..).trans (P.key_half_1 r j)) (fun r j => (low_key_pay ..).trans (P.key_half_0 r j))

theorem left_low_values : out0_12 (F := Ideal) x0 x1 x2 x3 x4 x5 x6 x7 x8 x9
    = fun y => part X G W 2048 (by decide) b (s (y 0)) (y 1) := by
  unfold_out out0_12
  rw [pay_23, pay_26]
  exact two_halves _ _ _ P.value_half_1 P.value_half_0

theorem left_keys : out0_13 (F := Ideal) x0 x1 x2 x3 x4 x5 x6 x7 x8 x9
    = fun y => turned X G W 1024 (by decide) b (s (y 2)) (headOf (y 1)) (laneOf (y 1)) := by
  unfold_out out0_13
  rw [pay_12]
  exact two_halves_across _ _ _ (fun r j => (key_pay ..).trans (P.key_half_1 r j)) (fun r j => (key_pay ..).trans (P.key_half_0 r j))

theorem left_values : out0_14 (F := Ideal) x0 x1 x2 x3 x4 x5 x6 x7 x8 x9
    = fun y => part X G W 2048 (by decide) b (s (y 2)) (y 1) := by
  unfold_out out0_14
  rw [pay_22]
  exact two_halves_across _ _ _ (fun r j => (value_across_pay ..).trans (P.value_half_1 r j)) (fun r j => (value_across_pay ..).trans (P.value_half_0 r j))

theorem left_gate : out0_15 (F := Ideal) x0 x1 x2 x3 x4 x5 x6 x7 x8 x9
    = fun y => column X G W b (s (y 0)) ⟨3072 + (y 1).val, by have h : (y 1).val < 1024 := (y 1).isLt; omega⟩ := by
  unfold_out out0_15
  rw [pay_27, pay_28]
  refine two_halves _ _ _ (fun r j => ?_) (fun r j => ?_)
  · rw [value_pay]
    exact prod_eq P.normed_rows (fun j => ⟨3072 + (half 1 j).val, by omega⟩)
      (fun k j => P.gate_load 512 _ k j (by omega) _ (by show 3072 + (512 * 1 + j.val) = 3072 + (512 + j.val); omega)) r j
  · rw [value_pay]
    exact prod_eq P.normed_rows (fun j => ⟨3072 + (half 0 j).val, by omega⟩)
      (fun k j => P.gate_load 0 _ k j (by omega) _ (by show 3072 + (512 * 0 + j.val) = 3072 + (0 + j.val); omega)) r j

theorem left_conv : out0_16 (F := Ideal) x0 x1 x2 x3 x4 x5 x6 x7 x8 x9
    = fun y => column X G W b (s (y 0)) ⟨4096 + (y 1).val, by have h : (y 1).val < 1536 := (y 1).isLt; omega⟩ := by
  unfold_out out0_16
  rw [pay_1, pay_2, pay_29]
  refine three_parts _ _ _ _ (fun r j => ?_) (fun r j => ?_) (fun r j => ?_)
  · rw [value_pay]
    exact prod_eq P.normed_rows (fun j => ⟨4096 + (1024 + j.val), by omega⟩) (fun k j => P.conv_load 1024 _ k j (by omega) _ rfl) r j
  · rw [value_pay]
    exact prod_eq P.normed_rows (fun j => ⟨4096 + (512 + j.val), by omega⟩) (fun k j => P.conv_load 512 _ k j (by omega) _ rfl) r j
  · rw [value_pay]
    exact prod_eq P.normed_rows (fun j => ⟨4096 + j.val, by omega⟩)
      (fun k j => P.conv_load 0 _ k j (by omega) _ (by show 4096 + j.val = 4096 + (0 + j.val); omega)) r j

theorem left_step : out0_17 (F := Ideal) x0 x1 x2 x3 x4 x5 x6 x7 x8 x9
    = fun y => column X G W b (s (y 0)) ⟨5632 + (y 1).val, by have h : (y 1).val < 16 := (y 1).isLt; omega⟩ := by
  unfold_out out0_17
  rw [View.canon_unit_zero hz, View.ld_unit_zero (X := x5) hz]
  funext y
  refine (congrArg _ (eq_ix2 y)).trans ((step_pay _ _ (y 0) (y 1)).trans ?_)
  unfold column
  exact Finset.sum_congr rfl fun k _ => congrArg₂ (fun u v : EReal => u * v) (P.normed_rows (y 0) k) (P.step k (y 1))

theorem left_step_across : out0_18 (F := Ideal) x0 x1 x2 x3 x4 x5 x6 x7 x8 x9
    = fun y => column X G W b (s (y 1)) ⟨5632 + (y 0).val, by have h : (y 0).val < 16 := (y 0).isLt; omega⟩ := by
  unfold_out out0_18
  rw [View.canon_unit_zero hz, View.ld_unit_zero (X := x6) hz]
  funext y
  refine (congrArg _ (eq_ix2 y)).trans ((step_across_pay _ _ (y 1) (y 0)).trans ?_)
  unfold column
  exact Finset.sum_congr rfl fun k _ => (congrArg₂ (fun u v : EReal => u * v) (P.across k (y 0)) (P.normed_rows (y 1) k)).trans (mul_comm _ _)

theorem left_means : out0_19 (F := Ideal) x0 x1 x2 x3 x4 x5 x6 x7 x8 x9
    = fun y => (∑ r : Fin 256, turned X G W 1024 (by decide) b (s r) (headOf (y 2)) (laneOf (y 2))) * Ideal.ofBits .f32 0x3B800000#32 := by
  unfold_out out0_19
  rw [pay_15]
  refine two_mean_halves _ _ _ (fun j => (mean_pay ..).trans ?_) (fun j => (mean_pay ..).trans ?_)
  · exact congrArg (· * _) (Finset.sum_congr rfl fun r _ => P.key_half_1 r j)
  · exact congrArg (· * _) (Finset.sum_congr rfl fun r _ => P.key_half_0 r j)
end Parts
end Cert.Kernel2Ideal.Proj
-- ==== Proof.ProjResult.lean ====
module
public import proofs.«01_k».proof.Proof.ProjOut
@[expose] public section
set_option maxRecDepth 16384
noncomputable section
/-! From the points of the projection's grid to its ten result arrays. -/
namespace Cert.Kernel2Ideal.Proj
open Idealize.ShloMosaic Idealize.ShloMosaic.TcCoe Idealize.ShloMosaic.Tactic Idealize.SL.Sem
open Cert.Kernel2Ideal Cert.Kernel2Ideal.Gen Cert.Proj
open Cert.Reference2Ideal.Proj (cosine sine normed column part turned headOf laneOf seqOf posOf out_queries out_low_keys out_low_values out_gate
  out_conv out_step out_step_across out_means out_keys out_values)
open Cert.Reference2Ideal.Read (val_main_v99 val_main_v100 val_main_v101 val_main_v105 val_main_v107 val_main_v109 val_main_v110 val_main_v111
  val_main_v112 val_main_v113)

variable (m : (ℓ : Loc nD τ sig) → Buf (Elt Ideal) ℓ) (c : Dev nD) (t : Fin cfg0.N)

abbrev batchOf (t : Fin cfg0.N) : Fin 8 := ⟨t.val / 8, by have := points_lt t; omega⟩
abbrev rowOf (t : Fin cfg0.N) (r : Fin 256) : Fin 2048 := ⟨256 * (t.val % 8) + r.val, by omega⟩
abbrev flat (t : Fin cfg0.N) (r : Fin 256) : Fin 16384 := ⟨256 * t.val + r.val, by have := points_lt t; omega⟩

theorem seq_flat (r : Fin 256) : seqOf (flat t r) = batchOf t := Fin.ext (by
  show (256 * t.val + r.val) / 2048 = t.val / 8; omega)
theorem pos_flat (r : Fin 256) : posOf (flat t r) = rowOf t r := Fin.ext (by
  show (256 * t.val + r.val) % 2048 = 256 * (t.val % 8) + r.val; omega)

theorem at_flat (r : Fin 256) (f : Fin 8 → Fin 2048 → EReal) : f (seqOf (flat t r)) (posOf (flat t r)) = f (batchOf t) (rowOf t r) := by
  rw [seq_flat, pos_flat]

theorem rows_blk (r : Fin 256) (k : Fin 1024) : (show Vec Ideal S256x1024 .f32 from iblk m c 0 t) (ix2 r k) = xArg m c (ix3 (batchOf t) (rowOf t r) k) := by
  have e : (show Vec Ideal S256x1024 .f32 from iblk m c 0 t) (ix2 r k) = (show Vec Ideal S16384x1024 .f32 from V m c main_v44) (ix2 (flat t r) k) := by
    blk_ext [iblk, places t]
  rw [e, rows_at]
  have e1 := seq_flat t r
  have e2 := pos_flat t r
  rw [← e1, ← e2]
theorem gain_blk (k : Fin 1024) : (show Vec Ideal S1x1024 .f32 from iblk m c 1 t) (ix2 0 k) = gArg m c (ix2 0 k) := by
  rw [← gain_at]
  blk_ext [iblk, places t]
theorem wide_blk (k : Fin 1024) (j : Fin 3072) : (show Vec Ideal S1024x3072 .bf16 from iblk m c 2 t) (ix2 k j) = wArg m c (ix3 0 k ⟨j.val, by omega⟩) := by
  rw [← wide_at]
  blk_ext [iblk, places t]
theorem gate_blk (k : Fin 1024) (j : Fin 1024) : (show Vec Ideal S1024x1024 .bf16 from iblk m c 3 t) (ix2 k j) = wArg m c (ix3 0 k ⟨3072 + j.val, by omega⟩) := by
  rw [← gate_at]
  blk_ext [iblk, places t]
theorem conv_blk (k : Fin 1024) (j : Fin 1536) : (show Vec Ideal S1024x1536 .bf16 from iblk m c 4 t) (ix2 k j) = wArg m c (ix3 0 k ⟨4096 + j.val, by omega⟩) := by
  rw [← conv_at]
  blk_ext [iblk, places t]
theorem step_blk (k : Fin 1024) (j : Fin 16) : (show Vec Ideal S1024x16 .bf16 from iblk m c 5 t) (ix2 k j) = wArg m c (ix3 0 k ⟨5632 + j.val, by omega⟩) := by
  rw [← step_at]
  blk_ext [iblk, places t]
theorem step_across_blk (k : Fin 1024) (j : Fin 16) : (show Vec Ideal S16x1024 .bf16 from iblk m c 6 t) (ix2 j k) = wArg m c (ix3 0 k ⟨5632 + j.val, by omega⟩) := by
  rw [← step_across_at]
  blk_ext [iblk, places t]
theorem own_blk (r : Fin 256) (l : Fin 128) : (show Vec Ideal S256x128 .f32 from iblk m c 7 t) (ix2 r l)
    = own (cosine (rowOf t r)) ⟨l.val % 64, Nat.mod_lt _ (by decide)⟩ := by
  rw [← own_at m c]
  blk_ext [iblk, places t]
theorem after_blk (r : Fin 256) (l : Fin 128) : (show Vec Ideal S256x128 .f32 from iblk m c 8 t) (ix2 r l)
    = after (sine (rowOf t r)) ⟨l.val % 64, Nat.mod_lt _ (by decide)⟩ := by
  rw [← after_at m c]
  blk_ext [iblk, places t]
theorem before_blk (r : Fin 256) (l : Fin 128) : (show Vec Ideal S256x128 .f32 from iblk m c 9 t) (ix2 r l)
    = before (sine (rowOf t r)) ⟨l.val % 64, Nat.mod_lt _ (by decide)⟩ := by
  rw [← before_at m c]
  blk_ext [iblk, places t]

theorem parts : Parts (xArg m c) (gArg m c) (wArg m c) (batchOf t) (rowOf t) (iblk m c 0 t) (iblk m c 1 t) (iblk m c 2 t) (iblk m c 3 t)
    (iblk m c 4 t) (iblk m c 5 t) (iblk m c 6 t) (iblk m c 7 t) (iblk m c 8 t) (iblk m c 9 t) :=
  ⟨rows_blk m c t, gain_blk m c t, wide_blk m c t, gate_blk m c t, conv_blk m c t, step_blk m c t, step_across_blk m c t,
    own_blk m c t, after_blk m c t, before_blk m c t⟩

theorem queries_end : (dats m 0 c).arrAt 10 (cfgs 0).N = val_main_v105 (F := Ideal) (xArg m c) (gArg m c) (wArg m c) := by
  refine (dats m 0 c).arrAt_eq_of_covers 10 _ (by decide +kernel) fun t _ y => ?_
  blk_simp
  rw [after0_10, (parts m c t).left_queries]
  have e : ((cfg0.win 10).blk t).view.emb y = (ix2 (flat t (y 0)) (y 1) : S16384x1024.Idx) := by
    blk_ext [places t]
  rw [e]
  refine ((out_queries _ _ _ (flat t (y 0)) (y 1)).trans ?_).symm
  exact at_flat t (y 0) fun b s => turned (xArg m c) (gArg m c) (wArg m c) 0 (by decide) b s (headOf (y 1)) (laneOf (y 1)) * Ideal.ofBits .f32 0x3E000000
theorem low_keys_end : (dats m 0 c).arrAt 11 (cfgs 0).N = val_main_v107 (F := Ideal) (xArg m c) (gArg m c) (wArg m c) := by
  refine (dats m 0 c).arrAt_eq_of_covers 11 _ (by decide +kernel) fun t _ y => ?_
  blk_simp
  rw [after0_11, (parts m c t).left_low_keys]
  have e : ((cfg0.win 11).blk t).view.emb y = (ix2 (flat t (y 0)) (y 1) : S16384x1024.Idx) := by
    blk_ext [places t]
  rw [e]
  refine ((out_low_keys _ _ _ (flat t (y 0)) (y 1)).trans ?_).symm
  exact at_flat t (y 0) fun b s => turned (xArg m c) (gArg m c) (wArg m c) 1024 (by decide) b s (headOf (y 1)) (laneOf (y 1))
theorem low_values_end : (dats m 0 c).arrAt 12 (cfgs 0).N = val_main_v109 (F := Ideal) (xArg m c) (gArg m c) (wArg m c) := by
  refine (dats m 0 c).arrAt_eq_of_covers 12 _ (by decide +kernel) fun t _ y => ?_
  blk_simp
  rw [after0_12, (parts m c t).left_low_values]
  have e : ((cfg0.win 12).blk t).view.emb y = (ix2 (flat t (y 0)) (y 1) : S16384x1024.Idx) := by
    blk_ext [places t]
  rw [e]
  refine ((out_low_values _ _ _ (flat t (y 0)) (y 1)).trans ?_).symm
  exact at_flat t (y 0) fun b s => part (xArg m c) (gArg m c) (wArg m c) 2048 (by decide) b s (y 1)
theorem gate_end : (dats m 0 c).arrAt 15 (cfgs 0).N = val_main_v110 (F := Ideal) (xArg m c) (gArg m c) (wArg m c) := by
  refine (dats m 0 c).arrAt_eq_of_covers 15 _ (by decide +kernel) fun t _ y => ?_
  blk_simp
  rw [after0_15, (parts m c t).left_gate]
  have e : ((cfg0.win 15).blk t).view.emb y = (ix2 (flat t (y 0)) (y 1) : S16384x1024.Idx) := by
    blk_ext [places t]
  rw [e]
  refine ((out_gate _ _ _ (flat t (y 0)) (y 1)).trans ?_).symm
  exact at_flat t (y 0) fun b s => column (xArg m c) (gArg m c) (wArg m c) b s ⟨3072 + (y 1).val, _⟩
theorem conv_end : (dats m 0 c).arrAt 16 (cfgs 0).N = val_main_v111 (F := Ideal) (xArg m c) (gArg m c) (wArg m c) := by
  refine (dats m 0 c).arrAt_eq_of_covers 16 _ (by decide +kernel) fun t _ y => ?_
  blk_simp
  rw [after0_16, (parts m c t).left_conv]
  have e : ((cfg0.win 16).blk t).view.emb y = (ix2 (flat t (y 0)) (y 1) : S16384x1536.Idx) := by
    blk_ext [places t]
  rw [e]
  refine ((out_conv _ _ _ (flat t (y 0)) (y 1)).trans ?_).symm
  exact at_flat t (y 0) fun b s => column (xArg m c) (gArg m c) (wArg m c) b s ⟨4096 + (y 1).val, _⟩
theorem step_end : (dats m 0 c).arrAt 17 (cfgs 0).N = val_main_v99 (F := Ideal) (xArg m c) (gArg m c) (wArg m c) := by
  refine (dats m 0 c).arrAt_eq_of_covers 17 _ (by decide +kernel) fun t _ y => ?_
  blk_simp
  rw [after0_17, (parts m c t).left_step]
  have e : ((cfg0.win 17).blk t).view.emb y = (ix2 (flat t (y 0)) (y 1) : S16384x16.Idx) := by
    blk_ext [places t]
  rw [e]
  refine ((out_step _ _ _ (flat t (y 0)) (y 1)).trans ?_).symm
  exact at_flat t (y 0) fun b s => column (xArg m c) (gArg m c) (wArg m c) b s ⟨5632 + (y 1).val, _⟩
theorem step_across_end : (dats m 0 c).arrAt 18 (cfgs 0).N = val_main_v112 (F := Ideal) (xArg m c) (gArg m c) (wArg m c) := by
  refine (dats m 0 c).arrAt_eq_of_covers 18 _ (by decide +kernel) fun t _ y => ?_
  blk_simp
  rw [after0_18, (parts m c t).left_step_across]
  have e : ((cfg0.win 18).blk t).view.emb y = (ix2 (y 0) (flat t (y 1)) : S16x16384.Idx) := by
    blk_ext [places t]
  rw [e]
  refine ((out_step_across _ _ _ (y 0) (flat t (y 1))).trans ?_).symm
  exact at_flat t (y 1) fun b s => column (xArg m c) (gArg m c) (wArg m c) b s ⟨5632 + (y 0).val, _⟩
theorem means_end : (dats m 0 c).arrAt 19 (cfgs 0).N = val_main_v113 (F := Ideal) (xArg m c) (gArg m c) (wArg m c) := by
  refine (dats m 0 c).arrAt_eq_of_covers 19 _ (by decide +kernel) fun t _ y => ?_
  blk_simp
  rw [after0_19, (parts m c t).left_means]
  have ht := points_lt t
  have e : ((cfg0.win 19).blk t).view.emb y = (ix3 (⟨t.val, ht⟩ : Fin 64) 0 (y 2) : S64x1x1024.Idx) := by
    blk_ext [places t]
  rw [e]
  refine ((out_means _ _ _ ⟨t.val, ht⟩ (y 2)).trans ?_).symm
  rw [whole_word, Ideal.div_coe (by norm_num), part_word]
  refine congrArg₂ (fun u v : EReal => u * v) (Finset.sum_congr rfl fun r _ => ?_) rfl
  have es : (⟨t.val % 8 * 256 + r.val, by omega⟩ : Fin 2048) = rowOf t r := Fin.ext (by
    show t.val % 8 * 256 + r.val = 256 * (t.val % 8) + r.val; omega)
  exact congrArg (fun s => turned (xArg m c) (gArg m c) (wArg m c) 1024 (by decide) (batchOf t) s (headOf (y 2)) (laneOf (y 2))) es
/-- The keys before the host's transpose. -/
theorem keys_end : (dats m 0 c).arrAt 13 (cfgs 0).N = (show Vec Ideal S8x1024x2048 .f32 from fun i =>
    turned (xArg m c) (gArg m c) (wArg m c) 1024 (by decide) (i 0) (i 2) (headOf (i 1)) (laneOf (i 1))) := by
  refine (dats m 0 c).arrAt_eq_of_covers 13 _ (by decide +kernel) fun t _ y => ?_
  blk_simp
  rw [after0_13, (parts m c t).left_keys]
  have e : ((cfg0.win 13).blk t).view.emb y = (ix3 (batchOf t) (y 1) (rowOf t (y 2)) : S8x1024x2048.Idx) := by
    blk_ext [places t]
  rw [e]
  rfl
theorem values_end : (dats m 0 c).arrAt 14 (cfgs 0).N = (show Vec Ideal S8x1024x2048 .f32 from fun i =>
    part (xArg m c) (gArg m c) (wArg m c) 2048 (by decide) (i 0) (i 2) (i 1)) := by
  refine (dats m 0 c).arrAt_eq_of_covers 14 _ (by decide +kernel) fun t _ y => ?_
  blk_simp
  rw [after0_14, (parts m c t).left_values]
  have e : ((cfg0.win 14).blk t).view.emb y = (ix3 (batchOf t) (y 1) (rowOf t (y 2)) : S8x1024x2048.Idx) := by
    blk_ext [places t]
  rw [e]
  rfl
end Cert.Kernel2Ideal.Proj
-- ==== Proof.ProjTail.lean ====
module
public import proofs.«01_k».proof.Proof.ProjResult
public import Idealize.ShloMosaic.Lib.StableHlo.RunRead
@[expose] public section
set_option maxRecDepth 16384
noncomputable section
/-! The two arrays the host turns round after the projection. -/
namespace Cert.Kernel2Ideal.Proj
open Idealize.ShloMosaic Idealize.ShloMosaic.TcCoe Idealize.ShloMosaic.Tactic Idealize.SL.Sem
open Cert.Kernel2Ideal Cert.Kernel2Ideal.Gen Cert.Proj
open Cert.Reference2Ideal.Proj (part turned headOf laneOf out_keys out_values)
open Cert.Reference2Ideal.Read (val_main_v99 val_main_v100 val_main_v101 val_main_v105 val_main_v107 val_main_v109 val_main_v110 val_main_v111
  val_main_v112 val_main_v113)

variable (m : (ℓ : Loc nD τ sig) → Buf (Elt Ideal) ℓ) (c : Dev nD)

theorem arr_apart : Function.Injective (Pipeline.arrRef (cfgs 0).spec) := by
  intro a b
  revert a b
  decide +kernel

theorem head_of_col (h : Fin 16) (d : Fin 64) (p) : headOf ⟨h.val * 64 + d.val, p⟩ = h := Fin.ext (by
  show (h.val * 64 + d.val) / 64 = h.val; omega)
theorem lane_of_col (h : Fin 16) (d : Fin 64) (p) : laneOf ⟨h.val * 64 + d.val, p⟩ = d := Fin.ext (by
  show (h.val * 64 + d.val) % 64 = d.val; omega)

theorem keys_result : Pipeline.afterTail₀ cfgs (dats m) 0 (V0 m) [hostOps1] c main_v50 = val_main_v100 (F := Ideal) (xArg m c) (gArg m c) (wArg m c) := by
  have hk := (Pipeline.withArrays_arr (cfgs 0).spec arr_apart c (V0 m c) (fun w => (dats m 0 c).arrAt w (cfgs 0).N) 13).trans (keys_end m c)
  unfold Pipeline.afterTail₀
  generalize Pipeline.withArrays (cfgs 0).spec c (V0 m c) (fun w => (dats m 0 c).arrAt w (cfgs 0).N) = U at hk ⊢
  simp only [List.flatten_cons, List.flatten_nil, List.append_nil]
  after_reads_simp
  rw [hk]
  funext i
  have e : i = ix5 (0 : Fin 1) (i 1) (i 2) (i 3) (i 4) := (eq_ix5 i).trans
    (congrArg (fun z : Fin 1 => (ix5 z (i 1) (i 2) (i 3) (i 4) : S1x8x2048x16x64.Idx)) (Subsingleton.elim (α := Fin 1) (i 0) 0))
  rw [e]
  refine Eq.trans ?_ (out_keys _ _ _ (i 1) (i 2) (i 3) (i 4)).symm
  pointwise
  exact congrArg₂ (fun h d => turned (xArg m c) (gArg m c) (wArg m c) 1024 (by decide) (i 1) (i 2) h d)
    (head_of_col (i 3) (i 4) _) (lane_of_col (i 3) (i 4) _)
theorem values_result : Pipeline.afterTail₀ cfgs (dats m) 0 (V0 m) [hostOps1] c main_v53 = val_main_v101 (F := Ideal) (xArg m c) (gArg m c) (wArg m c) := by
  have hk := (Pipeline.withArrays_arr (cfgs 0).spec arr_apart c (V0 m c) (fun w => (dats m 0 c).arrAt w (cfgs 0).N) 14).trans (values_end m c)
  unfold Pipeline.afterTail₀
  generalize Pipeline.withArrays (cfgs 0).spec c (V0 m c) (fun w => (dats m 0 c).arrAt w (cfgs 0).N) = U at hk ⊢
  simp only [List.flatten_cons, List.flatten_nil, List.append_nil]
  after_reads_simp
  rw [hk]
  funext i
  have e : i = ix5 (0 : Fin 1) (i 1) (i 2) (i 3) (i 4) := (eq_ix5 i).trans
    (congrArg (fun z : Fin 1 => (ix5 z (i 1) (i 2) (i 3) (i 4) : S1x8x2048x16x64.Idx)) (Subsingleton.elim (α := Fin 1) (i 0) 0))
  rw [e]
  refine Eq.trans ?_ (out_values _ _ _ (i 1) (i 2) (i 3) (i 4)).symm
  pointwise
  refine congrArg (fun j : Fin 1024 => part (xArg m c) (gArg m c) (wArg m c) 2048 (by decide) (i 1) (i 2) j) (Fin.ext ?_)
  show (i 3).val * 64 + (i 4).val = _
  simp only [col]
  try omega

variable (r : PUnit × MemSt nD τ sig (Elt Ideal))
  (h : Pipeline.FramePost cfgs (dats m) 0 (Pipeline.afterTail₀ cfgs (dats m) 0 (V0 m) [hostOps1]) r)
include h

theorem queries_left : r.2.mem ((c : Thread nD τ).loc main_v47_0) = val_main_v105 (F := Ideal) (xArg m c) (gArg m c) (wArg m c) := by
  have e := (h c).1 10
  rw [queries_end] at e
  exact e
theorem low_keys_left : r.2.mem ((c : Thread nD τ).loc main_v47_1) = val_main_v107 (F := Ideal) (xArg m c) (gArg m c) (wArg m c) := by
  have e := (h c).1 11
  rw [low_keys_end] at e
  exact e
theorem low_values_left : r.2.mem ((c : Thread nD τ).loc main_v47_2) = val_main_v109 (F := Ideal) (xArg m c) (gArg m c) (wArg m c) := by
  have e := (h c).1 12
  rw [low_values_end] at e
  exact e
theorem gate_left : r.2.mem ((c : Thread nD τ).loc main_v47_5) = val_main_v110 (F := Ideal) (xArg m c) (gArg m c) (wArg m c) := by
  have e := (h c).1 15
  rw [gate_end] at e
  exact e
theorem conv_left : r.2.mem ((c : Thread nD τ).loc main_v47_6) = val_main_v111 (F := Ideal) (xArg m c) (gArg m c) (wArg m c) := by
  have e := (h c).1 16
  rw [conv_end] at e
  exact e
theorem step_left : r.2.mem ((c : Thread nD τ).loc main_v47_7) = val_main_v99 (F := Ideal) (xArg m c) (gArg m c) (wArg m c) := by
  have e := (h c).1 17
  rw [step_end] at e
  exact e
theorem step_across_left : r.2.mem ((c : Thread nD τ).loc main_v47_8) = val_main_v112 (F := Ideal) (xArg m c) (gArg m c) (wArg m c) := by
  have e := (h c).1 18
  rw [step_across_end] at e
  exact e
theorem means_left : r.2.mem ((c : Thread nD τ).loc main_v47_9) = val_main_v113 (F := Ideal) (xArg m c) (gArg m c) (wArg m c) := by
  have e := (h c).1 19
  rw [means_end] at e
  exact e
theorem keys_left : r.2.mem ((c : Thread nD τ).loc main_v50) = val_main_v100 (F := Ideal) (xArg m c) (gArg m c) (wArg m c) :=
  ((h c).2 main_v50 (Pipeline.mem_restRefs_of main_v50 (by decide) (by decide))).trans (keys_result m c)
theorem values_left : r.2.mem ((c : Thread nD τ).loc main_v53) = val_main_v101 (F := Ideal) (xArg m c) (gArg m c) (wArg m c) :=
  ((h c).2 main_v53 (Pipeline.mem_restRefs_of main_v53 (by decide) (by decide))).trans (values_result m c)
end Cert.Kernel2Ideal.Proj
-- ==== Proof.FrontRef.lean ====
module
public import proofs.«01_k».proof.Proof.Gen.Reference3Ideal.Read
public import Idealize.ShloMosaic.Lib.Pointwise
@[expose] public section
set_option maxRecDepth 16384
noncomputable section
/-! The output projection's reference read at an element. -/
namespace Cert.Reference3Ideal.Front
open Idealize.ShloMosaic Idealize.ShloMosaic.Tactic Cert.Reference3Ideal Cert.Reference3Ideal.Read
variable (X : FVec Ideal S8x2048x1024 .f32) (A Y : FVec Ideal S16384x1024 .bf16) (W : FVec Ideal S1x2048x1024 .f32) (G : FVec Ideal S1x1024 .f32)

/-- The row the layer leaves after its mixers: the row it got, the attention's part and the state-space part. -/
def mixed (i : Fin 16384) (j : Fin 1024) : EReal :=
  X (ix3 ⟨i.val / 2048, by omega⟩ ⟨i.val % 2048, Nat.mod_lt _ (by decide)⟩ j)
    + ((∑ k : Fin 1024, A (ix2 i k) * W (ix3 0 ⟨k.val, by omega⟩ j)) + ∑ k : Fin 1024, Y (ix2 i k) * W (ix3 0 ⟨1024 + k.val, by omega⟩ j))

/-- That row normalised, times the gain. -/
def normed (i : Fin 16384) (j : Fin 1024) : EReal :=
  mixed X A Y W i j * Ideal.rsqrt (Ideal.div (∑ x : Fin 1024, mixed X A Y W i x * mixed X A Y W i x) (Ideal.ofBits .f32 0x44800000#32)
    + Ideal.ofBits .f32 0x358637BD#32) * G (ix2 0 j)

theorem weight_at (k : Fin 2048) (j : Fin 1024) : val_main_v4 (F := Ideal) W (ix2 k j) = W (ix3 0 k j) := by
  pointwise [val_main_v4]
theorem left_half (i : Fin 16384) (k : Fin 1024) (p) : val_main_v2 (F := Ideal) A Y (ix2 i ⟨k.val, p⟩) = A (ix2 i k) := by
  pointwise [val_main_v2, val_main_v0, val_main_v1]
theorem right_half (i : Fin 16384) (k : Fin 1024) (p) : val_main_v2 (F := Ideal) A Y (ix2 i ⟨1024 + k.val, p⟩) = Y (ix2 i k) := by
  pointwise [val_main_v2, val_main_v0, val_main_v1]

theorem product_at (i : Fin 16384) (j : Fin 1024) : val_main_v5 (F := Ideal) A Y W (ix2 i j)
    = (∑ k : Fin 1024, A (ix2 i k) * W (ix3 0 ⟨k.val, by omega⟩ j)) + ∑ k : Fin 1024, Y (ix2 i k) * W (ix3 0 ⟨1024 + k.val, by omega⟩ j) := by
  rw [val_main_v5_apply]
  have e : ∀ k : Fin 2048, val_main_v2 (F := Ideal) A Y (lidx_main_v5 (ix2 i j) k) * val_main_v4 (F := Ideal) W (ridx_main_v5 (ix2 i j) k)
      = val_main_v2 (F := Ideal) A Y (ix2 i k) * W (ix3 0 k j) := fun k => by
    have e1 : lidx_main_v5 (ix2 i j) k = ix2 i k := funext fun a => Fin.ext (by
      match a with
      | ⟨0, _⟩ => rfl
      | ⟨1, _⟩ => rfl)
    have e2 : ridx_main_v5 (ix2 i j) k = ix2 k j := funext fun a => Fin.ext (by
      match a with
      | ⟨0, _⟩ => rfl
      | ⟨1, _⟩ => rfl)
    rw [e1, e2, weight_at]
  rw [Finset.sum_congr rfl fun k _ => e k]
  refine (Fin.sum_univ_add (a := 1024) (b := 1024) fun k : Fin (1024 + 1024) =>
    val_main_v2 (F := Ideal) A Y (ix2 i k) * W (ix3 0 k j)).trans ?_
  refine congrArg₂ (fun u v : EReal => u + v) (Finset.sum_congr rfl fun k _ => ?_) (Finset.sum_congr rfl fun k _ => ?_)
  · exact congrArg (fun u : EReal => u * W (ix3 0 ⟨k.val, by omega⟩ j)) (left_half A Y i k _)
  · exact congrArg (fun u : EReal => u * W (ix3 0 ⟨1024 + k.val, by omega⟩ j)) (right_half A Y i k _)

theorem mixed_at (i : Fin 16384) (j : Fin 1024) : val_main_v6 (F := Ideal) X A Y W (ix2 i j) = mixed X A Y W i j := by
  rw [val_main_v6_apply, product_at]
  refine congrArg (fun u : EReal => u + _) ?_
  pointwise [val_main_v3]

theorem normed_at (i : Fin 16384) (j : Fin 1024) : val_main_v21 (F := Ideal) X A Y W G (ix2 i j) = normed X A Y W G i j := by
  have e : ∀ x : Fin 1024, mixed X A Y W i x = val_main_v6 (F := Ideal) X A Y W (ix2 i x) := fun x => (mixed_at X A Y W i x).symm
  unfold normed
  simp only [e]
  generalize hv : val_main_v6 (F := Ideal) X A Y W = u
  pointwise [val_main_v21, val_main_v20, val_main_v19, val_main_v18, val_main_v17, val_main_v16, val_main_v15, val_main_v14, val_main_v13,
    val_main_v12, val_main_cst_1, val_main_v11, val_main_v10, val_main_cst_0, val_main_v9, val_main_v8, val_main_cst, val_main_v7, hv]
end Cert.Reference3Ideal.Front
-- ==== Proof.FrontBlock.lean ====
module
public import proofs.«01_k».proof.Proof.Gen.Kernel3Ideal.Skeleton
public import proofs.«01_k».proof.Proof.FrontRef
public import Idealize.ShloMosaic.Lib.Pointwise
public import Idealize.ShloMosaic.Lib.Pipeline.ValueKit
@[expose] public section
set_option maxRecDepth 16384
noncomputable section
/-! The output projection kernel's two stored rows, from what a point loads. -/
namespace Cert.Kernel3Ideal.Front
open Idealize.ShloMosaic Idealize.ShloMosaic.TcCoe Idealize.ShloMosaic.Tactic Idealize.SL.Sem
open Cert.Kernel3Ideal Cert.Kernel3Ideal.Gen
open Cert.Reference3Ideal.Front (mixed normed mixed_at normed_at)
open Cert.Reference3Ideal.Read (val_main_v6 val_main_v21)

theorem mixed_pay (v0 : Vec Ideal S256x1024 .f32) (v2 v7 : Vec Ideal S256x1024 .bf16) (v3 v8 : Vec Ideal S1024x1024 .bf16) (r : Fin 256) (j : Fin 1024) :
    k0_pay2 (F := Ideal) v0 v2 v3 v7 v8 (ix2 r j)
      = v0 (ix2 r j) + (∑ k : Fin 1024, v2 (ix2 r k) * v3 (ix2 k j)) + ∑ k : Fin 1024, v7 (ix2 r k) * v8 (ix2 k j) := by
  pointwise [k0_pay2]

theorem normed_pay (v0 : Vec Ideal S256x1024 .f32) (v2 v7 : Vec Ideal S256x1024 .bf16) (v3 v8 : Vec Ideal S1024x1024 .bf16) (v23 : Vec Ideal S1x1024 .f32)
    (r : Fin 256) (j : Fin 1024) : k0_pay3 (F := Ideal) v0 v2 v3 v7 v8 v23 (ix2 r j)
      = k0_pay2 (F := Ideal) v0 v2 v3 v7 v8 (ix2 r j) * Ideal.rsqrt (Ideal.div (∑ x : Fin 1024, k0_pay2 (F := Ideal) v0 v2 v3 v7 v8 (ix2 r x)
        * k0_pay2 (F := Ideal) v0 v2 v3 v7 v8 (ix2 r x)) (Ideal.ofBits .f32 0x44800000#32) + Ideal.ofBits .f32 0x358637BD#32) * v23 (ix2 0 j) := by
  unfold k0_pay3
  generalize k0_pay2 (F := Ideal) v0 v2 v3 v7 v8 = u
  pointwise []

/-- What a point of the grid loads: 256 rows, the whole weight, the gain. -/
structure Loads (X : FVec Ideal S8x2048x1024 .f32) (A Y : FVec Ideal S16384x1024 .bf16) (W : FVec Ideal S1x2048x1024 .f32) (G : FVec Ideal S1x1024 .f32)
    (p : Fin 256 → Fin 16384) (v0 : Vec Ideal S256x1024 .f32) (v2 v7 : Vec Ideal S256x1024 .bf16) (v3 v8 : Vec Ideal S1024x1024 .bf16)
    (v23 : Vec Ideal S1x1024 .f32) : Prop where
  rows : ∀ r k, v0 (ix2 r k) = X (ix3 ⟨(p r).val / 2048, by omega⟩ ⟨(p r).val % 2048, Nat.mod_lt _ (by decide)⟩ k)
  left : ∀ r k, v2 (ix2 r k) = A (ix2 (p r) k)
  right : ∀ r k, v7 (ix2 r k) = Y (ix2 (p r) k)
  top : ∀ (k j : Fin 1024), v3 (ix2 k j) = W (ix3 0 ⟨k.val, by omega⟩ j)
  bottom : ∀ (k j : Fin 1024), v8 (ix2 k j) = W (ix3 0 ⟨1024 + k.val, by omega⟩ j)
  gain : ∀ j, v23 (ix2 0 j) = G (ix2 0 j)

section
variable {X : FVec Ideal S8x2048x1024 .f32} {A Y : FVec Ideal S16384x1024 .bf16} {W : FVec Ideal S1x2048x1024 .f32} {G : FVec Ideal S1x1024 .f32}
  {p : Fin 256 → Fin 16384} {v0 : Vec Ideal S256x1024 .f32} {v2 v7 : Vec Ideal S256x1024 .bf16} {v3 v8 : Vec Ideal S1024x1024 .bf16}
  {v23 : Vec Ideal S1x1024 .f32} (L : Loads X A Y W G p v0 v2 v7 v3 v8 v23)
include L

theorem Loads.mixed_eq (r : Fin 256) (j : Fin 1024) : k0_pay2 (F := Ideal) v0 v2 v3 v7 v8 (ix2 r j) = mixed X A Y W (p r) j := by
  rw [mixed_pay]
  simp only [L.rows, L.left, L.right, L.top, L.bottom]
  exact add_assoc _ _ _

theorem Loads.normed_eq (r : Fin 256) (j : Fin 1024) : k0_pay3 (F := Ideal) v0 v2 v3 v7 v8 v23 (ix2 r j) = normed X A Y W G (p r) j := by
  rw [normed_pay]
  simp only [L.mixed_eq, L.gain]
  rfl
end
end Cert.Kernel3Ideal.Front
-- ==== Proof.FrontResult.lean ====
module
public import proofs.«01_k».proof.Proof.Gen.Kernel3Ideal.Frame
public import proofs.«01_k».proof.Proof.FrontBlock
public import Idealize.ShloMosaic.Lib.Claim
public import Idealize.ShloMosaic.Lib.StableHlo.RunRead
@[expose] public section
set_option maxRecDepth 16384
noncomputable section
/-! The output projection's two result arrays are the reference's values of the same arguments. -/
namespace Cert.Kernel3Ideal.Front
open Idealize.ShloMosaic Idealize.ShloMosaic.TcCoe Idealize.ShloMosaic.Tactic Idealize.SL.Sem
open Cert.Kernel3Ideal Cert.Kernel3Ideal.Gen
open Cert.Reference3Ideal.Front (mixed normed mixed_at normed_at)
open Cert.Reference3Ideal.Read (val_main_v6 val_main_v21)

theorem hz : (![0, 0] : Fin 2 → Nat) = fun _ => 0 := funext fun a => by
  match a with
  | ⟨0, _⟩ => rfl
  | ⟨1, _⟩ => rfl

section body
variable (c : Dev nD) (i : grid0.Coords)
  (arg1 : Memref sig .tc .vmem S256x1024 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S2048x1024 .bf16) (harg4 : arg4.IsWhole)
  (arg5 : Memref sig .tc .vmem S1x1024 .f32) (harg5 : arg5.IsWhole)
  (arg6 : Memref sig .tc .vmem S1024x2048 .bf16) (harg6 : arg6.IsWhole)
  (arg7 : Memref sig .tc .vmem S16x128x128 .bf16) (harg7 : arg7.IsWhole)
  (arg8 : Memref sig .tc .vmem S256x1024 .f32) (harg8 : arg8.IsWhole)
  (arg9 : Memref sig .tc .vmem S256x1024 .bf16) (harg9 : arg9.IsWhole)
  (arg10 : Memref sig .tc .vmem S8x128x256 .bf16) (harg10 : arg10.IsWhole)
  (arg11 : Memref sig .tc .vmem S8x128x256 .bf16) (harg11 : arg11.IsWhole)
  (arg12 : Memref sig .tc .vmem S8x128x256 .f32) (harg12 : arg12.IsWhole)
  (arg13 : Memref sig .tc .vmem S8x128x256 .f32) (harg13 : arg13.IsWhole)
  (arg14 : Memref sig .tc .vmem S16x128x256 .f32) (harg14 : arg14.IsWhole)
variable (x0 : Vec Ideal S256x1024 .f32) (x1 x2 : Vec Ideal S256x1024 .bf16) (x3 : Vec Ideal S2048x1024 .bf16) (x4 : Vec Ideal S1x1024 .f32)
  (x5 : Vec Ideal S1024x2048 .bf16) (x6 : Vec Ideal S16x128x128 .bf16)

/-- The upper and the lower half of the weight's rows, as a point loads them. -/
abbrev top : Vec Ideal S1024x1024 .bf16 := View.ld x3 (Rect.unit (s := S2048x1024) ![0, 0] S1024x1024.size inb_S2048x1024_S1024x1024_0_0)
abbrev bottom : Vec Ideal S1024x1024 .bf16 := View.ld x3 (Rect.unit (s := S2048x1024) ![1024, 0] S1024x1024.size inb_S2048x1024_S1024x1024_1024_0)

theorem body_mixed : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1
    = [⟨Rect.unit ![0, 0] S256x1024.size inb_S256x1024_S256x1024_0_0, k0_pay2
        (arg1.view.readAt (Elt Ideal) (Rect.unit (s := S256x1024) ![0, 0] S256x1024.size inb_S256x1024_S256x1024_0_0).toLoadRect (harg1.unread x0))
        (arg2.view.readAt (Elt Ideal) (Rect.unit (s := S256x1024) ![0, 0] S256x1024.size inb_S256x1024_S256x1024_0_0).toLoadRect (harg2.unread x1))
        (arg4.view.readAt (Elt Ideal) (Rect.unit (s := S2048x1024) ![0, 0] S1024x1024.size inb_S2048x1024_S1024x1024_0_0).toLoadRect (harg4.unread x3))
        (arg3.view.readAt (Elt Ideal) (Rect.unit (s := S256x1024) ![0, 0] S256x1024.size inb_S256x1024_S256x1024_0_0).toLoadRect (harg3.unread x2))
        (arg4.view.readAt (Elt Ideal) (Rect.unit (s := S2048x1024) ![1024, 0] S1024x1024.size inb_S2048x1024_S1024x1024_1024_0).toLoadRect (harg4.unread x3))⟩] := by
  unfold kernelRun0_A; rfl
theorem body_normed : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).2.1
    = [⟨Rect.unit ![0, 0] S256x1024.size inb_S256x1024_S256x1024_0_0, k0_pay3
        (arg1.view.readAt (Elt Ideal) (Rect.unit (s := S256x1024) ![0, 0] S256x1024.size inb_S256x1024_S256x1024_0_0).toLoadRect (harg1.unread x0))
        (arg2.view.readAt (Elt Ideal) (Rect.unit (s := S256x1024) ![0, 0] S256x1024.size inb_S256x1024_S256x1024_0_0).toLoadRect (harg2.unread x1))
        (arg4.view.readAt (Elt Ideal) (Rect.unit (s := S2048x1024) ![0, 0] S1024x1024.size inb_S2048x1024_S1024x1024_0_0).toLoadRect (harg4.unread x3))
        (arg3.view.readAt (Elt Ideal) (Rect.unit (s := S256x1024) ![0, 0] S256x1024.size inb_S256x1024_S256x1024_0_0).toLoadRect (harg3.unread x2))
        (arg4.view.readAt (Elt Ideal) (Rect.unit (s := S2048x1024) ![1024, 0] S1024x1024.size inb_S2048x1024_S1024x1024_1024_0).toLoadRect (harg4.unread x3))
        (arg5.view.readAt (Elt Ideal) (Rect.unit (s := S1x1024) ![0, 0] S1x1024.size inb_S1x1024_S1x1024_0_0).toLoadRect (harg5.unread x4))⟩] := by
  unfold kernelRun0_A; rfl

theorem left_mixed : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay2 x0 x1 (top x3) x2 (bottom x3) := by
  unfold out0_A_7
  rw [View.read_writes_junk_eq_canon, body_mixed, View.canon_unit_zero hz]
  simp only [View.readAt_eq_ld, harg1.read_unread, harg2.read_unread, harg3.read_unread, harg4.read_unread]
  rw [View.ld_unit_zero hz, View.ld_unit_zero hz, View.ld_unit_zero hz]
theorem left_normed : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay3 x0 x1 (top x3) x2 (bottom x3) x4 := by
  unfold out0_A_8
  rw [View.read_writes_junk_eq_canon, body_normed, View.canon_unit_zero hz]
  simp only [View.readAt_eq_ld, harg1.read_unread, harg2.read_unread, harg3.read_unread, harg4.read_unread, harg5.read_unread]
  rw [View.ld_unit_zero hz, View.ld_unit_zero hz, View.ld_unit_zero hz, View.ld_unit_zero hz]
end body

variable (m : (ℓ : Loc nD τ sig) → Buf (Elt Ideal) ℓ) (c : Dev nD) (t : Fin cfg0.N)

abbrev xArg : Vec Ideal S8x2048x1024 .f32 := m ((c : Thread nD τ).loc main_arg0)
abbrev aArg : Vec Ideal S16384x1024 .bf16 := m ((c : Thread nD τ).loc main_arg1)
abbrev yArg : Vec Ideal S16384x1024 .bf16 := m ((c : Thread nD τ).loc main_arg2)
abbrev wArg : Vec Ideal S1x2048x1024 .f32 := m ((c : Thread nD τ).loc main_arg3)
abbrev gArg : Vec Ideal S1x1024 .f32 := m ((c : Thread nD τ).loc main_arg4)

theorem rows_at (p : Fin 16384) (k : Fin 1024) : (show Vec Ideal S16384x1024 .f32 from V m c main_v9) (ix2 p k)
    = xArg m c (ix3 ⟨p.val / 2048, by omega⟩ ⟨p.val % 2048, Nat.mod_lt _ (by decide)⟩ k) := by
  show StableHlo.after hostOps0 (fun b => m (c, b)) (Proc.devRef .tc main_v9) (ix2 p k) = _
  entry_read
  pointwise []
theorem weight_at (k : Fin 2048) (j : Fin 1024) : (show Vec Ideal S2048x1024 .bf16 from V m c main_v1) (ix2 k j) = wArg m c (ix3 0 k j) := by
  show StableHlo.after hostOps0 (fun b => m (c, b)) (Proc.devRef .tc main_v1) (ix2 k j) = _
  entry_read
  pointwise []
theorem gain_at (k : Fin 1024) : (show Vec Ideal S1x1024 .f32 from V m c main_v3) (ix2 0 k) = gArg m c (ix2 0 k) := by
  show StableHlo.after hostOps0 (fun b => m (c, b)) (Proc.devRef .tc main_v3) (ix2 0 k) = _
  entry_read
  pointwise []
theorem left_at (p : Fin 16384) (k : Fin 1024) : (show Vec Ideal S16384x1024 .bf16 from V m c main_arg1) (ix2 p k) = aArg m c (ix2 p k) := by
  show StableHlo.after hostOps0 (fun b => m (c, b)) (Proc.devRef .tc main_arg1) (ix2 p k) = _
  entry_read
  rfl
theorem right_at (p : Fin 16384) (k : Fin 1024) : (show Vec Ideal S16384x1024 .bf16 from V m c main_arg2) (ix2 p k) = yArg m c (ix2 p k) := by
  show StableHlo.after hostOps0 (fun b => m (c, b)) (Proc.devRef .tc main_arg2) (ix2 p k) = _
  entry_read
  rfl

theorem places : ∀ t : Fin cfg0.N, win0_0.index t = ![t.val, 0] ∧ win0_1.index t = ![t.val, 0] ∧ win0_2.index t = ![t.val, 0]
    ∧ win0_3.index t = ![0, 0] ∧ win0_4.index t = ![0, 0] ∧ win0_7.index t = ![t.val, 0] ∧ win0_8.index t = ![t.val, 0] :=
  (by decide +kernel : ∀ t : Fin grid0.N, _)
theorem points_lt (t : Fin cfg0.N) : t.val < 64 := t.isLt

abbrev flat (t : Fin cfg0.N) (r : Fin 256) : Fin 16384 := ⟨256 * t.val + r.val, by have := points_lt t; omega⟩

theorem rows_blk (r : Fin 256) (k : Fin 1024) : (show Vec Ideal S256x1024 .f32 from iblk m c 0 t) (ix2 r k)
    = xArg m c (ix3 ⟨(flat t r).val / 2048, by omega⟩ ⟨(flat t r).val % 2048, Nat.mod_lt _ (by decide)⟩ k) := by
  rw [← rows_at]
  blk_ext [iblk, places t]
theorem left_blk (r : Fin 256) (k : Fin 1024) : (show Vec Ideal S256x1024 .bf16 from iblk m c 1 t) (ix2 r k) = aArg m c (ix2 (flat t r) k) := by
  rw [← left_at]
  blk_ext [iblk, places t]
theorem right_blk (r : Fin 256) (k : Fin 1024) : (show Vec Ideal S256x1024 .bf16 from iblk m c 2 t) (ix2 r k) = yArg m c (ix2 (flat t r) k) := by
  rw [← right_at]
  blk_ext [iblk, places t]
theorem weight_blk (k : Fin 2048) (j : Fin 1024) : (show Vec Ideal S2048x1024 .bf16 from iblk m c 3 t) (ix2 k j) = wArg m c (ix3 0 k j) := by
  rw [← weight_at]
  blk_ext [iblk, places t]
theorem gain_blk (k : Fin 1024) : (show Vec Ideal S1x1024 .f32 from iblk m c 4 t) (ix2 0 k) = gArg m c (ix2 0 k) := by
  rw [← gain_at]
  blk_ext [iblk, places t]

theorem top_at (x3 : Vec Ideal S2048x1024 .bf16) (k j : Fin 1024) : top x3 (ix2 k j) = x3 (ix2 ⟨k.val, by omega⟩ j) :=
  View.ld_unit_apply_of (S := S2048x1024) x3 ![0, 0] S1024x1024.size _ (ix2 k j) _ fun a => by
    match a with
    | ⟨0, _⟩ => exact (Nat.zero_add k.val).symm
    | ⟨1, _⟩ => exact (Nat.zero_add j.val).symm
theorem bottom_at (x3 : Vec Ideal S2048x1024 .bf16) (k j : Fin 1024) : bottom x3 (ix2 k j) = x3 (ix2 ⟨1024 + k.val, by omega⟩ j) :=
  View.ld_unit_apply_of (S := S2048x1024) x3 ![1024, 0] S1024x1024.size _ (ix2 k j) _ fun a => by
    match a with
    | ⟨0, _⟩ => rfl
    | ⟨1, _⟩ => exact (Nat.zero_add j.val).symm

theorem loads : Loads (xArg m c) (aArg m c) (yArg m c) (wArg m c) (gArg m c) (flat t) (iblk m c 0 t) (iblk m c 1 t) (iblk m c 2 t)
    (top (iblk m c 3 t)) (bottom (iblk m c 3 t)) (iblk m c 4 t) :=
  ⟨rows_blk m c t, left_blk m c t, right_blk m c t, fun k j => (top_at _ k j).trans (weight_blk m c t _ j),
    fun k j => (bottom_at _ k j).trans (weight_blk m c t _ j), gain_blk m c t⟩

theorem split_row (y : S256x1024.Idx) : y = (ix2 (y 0) (y 1) : S256x1024.Idx) := by
  funext a
  match a with
  | ⟨0, _⟩ => rfl
  | ⟨1, _⟩ => rfl

theorem mixed_end : (dats m 0 c).arrAt 7 (cfgs 0).N = val_main_v6 (F := Ideal) (xArg m c) (aArg m c) (yArg m c) (wArg m c) := by
  refine (dats m 0 c).arrAt_eq_of_covers 7 _ (by decide +kernel) fun t _ y => ?_
  blk_simp
  rw [after0_7, outsAt0, left_mixed]
  have e : ((cfg0.win 7).blk t).view.emb y = (ix2 (flat t (y 0)) (y 1) : S16384x1024.Idx) := by
    blk_ext [places t]
  rw [e]
  refine Eq.trans ?_ (mixed_at (xArg m c) (aArg m c) (yArg m c) (wArg m c) (flat t (y 0)) (y 1)).symm
  exact (congrArg (k0_pay2 (F := Ideal) _ _ _ _ _) (split_row y)).trans ((loads m c t).mixed_eq (y 0) (y 1))
theorem normed_end : (dats m 0 c).arrAt 8 (cfgs 0).N
    = val_main_v21 (F := Ideal) (xArg m c) (aArg m c) (yArg m c) (wArg m c) (gArg m c) := by
  refine (dats m 0 c).arrAt_eq_of_covers 8 _ (by decide +kernel) fun t _ y => ?_
  blk_simp
  rw [after0_8, outsAt0, left_normed]
  have e : ((cfg0.win 8).blk t).view.emb y = (ix2 (flat t (y 0)) (y 1) : S16384x1024.Idx) := by
    blk_ext [places t]
  rw [e]
  refine Eq.trans ?_ (normed_at (xArg m c) (aArg m c) (yArg m c) (wArg m c) (gArg m c) (flat t (y 0)) (y 1)).symm
  exact (congrArg (k0_pay3 (F := Ideal) _ _ _ _ _ _) (split_row y)).trans ((loads m c t).normed_eq (y 0) (y 1))
end Cert.Kernel3Ideal.Front
-- ==== Proof.ConvRef.lean ====
module
public import proofs.«01_k».proof.Proof.Gen.Reference4Ideal.Read
public import Idealize.ShloMosaic.Lib.Pointwise
@[expose] public section
set_option maxRecDepth 16384
noncomputable section
/-! The sample's convolution step, the reference read at an element. -/
namespace Cert.Reference4Ideal.Conv
open Idealize.ShloMosaic Idealize.ShloMosaic.Tactic Cert.Reference4Ideal Cert.Reference4Ideal.Read
variable (X : FVec Ideal S1x128x3x1536 .f32) (Y : FVec Ideal S128x1536 .f32) (W : FVec Ideal S1x4x1536 .f32) (B : FVec Ideal S1x1536 .f32)

/-- The convolution of a row: the bias, three carried rows and the new one, each times its tap. -/
def conv (r : Fin 128) (j : Fin 1536) : EReal :=
  B (ix2 0 j) + X (ix4 0 r 0 j) * W (ix3 0 0 j) + X (ix4 0 r 1 j) * W (ix3 0 1 j) + X (ix4 0 r 2 j) * W (ix3 0 2 j) + Y (ix2 r j) * W (ix3 0 3 j)

/-- That row through `u / (1 + exp (-u))`. -/
def act (r : Fin 128) (j : Fin 1536) : EReal := Ideal.div (conv X Y W B r j) (1 + Ideal.exp (-conv X Y W B r j))

/-- The rows carried on: the last two carried ones and the new one, side by side. -/
def carried (r : Fin 128) (k : Fin 4608) : EReal :=
  if h : k.val < 3072 then X (ix4 0 r ⟨1 + k.val / 1536, by omega⟩ ⟨k.val % 1536, Nat.mod_lt _ (by decide)⟩)
  else Y (ix2 r ⟨k.val - 3072, by omega⟩)

theorem old_at (r : Fin 128) (w : Fin 3) (j : Fin 1536) (p) : val_main_v2 (F := Ideal) X Y (ix3 r ⟨w.val, p⟩ j) = X (ix4 0 r w j) := by
  pointwise [val_main_v2, val_main_v0, val_main_v1]
theorem new_at (r : Fin 128) (j : Fin 1536) : val_main_v2 (F := Ideal) X Y (ix3 r 3 j) = Y (ix2 r j) := by
  pointwise [val_main_v2, val_main_v0, val_main_v1]
theorem tap_at (r : Fin 128) (w : Fin 4) (j : Fin 1536) : val_main_v5 (F := Ideal) W (ix3 r w j) = W (ix3 0 w j) := by
  pointwise [val_main_v5, val_main_v4, val_main_v3]
theorem bias_at (r : Fin 128) (j : Fin 1536) : val_main_v10 (F := Ideal) B (ix2 r j) = B (ix2 0 j) := by
  pointwise [val_main_v10, val_main_v9, val_main_v8]
theorem conv_at (r : Fin 128) (j : Fin 1536) : val_main_v11 (F := Ideal) X Y W B (ix2 r j) = conv X Y W B r j := by
  have e : ∀ w : Fin 4, val_main_v6 (F := Ideal) X Y W (ix3 r w j) = val_main_v2 (F := Ideal) X Y (ix3 r w j) * W (ix3 0 w j) := fun w => by
    rw [val_main_v6_apply, tap_at]; rfl
  have s : val_main_v7 (F := Ideal) X Y W (ix2 r j) = ∑ w : Fin 4, val_main_v6 (F := Ideal) X Y W (ix3 r w j) := by
    generalize hv : val_main_v6 (F := Ideal) X Y W = u
    pointwise [val_main_v7, val_main_cst, hv]
  rw [val_main_v11_apply, bias_at, s, Fin.sum_univ_four, e, e, e, e, new_at]
  have e0 := old_at X Y r 0 j (by decide)
  have e1 := old_at X Y r 1 j (by decide)
  have e2 := old_at X Y r 2 j (by decide)
  refine Eq.trans (congrArg (fun u : EReal => u + B (ix2 0 j)) (congrArg₂ (fun a b : EReal => a + b) (congrArg₂ (fun a b : EReal => a + b)
    (congrArg₂ (fun a b : EReal => a + b) (congrArg (fun a : EReal => a * W (ix3 0 0 j)) e0) (congrArg (fun a : EReal => a * W (ix3 0 1 j)) e1))
    (congrArg (fun a : EReal => a * W (ix3 0 2 j)) e2)) rfl)) ?_
  unfold conv
  ac_rfl
theorem act_at (r : Fin 128) (j : Fin 1536) : val_main_v16 (F := Ideal) X Y W B (ix2 r j) = act X Y W B r j := by
  unfold act
  rw [← conv_at]
  generalize hv : val_main_v11 (F := Ideal) X Y W B = u
  pointwise [val_main_v16, val_main_v15, val_main_v14, val_main_cst_0, val_main_v13, val_main_v12, hv]
theorem xs_at (r : Fin 128) (j : Fin 1024) : val_main_v17 (F := Ideal) X Y W B (ix2 r j) = act X Y W B r ⟨j.val, by omega⟩ := by
  rw [← act_at]
  generalize hv : val_main_v16 (F := Ideal) X Y W B = u
  pointwise [val_main_v17, hv]
theorem b_at (r : Fin 128) (j : Fin 256) : val_main_v18 (F := Ideal) X Y W B (ix2 r j) = act X Y W B r ⟨1024 + j.val, by omega⟩ := by
  rw [← act_at]
  generalize hv : val_main_v16 (F := Ideal) X Y W B = u
  pointwise [val_main_v18, hv]
theorem c_at (r : Fin 128) (j : Fin 256) : val_main_v19 (F := Ideal) X Y W B (ix2 r j) = act X Y W B r ⟨1280 + j.val, by omega⟩ := by
  rw [← act_at]
  generalize hv : val_main_v16 (F := Ideal) X Y W B = u
  pointwise [val_main_v19, hv]
theorem carried_at (r : Fin 128) (k : Fin 4608) : val_main_v21 (F := Ideal) X Y (ix2 r k) = carried X Y r k := by
  have e : val_main_v21 (F := Ideal) X Y (ix2 r k)
      = val_main_v2 (F := Ideal) X Y (ix3 r ⟨1 + k.val / 1536, by omega⟩ ⟨k.val % 1536, Nat.mod_lt _ (by decide)⟩) := by
    generalize hv : val_main_v2 (F := Ideal) X Y = u
    pointwise [val_main_v21, val_main_v20, hv]
  rw [e]
  unfold carried
  split
  · exact old_at X Y r ⟨1 + k.val / 1536, by omega⟩ _ _
  · rename_i h
    refine Eq.trans (congrArg (val_main_v2 (F := Ideal) X Y) ?_) (new_at X Y r ⟨k.val - 3072, by omega⟩)
    funext a
    refine Fin.ext ?_
    match a with
    | ⟨0, _⟩ => rfl
    | ⟨1, _⟩ => show 1 + k.val / 1536 = 3; omega
    | ⟨2, _⟩ => show k.val % 1536 = k.val - 3072; omega
end Cert.Reference4Ideal.Conv
-- ==== Proof.ConvBlock.lean ====
module
public import proofs.«01_k».proof.Proof.Gen.Kernel4Ideal.Skeleton
public import proofs.«01_k».proof.Proof.ConvRef
public import Idealize.ShloMosaic.Lib.Pointwise
public import Idealize.ShloMosaic.Lib.Pipeline.ValueKit
@[expose] public section
set_option maxRecDepth 16384
noncomputable section
/-! The convolution step kernel's stored rows, from what its point loads. -/
namespace Cert.Kernel4Ideal.Conv
open Idealize.ShloMosaic Idealize.ShloMosaic.TcCoe Idealize.ShloMosaic.Tactic Idealize.SL.Sem
open Cert.Kernel4Ideal Cert.Kernel4Ideal.Gen
open Cert.Reference4Ideal.Conv (conv act carried)

theorem conv_pay (v0 v6 v13 v20 v26 : Vec Ideal S1x1536 .f32) (v4 v11 v18 v25 : Vec Ideal S128x1536 .f32) (r : Fin 128) (j : Fin 1536) :
    k0_pay4 (F := Ideal) v0 v4 v6 v11 v13 v18 v20 v25 v26 (ix2 r j)
      = v0 (ix2 0 j) + v4 (ix2 r j) * v6 (ix2 0 j) + v11 (ix2 r j) * v13 (ix2 0 j) + v18 (ix2 r j) * v20 (ix2 0 j) + v25 (ix2 r j) * v26 (ix2 0 j) := by
  pointwise [k0_pay4]

theorem quotient (u : EReal) : u * Ideal.div 1 (1 + Ideal.exp (0 - u)) = Ideal.div u (1 + Ideal.exp (-u)) := by
  rw [zero_sub]
  have h : (1 : EReal) + Ideal.exp (-u) ≠ 0 := by
    have h0 : (0 : EReal) ≤ Ideal.exp (-u) := by
      induction -u using EReal.rec with
      | bot => exact le_refl _
      | top => exact le_top
      | coe x => exact EReal.coe_nonneg.2 (Real.exp_pos x).le
    exact (lt_of_lt_of_le zero_lt_one (le_add_of_nonneg_right h0)).ne'
  unfold Ideal.div
  rw [if_neg h, if_neg h, one_mul]

theorem act_pay (v0 v6 v13 v20 v26 : Vec Ideal S1x1536 .f32) (v4 v11 v18 v25 : Vec Ideal S128x1536 .f32) (r : Fin 128) (j : Fin 1536) :
    k0_pay6 (F := Ideal) (k0_pay4 (F := Ideal) v0 v4 v6 v11 v13 v18 v20 v25 v26) (k0_pay5 (F := Ideal) v0 v4 v6 v11 v13 v18 v20 v25 v26) (ix2 r j)
      = Ideal.div (k0_pay4 (F := Ideal) v0 v4 v6 v11 v13 v18 v20 v25 v26 (ix2 r j))
          (1 + Ideal.exp (-k0_pay4 (F := Ideal) v0 v4 v6 v11 v13 v18 v20 v25 v26 (ix2 r j))) := by
  rw [← quotient]
  unfold k0_pay5
  generalize k0_pay4 (F := Ideal) v0 v4 v6 v11 v13 v18 v20 v25 v26 = u
  pointwise [k0_pay6]
theorem xs_pay (u v : FVec Ideal S128x1536 .f32) (r : Fin 128) (j : Fin 1024) :
    k0_pay8 (F := Ideal) u v (ix2 r j) = k0_pay6 (F := Ideal) u v (ix2 r ⟨j.val, by omega⟩) := by
  unfold k0_pay8
  generalize k0_pay6 (F := Ideal) u v = w
  pointwise []
theorem b_pay (u v : FVec Ideal S128x1536 .f32) (r : Fin 128) (j : Fin 256) :
    k0_pay9 (F := Ideal) u v (ix2 r j) = k0_pay6 (F := Ideal) u v (ix2 r ⟨1024 + j.val, by omega⟩) := by
  unfold k0_pay9
  generalize k0_pay6 (F := Ideal) u v = w
  pointwise []
theorem c_pay (u v : FVec Ideal S128x1536 .f32) (r : Fin 128) (j : Fin 256) :
    k0_pay10 (F := Ideal) u v (ix2 r j) = k0_pay6 (F := Ideal) u v (ix2 r ⟨1280 + j.val, by omega⟩) := by
  unfold k0_pay10
  generalize k0_pay6 (F := Ideal) u v = w
  pointwise []

/-- What the point loads: the three carried rows, the new one, the four taps and the bias. -/
structure Loads (X : FVec Ideal S1x128x3x1536 .f32) (Y : FVec Ideal S128x1536 .f32) (W : FVec Ideal S1x4x1536 .f32) (B : FVec Ideal S1x1536 .f32)
    (v0 v6 v13 v20 v26 : Vec Ideal S1x1536 .f32) (v4 v11 v18 v25 : Vec Ideal S128x1536 .f32) : Prop where
  bias : ∀ j, v0 (ix2 0 j) = B (ix2 0 j)
  row0 : ∀ r j, v4 (ix2 r j) = X (ix4 0 r 0 j)
  row1 : ∀ r j, v11 (ix2 r j) = X (ix4 0 r 1 j)
  row2 : ∀ r j, v18 (ix2 r j) = X (ix4 0 r 2 j)
  row3 : ∀ r j, v25 (ix2 r j) = Y (ix2 r j)
  tap0 : ∀ j, v6 (ix2 0 j) = W (ix3 0 0 j)
  tap1 : ∀ j, v13 (ix2 0 j) = W (ix3 0 1 j)
  tap2 : ∀ j, v20 (ix2 0 j) = W (ix3 0 2 j)
  tap3 : ∀ j, v26 (ix2 0 j) = W (ix3 0 3 j)

section
variable {X : FVec Ideal S1x128x3x1536 .f32} {Y : FVec Ideal S128x1536 .f32} {W : FVec Ideal S1x4x1536 .f32} {B : FVec Ideal S1x1536 .f32}
  {v0 v6 v13 v20 v26 : Vec Ideal S1x1536 .f32} {v4 v11 v18 v25 : Vec Ideal S128x1536 .f32} (L : Loads X Y W B v0 v6 v13 v20 v26 v4 v11 v18 v25)
include L

theorem Loads.act_eq (r : Fin 128) (j : Fin 1536) :
    k0_pay6 (F := Ideal) (k0_pay4 (F := Ideal) v0 v4 v6 v11 v13 v18 v20 v25 v26) (k0_pay5 (F := Ideal) v0 v4 v6 v11 v13 v18 v20 v25 v26) (ix2 r j)
      = act X Y W B r j := by
  rw [act_pay, conv_pay]
  simp only [L.bias, L.row0, L.row1, L.row2, L.row3, L.tap0, L.tap1, L.tap2, L.tap3]
  rfl
end
end Cert.Kernel4Ideal.Conv
-- ==== Proof.ConvResult.lean ====
module
public import proofs.«01_k».proof.Proof.Gen.Kernel4Ideal.Frame
public import proofs.«01_k».proof.Proof.ConvBlock
public import Idealize.ShloMosaic.Lib.Claim
public import Idealize.ShloMosaic.Lib.StableHlo.RunRead
@[expose] public section
set_option maxRecDepth 16384
noncomputable section
/-! The convolution step's four result arrays are the reference's values of the same arguments. -/
namespace Cert.Kernel4Ideal.Conv
open Idealize.ShloMosaic Idealize.ShloMosaic.TcCoe Idealize.ShloMosaic.Tactic Idealize.SL.Sem
open Cert.Kernel4Ideal Cert.Kernel4Ideal.Gen
open Cert.Reference4Ideal.Conv (conv act carried carried_at xs_at b_at c_at)
open Cert.Reference4Ideal.Read (val_main_v17 val_main_v18 val_main_v19 val_main_v21)

theorem hz : (![0, 0] : Fin 2 → Nat) = fun _ => 0 := funext fun a => by
  match a with
  | ⟨0, _⟩ => rfl
  | ⟨1, _⟩ => rfl

theorem carried_pay (v : Vec Ideal S128x3072 .f32) (r : Fin 128) (j : Fin 3072) : k0_pay7 (F := Ideal) v (ix2 r j) = v (ix2 r j) := by
  pointwise [k0_pay7]

section parts
variable (x0 : Vec Ideal S128x4608 .f32) (x3 : Vec Ideal S4x1536 .f32)
/-- The three carried rows, the taps, and the last two carried rows, as the point loads them. -/
abbrev row0 : Vec Ideal S128x1536 .f32 := View.ld x0 (Rect.unit (s := S128x4608) ![0, 0] S128x1536.size inb_S128x4608_S128x1536_0_0)
abbrev row1 : Vec Ideal S128x1536 .f32 := View.ld x0 (Rect.unit (s := S128x4608) ![0, 1536] S128x1536.size inb_S128x4608_S128x1536_0_1536)
abbrev row2 : Vec Ideal S128x1536 .f32 := View.ld x0 (Rect.unit (s := S128x4608) ![0, 3072] S128x1536.size inb_S128x4608_S128x1536_0_3072)
abbrev tap0 : Vec Ideal S1x1536 .f32 := View.ld x3 (Rect.unit (s := S4x1536) ![0, 0] S1x1536.size inb_S4x1536_S1x1536_0_0)
abbrev tap1 : Vec Ideal S1x1536 .f32 := View.ld x3 (Rect.unit (s := S4x1536) ![1, 0] S1x1536.size inb_S4x1536_S1x1536_1_0)
abbrev tap2 : Vec Ideal S1x1536 .f32 := View.ld x3 (Rect.unit (s := S4x1536) ![2, 0] S1x1536.size inb_S4x1536_S1x1536_2_0)
abbrev tap3 : Vec Ideal S1x1536 .f32 := View.ld x3 (Rect.unit (s := S4x1536) ![3, 0] S1x1536.size inb_S4x1536_S1x1536_3_0)
abbrev tail : Vec Ideal S128x3072 .f32 := View.ld x0 (Rect.unit (s := S128x4608) ![0, 1536] S128x3072.size inb_S128x4608_S128x3072_0_1536)
theorem row0_at (r : Fin 128) (j : Fin 1536) : row0 x0 (ix2 r j) = x0 (ix2 r ⟨0 + j.val, by omega⟩) :=
  View.ld_unit_apply_of (S := S128x4608) x0 ![0, 0] S128x1536.size _ (ix2 r j) _ fun a => by
    match a with
    | ⟨0, _⟩ => exact (Nat.zero_add r.val).symm
    | ⟨1, _⟩ => rfl
theorem row1_at (r : Fin 128) (j : Fin 1536) : row1 x0 (ix2 r j) = x0 (ix2 r ⟨1536 + j.val, by omega⟩) :=
  View.ld_unit_apply_of (S := S128x4608) x0 ![0, 1536] S128x1536.size _ (ix2 r j) _ fun a => by
    match a with
    | ⟨0, _⟩ => exact (Nat.zero_add r.val).symm
    | ⟨1, _⟩ => rfl
theorem row2_at (r : Fin 128) (j : Fin 1536) : row2 x0 (ix2 r j) = x0 (ix2 r ⟨3072 + j.val, by omega⟩) :=
  View.ld_unit_apply_of (S := S128x4608) x0 ![0, 3072] S128x1536.size _ (ix2 r j) _ fun a => by
    match a with
    | ⟨0, _⟩ => exact (Nat.zero_add r.val).symm
    | ⟨1, _⟩ => rfl
theorem tap0_at (j : Fin 1536) : tap0 x3 (ix2 0 j) = x3 (ix2 0 j) :=
  View.ld_unit_apply_of (S := S4x1536) x3 ![0, 0] S1x1536.size _ (ix2 0 j) _ fun a => by
    match a with
    | ⟨0, _⟩ => rfl
    | ⟨1, _⟩ => exact (Nat.zero_add j.val).symm
theorem tap1_at (j : Fin 1536) : tap1 x3 (ix2 0 j) = x3 (ix2 1 j) :=
  View.ld_unit_apply_of (S := S4x1536) x3 ![1, 0] S1x1536.size _ (ix2 0 j) _ fun a => by
    match a with
    | ⟨0, _⟩ => rfl
    | ⟨1, _⟩ => exact (Nat.zero_add j.val).symm
theorem tap2_at (j : Fin 1536) : tap2 x3 (ix2 0 j) = x3 (ix2 2 j) :=
  View.ld_unit_apply_of (S := S4x1536) x3 ![2, 0] S1x1536.size _ (ix2 0 j) _ fun a => by
    match a with
    | ⟨0, _⟩ => rfl
    | ⟨1, _⟩ => exact (Nat.zero_add j.val).symm
theorem tap3_at (j : Fin 1536) : tap3 x3 (ix2 0 j) = x3 (ix2 3 j) :=
  View.ld_unit_apply_of (S := S4x1536) x3 ![3, 0] S1x1536.size _ (ix2 0 j) _ fun a => by
    match a with
    | ⟨0, _⟩ => rfl
    | ⟨1, _⟩ => exact (Nat.zero_add j.val).symm
theorem tail_at (r : Fin 128) (j : Fin 3072) : tail x0 (ix2 r j) = x0 (ix2 r ⟨1536 + j.val, by omega⟩) :=
  View.ld_unit_apply_of (S := S128x4608) x0 ![0, 1536] S128x3072.size _ (ix2 r j) _ fun a => by
    match a with
    | ⟨0, _⟩ => exact (Nat.zero_add r.val).symm
    | ⟨1, _⟩ => rfl
/-- The second and third of three rows side by side, then a fourth. -/
def joined (x1 : Vec Ideal S128x1536 .f32) : Vec Ideal S128x4608 .f32 := fun y =>
  if h : (y 1).val < 3072 then x0 (ix2 (y 0) ⟨1536 + (y 1).val, by omega⟩)
  else x1 (ix2 (y 0) ⟨(y 1).val - 3072, by have : (y 1).val < 4608 := (y 1).isLt; omega⟩)
end parts

section body
variable (c : Dev nD) (i : grid0.Coords)
  (arg1 : Memref sig .tc .vmem S128x4608 .f32) (harg1 : arg1.IsWhole)
  (arg2 : Memref sig .tc .vmem S128x1536 .f32) (harg2 : arg2.IsWhole)
  (arg3 : Memref sig .tc .vmem S128x16 .f32) (harg3 : arg3.IsWhole)
  (arg4 : Memref sig .tc .vmem S4x1536 .f32) (harg4 : arg4.IsWhole)
  (arg5 : Memref sig .tc .vmem S1x1536 .f32) (harg5 : arg5.IsWhole)
  (arg6 : Memref sig .tc .vmem S1x16 .f32) (harg6 : arg6.IsWhole)
  (arg7 : Memref sig .tc .vmem S1x16 .f32) (harg7 : arg7.IsWhole)
  (arg8 : Memref sig .tc .vmem S16x1024 .bf16) (harg8 : arg8.IsWhole)
  (arg9 : Memref sig .tc .vmem S128x4608 .f32) (harg9 : arg9.IsWhole)
  (arg10 : Memref sig .tc .vmem S128x1024 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S1024x128 .f32) (harg13 : arg13.IsWhole)
  (arg14 : Memref sig .tc .vmem S1024x128 .f32) (harg14 : arg14.IsWhole)
variable (x0 : Vec Ideal S128x4608 .f32) (x1 : Vec Ideal S128x1536 .f32) (x2 : Vec Ideal S128x16 .f32) (x3 : Vec Ideal S4x1536 .f32) (x4 : Vec Ideal S1x1536 .f32) (x5 : Vec Ideal S1x16 .f32) (x6 : Vec Ideal S1x16 .f32) (x7 : Vec Ideal S16x1024 .bf16)

theorem body_carried : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1
    = [⟨Rect.unit (s := S128x4608) ![0, 3072] S128x1536.size inb_S128x4608_S128x1536_0_3072, (arg2.view.readAt (Elt Ideal) (Rect.unit (s := S128x1536) ![0, 0] S128x1536.size inb_S128x1536_S128x1536_0_0).toLoadRect (harg2.unread x1))⟩,
      ⟨Rect.unit (s := S128x4608) ![0, 0] S128x3072.size inb_S128x4608_S128x3072_0_0, k0_pay7 (arg1.view.readAt (Elt Ideal) (Rect.unit (s := S128x4608) ![0, 1536] S128x3072.size inb_S128x4608_S128x3072_0_1536).toLoadRect (harg1.unread x0))⟩] := by
  unfold kernelRun0_A; rfl
theorem body_xs : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1
    = [⟨Rect.unit ![0, 0] S128x1024.size inb_S128x1024_S128x1024_0_0, k0_pay8 (k0_pay4
        (arg5.view.readAt (Elt Ideal) (Rect.unit (s := S1x1536) ![0, 0] S1x1536.size inb_S1x1536_S1x1536_0_0).toLoadRect (harg5.unread x4))
        (arg1.view.readAt (Elt Ideal) (Rect.unit (s := S128x4608) ![0, 0] S128x1536.size inb_S128x4608_S128x1536_0_0).toLoadRect (harg1.unread x0))
        (arg4.view.readAt (Elt Ideal) (Rect.unit (s := S4x1536) ![0, 0] S1x1536.size inb_S4x1536_S1x1536_0_0).toLoadRect (harg4.unread x3))
        (arg1.view.readAt (Elt Ideal) (Rect.unit (s := S128x4608) ![0, 1536] S128x1536.size inb_S128x4608_S128x1536_0_1536).toLoadRect (harg1.unread x0))
        (arg4.view.readAt (Elt Ideal) (Rect.unit (s := S4x1536) ![1, 0] S1x1536.size inb_S4x1536_S1x1536_1_0).toLoadRect (harg4.unread x3))
        (arg1.view.readAt (Elt Ideal) (Rect.unit (s := S128x4608) ![0, 3072] S128x1536.size inb_S128x4608_S128x1536_0_3072).toLoadRect (harg1.unread x0))
        (arg4.view.readAt (Elt Ideal) (Rect.unit (s := S4x1536) ![2, 0] S1x1536.size inb_S4x1536_S1x1536_2_0).toLoadRect (harg4.unread x3))
        (arg2.view.readAt (Elt Ideal) (Rect.unit (s := S128x1536) ![0, 0] S128x1536.size inb_S128x1536_S128x1536_0_0).toLoadRect (harg2.unread x1))
        (arg4.view.readAt (Elt Ideal) (Rect.unit (s := S4x1536) ![3, 0] S1x1536.size inb_S4x1536_S1x1536_3_0).toLoadRect (harg4.unread x3)))
      (k0_pay5
        (arg5.view.readAt (Elt Ideal) (Rect.unit (s := S1x1536) ![0, 0] S1x1536.size inb_S1x1536_S1x1536_0_0).toLoadRect (harg5.unread x4))
        (arg1.view.readAt (Elt Ideal) (Rect.unit (s := S128x4608) ![0, 0] S128x1536.size inb_S128x4608_S128x1536_0_0).toLoadRect (harg1.unread x0))
        (arg4.view.readAt (Elt Ideal) (Rect.unit (s := S4x1536) ![0, 0] S1x1536.size inb_S4x1536_S1x1536_0_0).toLoadRect (harg4.unread x3))
        (arg1.view.readAt (Elt Ideal) (Rect.unit (s := S128x4608) ![0, 1536] S128x1536.size inb_S128x4608_S128x1536_0_1536).toLoadRect (harg1.unread x0))
        (arg4.view.readAt (Elt Ideal) (Rect.unit (s := S4x1536) ![1, 0] S1x1536.size inb_S4x1536_S1x1536_1_0).toLoadRect (harg4.unread x3))
        (arg1.view.readAt (Elt Ideal) (Rect.unit (s := S128x4608) ![0, 3072] S128x1536.size inb_S128x4608_S128x1536_0_3072).toLoadRect (harg1.unread x0))
        (arg4.view.readAt (Elt Ideal) (Rect.unit (s := S4x1536) ![2, 0] S1x1536.size inb_S4x1536_S1x1536_2_0).toLoadRect (harg4.unread x3))
        (arg2.view.readAt (Elt Ideal) (Rect.unit (s := S128x1536) ![0, 0] S128x1536.size inb_S128x1536_S128x1536_0_0).toLoadRect (harg2.unread x1))
        (arg4.view.readAt (Elt Ideal) (Rect.unit (s := S4x1536) ![3, 0] S1x1536.size inb_S4x1536_S1x1536_3_0).toLoadRect (harg4.unread x3)))⟩] := by
  unfold kernelRun0_A; rfl
theorem body_b : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1
    = [⟨Rect.unit ![0, 0] S128x256.size inb_S128x256_S128x256_0_0, k0_pay9 (k0_pay4
        (arg5.view.readAt (Elt Ideal) (Rect.unit (s := S1x1536) ![0, 0] S1x1536.size inb_S1x1536_S1x1536_0_0).toLoadRect (harg5.unread x4))
        (arg1.view.readAt (Elt Ideal) (Rect.unit (s := S128x4608) ![0, 0] S128x1536.size inb_S128x4608_S128x1536_0_0).toLoadRect (harg1.unread x0))
        (arg4.view.readAt (Elt Ideal) (Rect.unit (s := S4x1536) ![0, 0] S1x1536.size inb_S4x1536_S1x1536_0_0).toLoadRect (harg4.unread x3))
        (arg1.view.readAt (Elt Ideal) (Rect.unit (s := S128x4608) ![0, 1536] S128x1536.size inb_S128x4608_S128x1536_0_1536).toLoadRect (harg1.unread x0))
        (arg4.view.readAt (Elt Ideal) (Rect.unit (s := S4x1536) ![1, 0] S1x1536.size inb_S4x1536_S1x1536_1_0).toLoadRect (harg4.unread x3))
        (arg1.view.readAt (Elt Ideal) (Rect.unit (s := S128x4608) ![0, 3072] S128x1536.size inb_S128x4608_S128x1536_0_3072).toLoadRect (harg1.unread x0))
        (arg4.view.readAt (Elt Ideal) (Rect.unit (s := S4x1536) ![2, 0] S1x1536.size inb_S4x1536_S1x1536_2_0).toLoadRect (harg4.unread x3))
        (arg2.view.readAt (Elt Ideal) (Rect.unit (s := S128x1536) ![0, 0] S128x1536.size inb_S128x1536_S128x1536_0_0).toLoadRect (harg2.unread x1))
        (arg4.view.readAt (Elt Ideal) (Rect.unit (s := S4x1536) ![3, 0] S1x1536.size inb_S4x1536_S1x1536_3_0).toLoadRect (harg4.unread x3)))
      (k0_pay5
        (arg5.view.readAt (Elt Ideal) (Rect.unit (s := S1x1536) ![0, 0] S1x1536.size inb_S1x1536_S1x1536_0_0).toLoadRect (harg5.unread x4))
        (arg1.view.readAt (Elt Ideal) (Rect.unit (s := S128x4608) ![0, 0] S128x1536.size inb_S128x4608_S128x1536_0_0).toLoadRect (harg1.unread x0))
        (arg4.view.readAt (Elt Ideal) (Rect.unit (s := S4x1536) ![0, 0] S1x1536.size inb_S4x1536_S1x1536_0_0).toLoadRect (harg4.unread x3))
        (arg1.view.readAt (Elt Ideal) (Rect.unit (s := S128x4608) ![0, 1536] S128x1536.size inb_S128x4608_S128x1536_0_1536).toLoadRect (harg1.unread x0))
        (arg4.view.readAt (Elt Ideal) (Rect.unit (s := S4x1536) ![1, 0] S1x1536.size inb_S4x1536_S1x1536_1_0).toLoadRect (harg4.unread x3))
        (arg1.view.readAt (Elt Ideal) (Rect.unit (s := S128x4608) ![0, 3072] S128x1536.size inb_S128x4608_S128x1536_0_3072).toLoadRect (harg1.unread x0))
        (arg4.view.readAt (Elt Ideal) (Rect.unit (s := S4x1536) ![2, 0] S1x1536.size inb_S4x1536_S1x1536_2_0).toLoadRect (harg4.unread x3))
        (arg2.view.readAt (Elt Ideal) (Rect.unit (s := S128x1536) ![0, 0] S128x1536.size inb_S128x1536_S128x1536_0_0).toLoadRect (harg2.unread x1))
        (arg4.view.readAt (Elt Ideal) (Rect.unit (s := S4x1536) ![3, 0] S1x1536.size inb_S4x1536_S1x1536_3_0).toLoadRect (harg4.unread x3)))⟩] := by
  unfold kernelRun0_A; rfl
theorem body_c : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1
    = [⟨Rect.unit ![0, 0] S128x256.size inb_S128x256_S128x256_0_0, k0_pay10 (k0_pay4
        (arg5.view.readAt (Elt Ideal) (Rect.unit (s := S1x1536) ![0, 0] S1x1536.size inb_S1x1536_S1x1536_0_0).toLoadRect (harg5.unread x4))
        (arg1.view.readAt (Elt Ideal) (Rect.unit (s := S128x4608) ![0, 0] S128x1536.size inb_S128x4608_S128x1536_0_0).toLoadRect (harg1.unread x0))
        (arg4.view.readAt (Elt Ideal) (Rect.unit (s := S4x1536) ![0, 0] S1x1536.size inb_S4x1536_S1x1536_0_0).toLoadRect (harg4.unread x3))
        (arg1.view.readAt (Elt Ideal) (Rect.unit (s := S128x4608) ![0, 1536] S128x1536.size inb_S128x4608_S128x1536_0_1536).toLoadRect (harg1.unread x0))
        (arg4.view.readAt (Elt Ideal) (Rect.unit (s := S4x1536) ![1, 0] S1x1536.size inb_S4x1536_S1x1536_1_0).toLoadRect (harg4.unread x3))
        (arg1.view.readAt (Elt Ideal) (Rect.unit (s := S128x4608) ![0, 3072] S128x1536.size inb_S128x4608_S128x1536_0_3072).toLoadRect (harg1.unread x0))
        (arg4.view.readAt (Elt Ideal) (Rect.unit (s := S4x1536) ![2, 0] S1x1536.size inb_S4x1536_S1x1536_2_0).toLoadRect (harg4.unread x3))
        (arg2.view.readAt (Elt Ideal) (Rect.unit (s := S128x1536) ![0, 0] S128x1536.size inb_S128x1536_S128x1536_0_0).toLoadRect (harg2.unread x1))
        (arg4.view.readAt (Elt Ideal) (Rect.unit (s := S4x1536) ![3, 0] S1x1536.size inb_S4x1536_S1x1536_3_0).toLoadRect (harg4.unread x3)))
      (k0_pay5
        (arg5.view.readAt (Elt Ideal) (Rect.unit (s := S1x1536) ![0, 0] S1x1536.size inb_S1x1536_S1x1536_0_0).toLoadRect (harg5.unread x4))
        (arg1.view.readAt (Elt Ideal) (Rect.unit (s := S128x4608) ![0, 0] S128x1536.size inb_S128x4608_S128x1536_0_0).toLoadRect (harg1.unread x0))
        (arg4.view.readAt (Elt Ideal) (Rect.unit (s := S4x1536) ![0, 0] S1x1536.size inb_S4x1536_S1x1536_0_0).toLoadRect (harg4.unread x3))
        (arg1.view.readAt (Elt Ideal) (Rect.unit (s := S128x4608) ![0, 1536] S128x1536.size inb_S128x4608_S128x1536_0_1536).toLoadRect (harg1.unread x0))
        (arg4.view.readAt (Elt Ideal) (Rect.unit (s := S4x1536) ![1, 0] S1x1536.size inb_S4x1536_S1x1536_1_0).toLoadRect (harg4.unread x3))
        (arg1.view.readAt (Elt Ideal) (Rect.unit (s := S128x4608) ![0, 3072] S128x1536.size inb_S128x4608_S128x1536_0_3072).toLoadRect (harg1.unread x0))
        (arg4.view.readAt (Elt Ideal) (Rect.unit (s := S4x1536) ![2, 0] S1x1536.size inb_S4x1536_S1x1536_2_0).toLoadRect (harg4.unread x3))
        (arg2.view.readAt (Elt Ideal) (Rect.unit (s := S128x1536) ![0, 0] S128x1536.size inb_S128x1536_S128x1536_0_0).toLoadRect (harg2.unread x1))
        (arg4.view.readAt (Elt Ideal) (Rect.unit (s := S4x1536) ![3, 0] S1x1536.size inb_S4x1536_S1x1536_3_0).toLoadRect (harg4.unread x3)))⟩] := by
  unfold kernelRun0_A; rfl
theorem left_xs : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = k0_pay8 (k0_pay4 x4 (row0 x0) (tap0 x3) (row1 x0) (tap1 x3) (row2 x0) (tap2 x3) x1 (tap3 x3)) (k0_pay5 x4 (row0 x0) (tap0 x3) (row1 x0) (tap1 x3) (row2 x0) (tap2 x3) x1 (tap3 x3)) := by
  unfold out0_A_9
  rw [View.read_writes_junk_eq_canon, body_xs, View.canon_unit_zero hz]
  simp only [View.readAt_eq_ld, harg1.read_unread, harg2.read_unread, harg4.read_unread, harg5.read_unread]
  rw [View.ld_unit_zero hz, View.ld_unit_zero hz]
theorem left_b : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = k0_pay9 (k0_pay4 x4 (row0 x0) (tap0 x3) (row1 x0) (tap1 x3) (row2 x0) (tap2 x3) x1 (tap3 x3)) (k0_pay5 x4 (row0 x0) (tap0 x3) (row1 x0) (tap1 x3) (row2 x0) (tap2 x3) x1 (tap3 x3)) := by
  unfold out0_A_10
  rw [View.read_writes_junk_eq_canon, body_b, View.canon_unit_zero hz]
  simp only [View.readAt_eq_ld, harg1.read_unread, harg2.read_unread, harg4.read_unread, harg5.read_unread]
  rw [View.ld_unit_zero hz, View.ld_unit_zero hz]
theorem left_c : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = k0_pay10 (k0_pay4 x4 (row0 x0) (tap0 x3) (row1 x0) (tap1 x3) (row2 x0) (tap2 x3) x1 (tap3 x3)) (k0_pay5 x4 (row0 x0) (tap0 x3) (row1 x0) (tap1 x3) (row2 x0) (tap2 x3) x1 (tap3 x3)) := by
  unfold out0_A_11
  rw [View.read_writes_junk_eq_canon, body_c, View.canon_unit_zero hz]
  simp only [View.readAt_eq_ld, harg1.read_unread, harg2.read_unread, harg4.read_unread, harg5.read_unread]
  rw [View.ld_unit_zero hz, View.ld_unit_zero hz]
theorem cover_carried (u : S128x1536.Idx → Elt Ideal .f32) (v : S128x3072.Idx → Elt Ideal .f32) (y : S128x4608.Idx) :
    ∃ p ∈ ([⟨Rect.unit (s := S128x4608) ![0, 3072] S128x1536.size inb_S128x4608_S128x1536_0_3072, u⟩,
      ⟨Rect.unit (s := S128x4608) ![0, 0] S128x3072.size inb_S128x4608_S128x3072_0_0, v⟩] : List (View.Piece (Elt Ideal) S128x4608 .f32)), y ∈ p.1.set := by
  have h0 : (y 0).val < 128 := (y 0).isLt
  have h1 : (y 1).val < 4608 := (y 1).isLt
  by_cases h : (y 1).val < 3072
  · refine ⟨_, List.mem_cons_of_mem _ List.mem_cons_self, ?_⟩
    show y ∈ (Rect.unit (s := S128x4608) ![0, 0] S128x3072.size inb_S128x4608_S128x3072_0_0).set
    refine Rect.mem_set_unit.2 fun a => ?_
    match a with
    | ⟨0, _⟩ => exact ⟨Nat.zero_le _, by show (y 0).val < 0 + 128; omega⟩
    | ⟨1, _⟩ => exact ⟨Nat.zero_le _, by show (y 1).val < 0 + 3072; omega⟩
  · refine ⟨_, List.mem_cons_self, ?_⟩
    show y ∈ (Rect.unit (s := S128x4608) ![0, 3072] S128x1536.size inb_S128x4608_S128x1536_0_3072).set
    refine Rect.mem_set_unit.2 fun a => ?_
    match a with
    | ⟨0, _⟩ => exact ⟨Nat.zero_le _, by show (y 0).val < 0 + 128; omega⟩
    | ⟨1, _⟩ => exact ⟨by show 3072 ≤ (y 1).val; omega, by show (y 1).val < 3072 + 1536; omega⟩

theorem left_carried : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = joined x0 x1 := by
  unfold out0_A_8
  rw [View.read_writes_junk_eq_canon, body_carried]
  simp only [View.readAt_eq_ld, harg1.read_unread, harg2.read_unread]
  rw [View.ld_unit_zero hz]
  funext y
  canon_tiles x h using cover_carried _ _ y
  · unfold joined
    rw [dif_neg (by omega)]
    refine congrArg x1 (funext fun a => Fin.ext ?_)
    match a with
    | ⟨0, _⟩ => exact h0.symm
    | ⟨1, _⟩ => show (x 1).val = (y 1).val - 3072; omega
  · have hx : x = (ix2 (x 0) (x 1) : S128x3072.Idx) := funext fun a => by
      match a with
      | ⟨0, _⟩ => rfl
      | ⟨1, _⟩ => rfl
    refine (congrArg (k0_pay7 (F := Ideal) _) hx).trans ((carried_pay _ (x 0) (x 1)).trans ((tail_at x0 (x 0) (x 1)).trans ?_))
    unfold joined
    rw [dif_pos (by omega)]
    refine congrArg x0 (funext fun a => Fin.ext ?_)
    match a with
    | ⟨0, _⟩ => exact h0.symm
    | ⟨1, _⟩ => show 1536 + (x 1).val = 1536 + (y 1).val; omega
end body

variable (m : (ℓ : Loc nD τ sig) → Buf (Elt Ideal) ℓ) (c : Dev nD) (t : Fin cfg0.N)

abbrev xArg : Vec Ideal S1x128x3x1536 .f32 := m ((c : Thread nD τ).loc main_arg0)
abbrev yArg : Vec Ideal S128x1536 .f32 := m ((c : Thread nD τ).loc main_arg1)
abbrev wArg : Vec Ideal S1x4x1536 .f32 := m ((c : Thread nD τ).loc main_arg3)
abbrev bArg : Vec Ideal S1x1536 .f32 := m ((c : Thread nD τ).loc main_arg4)

theorem state_at (r : Fin 128) (k : Fin 4608) : (show Vec Ideal S128x4608 .f32 from V m c main_v8) (ix2 r k)
    = xArg m c (ix4 0 r ⟨k.val / 1536, by omega⟩ ⟨k.val % 1536, Nat.mod_lt _ (by decide)⟩) := by
  show StableHlo.after hostOps0 (fun b => m (c, b)) (Proc.devRef .tc main_v8) (ix2 r k) = _
  entry_read
  pointwise []
theorem new_at (r : Fin 128) (j : Fin 1536) : (show Vec Ideal S128x1536 .f32 from V m c main_arg1) (ix2 r j) = yArg m c (ix2 r j) := by
  show StableHlo.after hostOps0 (fun b => m (c, b)) (Proc.devRef .tc main_arg1) (ix2 r j) = _
  entry_read
  rfl
theorem taps_at (k : Fin 4) (j : Fin 1536) : (show Vec Ideal S4x1536 .f32 from V m c main_v0) (ix2 k j) = wArg m c (ix3 0 k j) := by
  show StableHlo.after hostOps0 (fun b => m (c, b)) (Proc.devRef .tc main_v0) (ix2 k j) = _
  entry_read
  pointwise []
theorem bias_at (j : Fin 1536) : (show Vec Ideal S1x1536 .f32 from V m c main_v2) (ix2 0 j) = bArg m c (ix2 0 j) := by
  show StableHlo.after hostOps0 (fun b => m (c, b)) (Proc.devRef .tc main_v2) (ix2 0 j) = _
  entry_read
  pointwise []

theorem places : ∀ t : Fin cfg0.N, win0_0.index t = ![0, 0] ∧ win0_1.index t = ![0, 0] ∧ win0_3.index t = ![0, 0] ∧ win0_4.index t = ![0, 0]
    ∧ win0_8.index t = ![0, 0] ∧ win0_9.index t = ![0, 0] ∧ win0_10.index t = ![0, 0] ∧ win0_11.index t = ![0, 0] :=
  (by decide +kernel : ∀ t : Fin grid0.N, _)

theorem state_blk (r : Fin 128) (k : Fin 4608) : (show Vec Ideal S128x4608 .f32 from iblk m c 0 t) (ix2 r k)
    = xArg m c (ix4 0 r ⟨k.val / 1536, by omega⟩ ⟨k.val % 1536, Nat.mod_lt _ (by decide)⟩) := by
  rw [← state_at]
  blk_ext [iblk, places t]
theorem new_blk (r : Fin 128) (j : Fin 1536) : (show Vec Ideal S128x1536 .f32 from iblk m c 1 t) (ix2 r j) = yArg m c (ix2 r j) := by
  rw [← new_at]
  blk_ext [iblk, places t]
theorem taps_blk (k : Fin 4) (j : Fin 1536) : (show Vec Ideal S4x1536 .f32 from iblk m c 3 t) (ix2 k j) = wArg m c (ix3 0 k j) := by
  rw [← taps_at]
  blk_ext [iblk, places t]
theorem bias_blk (j : Fin 1536) : (show Vec Ideal S1x1536 .f32 from iblk m c 4 t) (ix2 0 j) = bArg m c (ix2 0 j) := by
  rw [← bias_at]
  blk_ext [iblk, places t]

theorem place_eq (a b : Fin 128) (w w' : Fin 3) (j j' : Fin 1536) (h : w.val = w'.val) (h' : j.val = j'.val) :
    (ix4 0 a w j : S1x128x3x1536.Idx) = ix4 0 a w' j' := by
  obtain rfl := Fin.ext h
  obtain rfl := Fin.ext h'
  rfl

theorem loads : Loads (xArg m c) (yArg m c) (wArg m c) (bArg m c) (iblk m c 4 t) (tap0 (iblk m c 3 t)) (tap1 (iblk m c 3 t)) (tap2 (iblk m c 3 t))
    (tap3 (iblk m c 3 t)) (row0 (iblk m c 0 t)) (row1 (iblk m c 0 t)) (row2 (iblk m c 0 t)) (iblk m c 1 t) where
  bias := bias_blk m c t
  row0 r j := (row0_at _ r j).trans ((state_blk m c t r _).trans (congrArg (xArg m c) (place_eq r r _ _ _ _ (by show (0 + j.val) / 1536 = 0; omega) (by show (0 + j.val) % 1536 = j.val; omega))))
  row1 r j := (row1_at _ r j).trans ((state_blk m c t r _).trans (congrArg (xArg m c) (place_eq r r _ _ _ _ (by show (1536 + j.val) / 1536 = 1; omega) (by show (1536 + j.val) % 1536 = j.val; omega))))
  row2 r j := (row2_at _ r j).trans ((state_blk m c t r _).trans (congrArg (xArg m c) (place_eq r r _ _ _ _ (by show (3072 + j.val) / 1536 = 2; omega) (by show (3072 + j.val) % 1536 = j.val; omega))))
  row3 := new_blk m c t
  tap0 j := (tap0_at _ j).trans (taps_blk m c t 0 j)
  tap1 j := (tap1_at _ j).trans (taps_blk m c t 1 j)
  tap2 j := (tap2_at _ j).trans (taps_blk m c t 2 j)
  tap3 j := (tap3_at _ j).trans (taps_blk m c t 3 j)

theorem carried_end : (dats m 0 c).arrAt 8 (cfgs 0).N = val_main_v21 (F := Ideal) (xArg m c) (yArg m c) := by
  refine (dats m 0 c).arrAt_eq_of_covers 8 _ (by decide +kernel) fun t _ y => ?_
  blk_simp
  rw [after0_8, outsAt0, left_carried]
  have e : ((cfg0.win 8).blk t).view.emb y = (ix2 (y 0) (y 1) : S128x4608.Idx) := by
    blk_ext [places t]
  rw [e]
  refine Eq.trans ?_ (carried_at (xArg m c) (yArg m c) (y 0) (y 1)).symm
  have hy : (y 1).val < 4608 := (y 1).isLt
  show joined (iblk m c 0 t) (iblk m c 1 t) y = carried (xArg m c) (yArg m c) (y 0) (y 1)
  unfold carried joined
  split
  · refine (state_blk m c t _ _).trans (congrArg (xArg m c) (place_eq (y 0) (y 0) _ _ _ _ ?_ ?_))
    · show (1536 + (y 1).val) / 1536 = 1 + (y 1).val / 1536; omega
    · show (1536 + (y 1).val) % 1536 = (y 1).val % 1536; omega
  · exact new_blk m c t _ _
theorem xs_end : (dats m 0 c).arrAt 9 (cfgs 0).N = val_main_v17 (F := Ideal) (xArg m c) (yArg m c) (wArg m c) (bArg m c) := by
  refine (dats m 0 c).arrAt_eq_of_covers 9 _ (by decide +kernel) fun t _ y => ?_
  blk_simp
  rw [after0_9, outsAt0, left_xs]
  have e : ((cfg0.win 9).blk t).view.emb y = (ix2 (y 0) (y 1) : S128x1024.Idx) := by
    blk_ext [places t]
  have s : y = (ix2 (y 0) (y 1) : S128x1024.Idx) := funext fun a => by
    match a with
    | ⟨0, _⟩ => rfl
    | ⟨1, _⟩ => rfl
  rw [e]
  refine Eq.trans ?_ (xs_at (xArg m c) (yArg m c) (wArg m c) (bArg m c) (y 0) (y 1)).symm
  exact (congrArg (k0_pay8 (F := Ideal) _ _) s).trans ((xs_pay _ _ (y 0) (y 1)).trans ((loads m c t).act_eq (y 0) _))
theorem b_end : (dats m 0 c).arrAt 10 (cfgs 0).N = val_main_v18 (F := Ideal) (xArg m c) (yArg m c) (wArg m c) (bArg m c) := by
  refine (dats m 0 c).arrAt_eq_of_covers 10 _ (by decide +kernel) fun t _ y => ?_
  blk_simp
  rw [after0_10, outsAt0, left_b]
  have e : ((cfg0.win 10).blk t).view.emb y = (ix2 (y 0) (y 1) : S128x256.Idx) := by
    blk_ext [places t]
  have s : y = (ix2 (y 0) (y 1) : S128x256.Idx) := funext fun a => by
    match a with
    | ⟨0, _⟩ => rfl
    | ⟨1, _⟩ => rfl
  rw [e]
  refine Eq.trans ?_ (b_at (xArg m c) (yArg m c) (wArg m c) (bArg m c) (y 0) (y 1)).symm
  exact (congrArg (k0_pay9 (F := Ideal) _ _) s).trans ((b_pay _ _ (y 0) (y 1)).trans ((loads m c t).act_eq (y 0) _))
theorem c_end : (dats m 0 c).arrAt 11 (cfgs 0).N = val_main_v19 (F := Ideal) (xArg m c) (yArg m c) (wArg m c) (bArg m c) := by
  refine (dats m 0 c).arrAt_eq_of_covers 11 _ (by decide +kernel) fun t _ y => ?_
  blk_simp
  rw [after0_11, outsAt0, left_c]
  have e : ((cfg0.win 11).blk t).view.emb y = (ix2 (y 0) (y 1) : S128x256.Idx) := by
    blk_ext [places t]
  have s : y = (ix2 (y 0) (y 1) : S128x256.Idx) := funext fun a => by
    match a with
    | ⟨0, _⟩ => rfl
    | ⟨1, _⟩ => rfl
  rw [e]
  refine Eq.trans ?_ (c_at (xArg m c) (yArg m c) (wArg m c) (bArg m c) (y 0) (y 1)).symm
  exact (congrArg (k0_pay10 (F := Ideal) _ _) s).trans ((c_pay _ _ (y 0) (y 1)).trans ((loads m c t).act_eq (y 0) _))
end Cert.Kernel4Ideal.Conv
-- ==== Proof.lean ====
/- The proof of this directory's claims: the frames and the rewrite of the mask constant, then that the attention kernel and
   the plainly written attention leave the same array, at exact values, for finite queries and keys, and that the projection
   kernel and the plainly written projection leave the same ten arrays, and likewise the output projection's mixed and
   normalised rows, and the four arrays of the sample's convolution step. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Result
public import proofs.«01_k».proof.Proof.Finite
public import proofs.«01_k».proof.Proof.ProjTail
public import proofs.«01_k».proof.Proof.FrontResult
public import proofs.«01_k».proof.Proof.ConvResult
public import Idealize.ShloMosaic.Adequacy
public import Idealize.ShloMosaic.Init

@[expose] public section

noncomputable section

namespace Cert.Proof

open Idealize.ShloMosaic Idealize.SL.Sem

theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

theorem same_result : Cert.algebraic_KernelIdeal_ReferenceIdeal_pre_finite (hKernelIdeal := Cert.KernelIdeal.Gen.facts)
    (hReferenceIdeal := Cert.ReferenceIdeal.Gen.facts) (hPre_finite := Cert.Pre_finite.Moba.facts) := by
  intro m g m' g' hpre hagree
  refine ⟨fun c => Cert.KernelIdeal.Moba.result m c, ?_, ?_⟩
  · refine (θ_run Cert.KernelIdeal.defs _ _).mono (fun r h c => ⟨(h c).1.trans ?_, (h c).2⟩) (Cert.KernelIdeal.Value.run_blocks m g)
    obtain ⟨hq, hk⟩ := @Cert.Pre_finite.Moba.reals Cert.Pre_finite.Moba.facts _ _ _ _ (hpre c)
    exact Cert.KernelIdeal.Moba.final m c hq hk
  · refine (θ_run Cert.ReferenceIdeal.defs _ _).mono (fun r h c => ⟨(h c).1.trans ?_, (h c).2⟩) (Cert.ReferenceIdeal.Value.run m' g')
    obtain ⟨a0, a1, a2, a3⟩ := hagree c
    rw [Cert.ReferenceIdeal.Read.val_main_v78_eq, a0, a1, a2, a3]

theorem frame_reference2 : Cert.quiescent_Reference2Ideal (hReference2Ideal := Cert.Reference2Ideal.Gen.facts) := fun m ρ _ =>
  (θ_run Cert.Reference2Ideal.defs _ _).mono
    (fun r h => ⟨fun c => (h c).2.2.2.2.2.2.2.2.2.2, Idealize.ShloMosaic.sem_eq_zero_of_no_sems (by decide) r.2⟩)
    (Cert.Reference2Ideal.Value.run m ρ)

section Projection
open Cert.Kernel2Ideal Cert.Kernel2Ideal.Gen Cert.Kernel2Ideal.Proj Cert.Reference2Ideal.Read

theorem same_result2 : Cert.algebraic_Kernel2Ideal_Reference2Ideal (hKernel2Ideal := Cert.Kernel2Ideal.Gen.facts)
    (hReference2Ideal := Cert.Reference2Ideal.Gen.facts) := by
  intro m g m' g' _ hagree
  refine ⟨fun c => val_main_v100 (F := Ideal) (xArg m c) (gArg m c) (wArg m c), fun c => val_main_v101 (F := Ideal) (xArg m c) (gArg m c) (wArg m c),
    fun c => val_main_v105 (F := Ideal) (xArg m c) (gArg m c) (wArg m c), fun c => val_main_v107 (F := Ideal) (xArg m c) (gArg m c) (wArg m c),
    fun c => val_main_v109 (F := Ideal) (xArg m c) (gArg m c) (wArg m c), fun c => val_main_v110 (F := Ideal) (xArg m c) (gArg m c) (wArg m c),
    fun c => val_main_v111 (F := Ideal) (xArg m c) (gArg m c) (wArg m c), fun c => val_main_v99 (F := Ideal) (xArg m c) (gArg m c) (wArg m c),
    fun c => val_main_v112 (F := Ideal) (xArg m c) (gArg m c) (wArg m c), fun c => val_main_v113 (F := Ideal) (xArg m c) (gArg m c) (wArg m c), ?_, ?_⟩
  · refine (θ_run Cert.Kernel2Ideal.defs _ _).mono (fun r h c => ?_) (run_main m g)
    exact ⟨keys_left m c r h, values_left m c r h, queries_left m c r h, low_keys_left m c r h, low_values_left m c r h, gate_left m c r h,
      conv_left m c r h, step_left m c r h, step_across_left m c r h, means_left m c r h,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩
  · refine (θ_run Cert.Reference2Ideal.defs _ _).mono (fun r h c => ?_) (Cert.Reference2Ideal.Value.run m' g')
    obtain ⟨a0, a1, a2⟩ := hagree c
    obtain ⟨h0, h1, h2, h3, h4, h5, h6, h7, h8, h9, hargs⟩ := h c
    dsimp only [xArg, gArg, wArg]
    rw [← a0, ← a1, ← a2]
    exact ⟨h0.trans (val_main_v100_eq m' c), h1.trans (val_main_v101_eq _ _ _), h2.trans (val_main_v105_eq m' c), h3.trans (val_main_v107_eq m' c),
      h4.trans (val_main_v109_eq _ _ _), h5.trans (val_main_v110_eq _ _ _), h6.trans (val_main_v111_eq _ _ _), h7.trans (val_main_v99_eq _ _ _),
      h8.trans (val_main_v112_eq _ _ _), h9.trans (val_main_v113_eq m' c), hargs⟩

end Projection

theorem frame_reference3 : Cert.quiescent_Reference3Ideal (hReference3Ideal := Cert.Reference3Ideal.Gen.facts) := fun m ρ _ =>
  (θ_run Cert.Reference3Ideal.defs _ _).mono
    (fun r h => ⟨fun c => (h c).2.2, Idealize.ShloMosaic.sem_eq_zero_of_no_sems (by decide) r.2⟩)
    (Cert.Reference3Ideal.Value.run m ρ)

section Mixing
open Cert.Kernel3Ideal.Front Cert.Reference3Ideal.Read

theorem same_result3 : Cert.algebraic_Kernel3Ideal_Reference3Ideal (hKernel3Ideal := Cert.Kernel3Ideal.Gen.facts)
    (hReference3Ideal := Cert.Reference3Ideal.Gen.facts) := by
  intro m g m' g' _ hagree
  refine ⟨fun c => val_main_v6 (F := Ideal) (xArg m c) (aArg m c) (yArg m c) (wArg m c),
    fun c => val_main_v21 (F := Ideal) (xArg m c) (aArg m c) (yArg m c) (wArg m c) (gArg m c), ?_, ?_⟩
  · refine (θ_run Cert.Kernel3Ideal.defs _ _).mono (fun r h c => ?_) (Cert.Kernel3Ideal.Value.run_blocks m g)
    obtain ⟨h0, h1, _, _, _, _, hargs⟩ := h c
    exact ⟨h0.trans (mixed_end m c), h1.trans (normed_end m c), hargs⟩
  · refine (θ_run Cert.Reference3Ideal.defs _ _).mono (fun r h c => ?_) (Cert.Reference3Ideal.Value.run m' g')
    obtain ⟨a0, a1, a2, a3, a4, _, _⟩ := hagree c
    obtain ⟨h0, h1, hargs⟩ := h c
    dsimp only [xArg, aArg, yArg, wArg, gArg]
    rw [← a0, ← a1, ← a2, ← a3, ← a4]
    exact ⟨h0.trans (val_main_v6_eq _ _ _ _), h1.trans (val_main_v21_eq _ _ _ _ _), hargs⟩

end Mixing

theorem frame_reference4 : Cert.quiescent_Reference4Ideal (hReference4Ideal := Cert.Reference4Ideal.Gen.facts) := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run m ρ)

section Convolution
open Cert.Kernel4Ideal.Conv Cert.Reference4Ideal.Read

theorem same_result4 : Cert.algebraic_Kernel4Ideal_Reference4Ideal (hKernel4Ideal := Cert.Kernel4Ideal.Gen.facts)
    (hReference4Ideal := Cert.Reference4Ideal.Gen.facts) := by
  intro m g m' g' _ hagree
  refine ⟨fun c => val_main_v21 (F := Ideal) (xArg m c) (yArg m c), fun c => val_main_v17 (F := Ideal) (xArg m c) (yArg m c) (wArg m c) (bArg m c),
    fun c => val_main_v18 (F := Ideal) (xArg m c) (yArg m c) (wArg m c) (bArg m c),
    fun c => val_main_v19 (F := Ideal) (xArg m c) (yArg m c) (wArg m c) (bArg m c), ?_, ?_⟩
  · refine (θ_run Cert.Kernel4Ideal.defs _ _).mono (fun r h c => ?_) (Cert.Kernel4Ideal.Value.run_blocks m g)
    obtain ⟨h0, h1, h2, h3, _, _, hargs⟩ := h c
    exact ⟨h0.trans (carried_end m c), h1.trans (xs_end m c), h2.trans (b_end m c), h3.trans (c_end m c), hargs⟩
  · refine (θ_run Cert.Reference4Ideal.defs _ _).mono (fun r h c => ?_) (Cert.Reference4Ideal.Value.run m' g')
    obtain ⟨a0, a1, _, a3, a4, _, _⟩ := hagree c
    obtain ⟨h0, h1, h2, h3, hargs⟩ := h c
    dsimp only [xArg, yArg, wArg, bArg]
    rw [← a0, ← a1, ← a3, ← a4]
    exact ⟨h0.trans (val_main_v21_eq _ _), h1.trans (val_main_v17_eq _ _ _ _), h2.trans (val_main_v18_eq _ _ _ _), h3.trans (val_main_v19_eq _ _ _ _), hargs⟩

end Convolution

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Moba.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    IdealRules.named_const.statement Cert.KernelIdeal.κ "mask" .f32 0xF149F2CA#32 ⊥ rfl, same_result, trivial, same_result2,
    trivial, same_result3, trivial, same_result4⟩

end Cert.Proof

end
